-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_u [hPre_finite_u : Cert.Pre_finite_u.Facts] (m : (ℓ : Loc Cert.PoolIdeal.nD Cert.PoolIdeal.τ Cert.PoolIdeal.sig) → Buf (Elt Ideal) ℓ) : Prop :=
  ∀ c : Dev Cert.PoolIdeal.nD,
    (Cert.Pre_finite_u.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_u [hPre_finite_u : Cert.Pre_finite_u.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_u.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1))) = (fun _ => 1#1)

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ r.2.sem = fun _ => 0)

def quiescent_PoolIdeal_pre_finite_u [hPoolIdeal : Cert.PoolIdeal.Facts] [hPre_finite_u : Cert.Pre_finite_u.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_u m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1))
      ∧ r.2.sem = fun _ => 0)

def quiescent_PoolRefIdeal_pre_finite_u [hPoolRefIdeal : Cert.PoolRefIdeal.Facts] [hPre_finite_u : Cert.Pre_finite_u.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_u m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v87) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v152_0)) (v1 : (c : Dev Cert.ProjIdeal.nD) → Buf (Elt Ideal) ((c.tc : Thread Cert.ProjIdeal.nD Cert.ProjIdeal.τ).loc Cert.ProjIdeal.main_v152_1)) (v2 : (c : Dev Cert.ProjIdeal.nD) → Buf (Elt Ideal) ((c.tc : Thread Cert.ProjIdeal.nD Cert.ProjIdeal.τ).loc Cert.ProjIdeal.main_v152_2)) (v3 : (c : Dev Cert.ProjIdeal.nD) → Buf (Elt Ideal) ((c.tc : Thread Cert.ProjIdeal.nD Cert.ProjIdeal.τ).loc Cert.ProjIdeal.main_v152_3)) (v4 : (c : Dev Cert.ProjIdeal.nD) → Buf (Elt Ideal) ((c.tc : Thread Cert.ProjIdeal.nD Cert.ProjIdeal.τ).loc Cert.ProjIdeal.main_v152_4)) (v5 : (c : Dev Cert.ProjIdeal.nD) → Buf (Elt Ideal) ((c.tc : Thread Cert.ProjIdeal.nD Cert.ProjIdeal.τ).loc Cert.ProjIdeal.main_v152_5)) (v6 : (c : Dev Cert.ProjIdeal.nD) → Buf (Elt Ideal) ((c.tc : Thread Cert.ProjIdeal.nD Cert.ProjIdeal.τ).loc Cert.ProjIdeal.main_v152_6)) (v7 : (c : Dev Cert.ProjIdeal.nD) → Buf (Elt Ideal) ((c.tc : Thread Cert.ProjIdeal.nD Cert.ProjIdeal.τ).loc Cert.ProjIdeal.main_v152_7)) (v8 : (c : Dev Cert.ProjIdeal.nD) → Buf (Elt Ideal) ((c.tc : Thread Cert.ProjIdeal.nD Cert.ProjIdeal.τ).loc Cert.ProjIdeal.main_v152_8)) (v9 : (c : Dev Cert.ProjIdeal.nD) → Buf (Elt Ideal) ((c.tc : Thread Cert.ProjIdeal.nD Cert.ProjIdeal.τ).loc Cert.ProjIdeal.main_v152_9)) (v10 : (c : Dev Cert.ProjIdeal.nD) → Buf (Elt Ideal) ((c.tc : Thread Cert.ProjIdeal.nD Cert.ProjIdeal.τ).loc Cert.ProjIdeal.main_v152_10)) (v11 : (c : Dev Cert.ProjIdeal.nD) → Buf (Elt Ideal) ((c.tc : Thread Cert.ProjIdeal.nD Cert.ProjIdeal.τ).loc Cert.ProjIdeal.main_v152_11)) (v12 : (c : Dev Cert.ProjIdeal.nD) → Buf (Elt Ideal) ((c.tc : Thread Cert.ProjIdeal.nD Cert.ProjIdeal.τ).loc Cert.ProjIdeal.main_v152_12)) (v13 : (c : Dev Cert.ProjIdeal.nD) → Buf (Elt Ideal) ((c.tc : Thread Cert.ProjIdeal.nD Cert.ProjIdeal.τ).loc Cert.ProjIdeal.main_v152_13)) (v14 : (c : Dev Cert.ProjIdeal.nD) → Buf (Elt Ideal) ((c.tc : Thread Cert.ProjIdeal.nD Cert.ProjIdeal.τ).loc Cert.ProjIdeal.main_v152_14)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v152_0) = v0 c
          ∧ r.2.mem ((c.tc : Thread Cert.ProjIdeal.nD Cert.ProjIdeal.τ).loc Cert.ProjIdeal.main_v152_1) = v1 c
          ∧ r.2.mem ((c.tc : Thread Cert.ProjIdeal.nD Cert.ProjIdeal.τ).loc Cert.ProjIdeal.main_v152_2) = v2 c
          ∧ r.2.mem ((c.tc : Thread Cert.ProjIdeal.nD Cert.ProjIdeal.τ).loc Cert.ProjIdeal.main_v152_3) = v3 c
          ∧ r.2.mem ((c.tc : Thread Cert.ProjIdeal.nD Cert.ProjIdeal.τ).loc Cert.ProjIdeal.main_v152_4) = v4 c
          ∧ r.2.mem ((c.tc : Thread Cert.ProjIdeal.nD Cert.ProjIdeal.τ).loc Cert.ProjIdeal.main_v152_5) = v5 c
          ∧ r.2.mem ((c.tc : Thread Cert.ProjIdeal.nD Cert.ProjIdeal.τ).loc Cert.ProjIdeal.main_v152_6) = v6 c
          ∧ r.2.mem ((c.tc : Thread Cert.ProjIdeal.nD Cert.ProjIdeal.τ).loc Cert.ProjIdeal.main_v152_7) = v7 c
          ∧ r.2.mem ((c.tc : Thread Cert.ProjIdeal.nD Cert.ProjIdeal.τ).loc Cert.ProjIdeal.main_v152_8) = v8 c
          ∧ r.2.mem ((c.tc : Thread Cert.ProjIdeal.nD Cert.ProjIdeal.τ).loc Cert.ProjIdeal.main_v152_9) = v9 c
          ∧ r.2.mem ((c.tc : Thread Cert.ProjIdeal.nD Cert.ProjIdeal.τ).loc Cert.ProjIdeal.main_v152_10) = v10 c
          ∧ r.2.mem ((c.tc : Thread Cert.ProjIdeal.nD Cert.ProjIdeal.τ).loc Cert.ProjIdeal.main_v152_11) = v11 c
          ∧ r.2.mem ((c.tc : Thread Cert.ProjIdeal.nD Cert.ProjIdeal.τ).loc Cert.ProjIdeal.main_v152_12) = v12 c
          ∧ r.2.mem ((c.tc : Thread Cert.ProjIdeal.nD Cert.ProjIdeal.τ).loc Cert.ProjIdeal.main_v152_13) = v13 c
          ∧ r.2.mem ((c.tc : Thread Cert.ProjIdeal.nD Cert.ProjIdeal.τ).loc Cert.ProjIdeal.main_v152_14) = v14 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v190) = v0 c
          ∧ r.2.mem ((c.tc : Thread Cert.ProjRefIdeal.nD Cert.ProjRefIdeal.τ).loc Cert.ProjRefIdeal.main_v195) = v1 c
          ∧ r.2.mem ((c.tc : Thread Cert.ProjRefIdeal.nD Cert.ProjRefIdeal.τ).loc Cert.ProjRefIdeal.main_v198) = v2 c
          ∧ r.2.mem ((c.tc : Thread Cert.ProjRefIdeal.nD Cert.ProjRefIdeal.τ).loc Cert.ProjRefIdeal.main_v200) = v3 c
          ∧ r.2.mem ((c.tc : Thread Cert.ProjRefIdeal.nD Cert.ProjRefIdeal.τ).loc Cert.ProjRefIdeal.main_v207) = v4 c
          ∧ r.2.mem ((c.tc : Thread Cert.ProjRefIdeal.nD Cert.ProjRefIdeal.τ).loc Cert.ProjRefIdeal.main_v211) = v5 c
          ∧ r.2.mem ((c.tc : Thread Cert.ProjRefIdeal.nD Cert.ProjRefIdeal.τ).loc Cert.ProjRefIdeal.main_v215) = v6 c
          ∧ r.2.mem ((c.tc : Thread Cert.ProjRefIdeal.nD Cert.ProjRefIdeal.τ).loc Cert.ProjRefIdeal.main_v216) = v7 c
          ∧ r.2.mem ((c.tc : Thread Cert.ProjRefIdeal.nD Cert.ProjRefIdeal.τ).loc Cert.ProjRefIdeal.main_v217) = v8 c
          ∧ r.2.mem ((c.tc : Thread Cert.ProjRefIdeal.nD Cert.ProjRefIdeal.τ).loc Cert.ProjRefIdeal.main_v222) = v9 c
          ∧ r.2.mem ((c.tc : Thread Cert.ProjRefIdeal.nD Cert.ProjRefIdeal.τ).loc Cert.ProjRefIdeal.main_v225) = v10 c
          ∧ r.2.mem ((c.tc : Thread Cert.ProjRefIdeal.nD Cert.ProjRefIdeal.τ).loc Cert.ProjRefIdeal.main_v230) = v11 c
          ∧ r.2.mem ((c.tc : Thread Cert.ProjRefIdeal.nD Cert.ProjRefIdeal.τ).loc Cert.ProjRefIdeal.main_v233) = v12 c
          ∧ r.2.mem ((c.tc : Thread Cert.ProjRefIdeal.nD Cert.ProjRefIdeal.τ).loc Cert.ProjRefIdeal.main_v234) = v13 c
          ∧ r.2.mem ((c.tc : Thread Cert.ProjRefIdeal.nD Cert.ProjRefIdeal.τ).loc Cert.ProjRefIdeal.main_v235) = v14 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Pool_PoolIdeal : Prop :=
  True

def algebraic_PoolIdeal_PoolRefIdeal_pre_finite_u [hPoolIdeal : Cert.PoolIdeal.Facts] [hPoolRefIdeal : Cert.PoolRefIdeal.Facts] [hPre_finite_u : Cert.Pre_finite_u.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_u m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)) →
    ∃ (v0 : (c : Dev Cert.PoolIdeal.nD) → Buf (Elt Ideal) ((c.tc : Thread Cert.PoolIdeal.nD Cert.PoolIdeal.τ).loc Cert.PoolIdeal.main_v27)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v27) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v64) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1))

def preserves_Cmp_CmpIdeal : Prop :=
  True

def algebraic_CmpIdeal_CmpRefIdeal [hCmpIdeal : Cert.CmpIdeal.Facts] [hCmpRefIdeal : Cert.CmpRefIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)
      ∧ m' ((c.tc : Thread Cert.CmpRefIdeal.nD Cert.CmpRefIdeal.τ).loc Cert.CmpRefIdeal.main_arg5) = m ((c.tc : Thread Cert.CmpIdeal.nD Cert.CmpIdeal.τ).loc Cert.CmpIdeal.main_arg5)) →
    ∃ (v0 : (c : Dev Cert.CmpIdeal.nD) → Buf (Elt Ideal) ((c.tc : Thread Cert.CmpIdeal.nD Cert.CmpIdeal.τ).loc Cert.CmpIdeal.main_v33_0)) (v1 : (c : Dev Cert.CmpIdeal.nD) → Buf (Elt Ideal) ((c.tc : Thread Cert.CmpIdeal.nD Cert.CmpIdeal.τ).loc Cert.CmpIdeal.main_v33_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v33_0) = v0 c
          ∧ r.2.mem ((c.tc : Thread Cert.CmpIdeal.nD Cert.CmpIdeal.τ).loc Cert.CmpIdeal.main_v33_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
          ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v24) = v0 c
          ∧ r.2.mem ((c.tc : Thread Cert.CmpRefIdeal.nD Cert.CmpRefIdeal.τ).loc Cert.CmpRefIdeal.main_v27) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4)
          ∧ r.2.mem ((c.tc : Thread Cert.CmpRefIdeal.nD Cert.CmpRefIdeal.τ).loc Cert.CmpRefIdeal.main_arg5) = m' ((c.tc : Thread Cert.CmpRefIdeal.nD Cert.CmpRefIdeal.τ).loc Cert.CmpRefIdeal.main_arg5))

def Claim : Prop :=
  ∃ (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hPool : Cert.Pool.Facts) (hPoolIdeal : Cert.PoolIdeal.Facts) (hPoolRefIdeal : Cert.PoolRefIdeal.Facts) (hCmp : Cert.Cmp.Facts) (hCmpIdeal : Cert.CmpIdeal.Facts) (hCmpRefIdeal : Cert.CmpRefIdeal.Facts) (hPre_finite_u : Cert.Pre_finite_u.Facts),
    quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_Pool (hPool := hPool)
    ∧ quiescent_PoolIdeal (hPoolIdeal := hPoolIdeal)
    ∧ quiescent_PoolIdeal_pre_finite_u (hPoolIdeal := hPoolIdeal) (hPre_finite_u := hPre_finite_u)
    ∧ quiescent_PoolRefIdeal (hPoolRefIdeal := hPoolRefIdeal)
    ∧ quiescent_PoolRefIdeal_pre_finite_u (hPoolRefIdeal := hPoolRefIdeal) (hPre_finite_u := hPre_finite_u)
    ∧ quiescent_Cmp (hCmp := hCmp)
    ∧ quiescent_CmpIdeal (hCmpIdeal := hCmpIdeal)
    ∧ quiescent_CmpRefIdeal (hCmpRefIdeal := hCmpRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_Pool_PoolIdeal
    ∧ algebraic_PoolIdeal_PoolRefIdeal_pre_finite_u (hPoolIdeal := hPoolIdeal) (hPoolRefIdeal := hPoolRefIdeal) (hPre_finite_u := hPre_finite_u)
    ∧ preserves_Cmp_CmpIdeal
    ∧ algebraic_CmpIdeal_CmpRefIdeal (hCmpIdeal := hCmpIdeal) (hCmpRefIdeal := hCmpRefIdeal)
-- ==== Pre_finite_u.lean ====
abbrev S32x2048x256 : Shape := ⟨3, ![32, 2048, 256]⟩
abbrev S4x64x64 : Shape := ⟨3, ![4, 64, 64]⟩
abbrev S_ : Shape := ⟨0, ![]⟩

class Facts : Prop where
  bcast_S_S32x2048x256 : S_.BroadcastsInDim S32x2048x256 (![] : Fin 0 → Fin S32x2048x256.rank)

variable [Facts]

def fn {F : FTy → Type} [FloatOps F] (main_arg0 : FVec F S32x2048x256 .f32) (main_arg1 : FVec F S4x64x64 .f32) : IVec S32x2048x256 1 :=
  let main_v0 : FVec F S32x2048x256 .f32 := Host.absf main_arg0
  let main_cst : FVec F S_ .f32 := constant S_ .f32 0x7F800000#32
  let main_v1 : FVec F S32x2048x256 .f32 := broadcastInDim S32x2048x256 ![] bcast_S_S32x2048x256 main_cst
  let main_v2 : IVec S32x2048x256 1 := cmpf .olt main_v0 main_v1
  main_v2
-- ==== Merge.lean ====
abbrev S32x2048x1024 : Shape := ⟨3, ![32, 2048, 1024]⟩
abbrev S32x2048x256 : Shape := ⟨3, ![32, 2048, 256]⟩
abbrev S32x2048x512 : Shape := ⟨3, ![32, 2048, 512]⟩
abbrev S256 : Shape := ⟨1, ![256]⟩
abbrev S512 : Shape := ⟨1, ![512]⟩
abbrev S4x64 : Shape := ⟨2, ![4, 64]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S65536x1024 : Shape := ⟨2, ![65536, 1024]⟩
abbrev S65536x256 : Shape := ⟨2, ![65536, 256]⟩
abbrev S65536x512 : Shape := ⟨2, ![65536, 512]⟩
abbrev S1x256 : Shape := ⟨2, ![1, 256]⟩
abbrev S1x512 : Shape := ⟨2, ![1, 512]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S512x1 : Shape := ⟨2, ![512, 1]⟩
abbrev S512x4096 : Shape := ⟨2, ![512, 4096]⟩

abbrev nBuf : Space → Nat
  | .hbm => 27
  | .vmem => 19
  | .smem => 0
  | _ => 0

abbrev bufTy : (tb : Table) → Fin (tcTables nBuf tb) → BufTy
  | .hbm, ⟨0, _⟩ => ⟨S32x2048x1024, .f32⟩
  | .hbm, ⟨1, _⟩ => ⟨S32x2048x256, .f32⟩
  | .hbm, ⟨2, _⟩ => ⟨S32x2048x512, .f32⟩
  | .hbm, ⟨3, _⟩ => ⟨S32x2048x256, .f32⟩
  | .hbm, ⟨4, _⟩ => ⟨S256, .f32⟩
  | .hbm, ⟨5, _⟩ => ⟨S512, .f32⟩
  | .hbm, ⟨6, _⟩ => ⟨S4x64, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S65536x1024, .f32⟩
  | .hbm, ⟨14, _⟩ => ⟨S65536x256, .f32⟩
  | .hbm, ⟨15, _⟩ => ⟨S65536x512, .f32⟩
  | .hbm, ⟨16, _⟩ => ⟨S65536x256, .f32⟩
  | .hbm, ⟨17, _⟩ => ⟨S1x256, .f32⟩
  | .hbm, ⟨18, _⟩ => ⟨S1x512, .f32⟩
  | .hbm, ⟨19, _⟩ => ⟨S1x256, .f32⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S1024x4096, .bf16⟩
  | .hbm, ⟨24, _⟩ => ⟨S4096x1024, .bf16⟩
  | .hbm, ⟨25, _⟩ => ⟨S1x1024, .f32⟩
  | .hbm, ⟨26, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S1x512, .f32⟩
  | .local _ .vmem, ⟨10, _⟩ => ⟨S1x256, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x4096, .bf16⟩
  | .local _ .vmem, ⟨15, _⟩ => ⟨S4096x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S32x2048x1024 : Shape := ⟨3, ![32, 2048, 1024]⟩
abbrev S32x2048x256 : Shape := ⟨3, ![32, 2048, 256]⟩
abbrev S32x2048x512 : Shape := ⟨3, ![32, 2048, 512]⟩
abbrev S256 : Shape := ⟨1, ![256]⟩
abbrev S512 : Shape := ⟨1, ![512]⟩
abbrev S4x64 : Shape := ⟨2, ![4, 64]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32x2048 : Shape := ⟨2, ![32, 2048]⟩
abbrev S32x2048x1 : Shape := ⟨3, ![32, 2048, 1]⟩
abbrev S1x1x256 : Shape := ⟨3, ![1, 1, 256]⟩
abbrev S1x1x512 : Shape := ⟨3, ![1, 1, 512]⟩
abbrev S1x1x1024 : Shape := ⟨3, ![1, 1, 1024]⟩
abbrev S32x2048x4096 : Shape := ⟨3, ![32, 2048, 4096]⟩
abbrev S65536x1024 : Shape := ⟨2, ![65536, 1024]⟩

abbrev nBuf : Space → Nat
  | .hbm => 121
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x256, .f32⟩
  | .hbm, ⟨2, _⟩ => ⟨S32x2048x512, .f32⟩
  | .hbm, ⟨3, _⟩ => ⟨S32x2048x256, .f32⟩
  | .hbm, ⟨4, _⟩ => ⟨S256, .f32⟩
  | .hbm, ⟨5, _⟩ => ⟨S512, .f32⟩
  | .hbm, ⟨6, _⟩ => ⟨S4x64, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S32x2048x256, .f32⟩
  | .hbm, ⟨14, _⟩ => ⟨S_, .f32⟩
  | .hbm, ⟨15, _⟩ => ⟨S32x2048, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S_, .f32⟩
  | .hbm, ⟨21, _⟩ => ⟨S32x2048x1, .f32⟩
  | .hbm, ⟨22, _⟩ => ⟨S32x2048x1, .f32⟩
  | .hbm, ⟨23, _⟩ => ⟨S32x2048x1, .f32⟩
  | .hbm, ⟨24, _⟩ => ⟨S32x2048x256, .f32⟩
  | .hbm, ⟨25, _⟩ => ⟨S32x2048x256, .f32⟩
  | .hbm, ⟨26, _⟩ => ⟨S1x1x256, .f32⟩
  | .hbm, ⟨27, _⟩ => ⟨S32x2048x256, .f32⟩
  | .hbm, ⟨28, _⟩ => ⟨S32x2048x256, .f32⟩
  | .hbm, ⟨29, _⟩ => ⟨S32x2048x512, .f32⟩
  | .hbm, ⟨30, _⟩ => ⟨S_, .f32⟩
  | .hbm, ⟨31, _⟩ => ⟨S32x2048, .f32⟩
  | .hbm, ⟨32, _⟩ => ⟨S32x2048x1, .f32⟩
  | .hbm, ⟨33, _⟩ => ⟨S_, .f32⟩
  | .hbm, ⟨34, _⟩ => ⟨S32x2048x1, .f32⟩
  | .hbm, ⟨35, _⟩ => ⟨S32x2048x1, .f32⟩
  | .hbm, ⟨36, _⟩ => ⟨S_, .f32⟩
  | .hbm, ⟨37, _⟩ => ⟨S32x2048x1, .f32⟩
  | .hbm, ⟨38, _⟩ => ⟨S32x2048x1, .f32⟩
  | .hbm, ⟨39, _⟩ => ⟨S32x2048x1, .f32⟩
  | .hbm, ⟨40, _⟩ => ⟨S32x2048x512, .f32⟩
  | .hbm, ⟨41, _⟩ => ⟨S32x2048x512, .f32⟩
  | .hbm, ⟨42, _⟩ => ⟨S1x1x512, .f32⟩
  | .hbm, ⟨43, _⟩ => ⟨S32x2048x512, .f32⟩
  | .hbm, ⟨44, _⟩ => ⟨S32x2048x512, .f32⟩
  | .hbm, ⟨45, _⟩ => ⟨S32x2048x256, .f32⟩
  | .hbm, ⟨46, _⟩ => ⟨S_, .f32⟩
  | .hbm, ⟨47, _⟩ => ⟨S32x2048, .f32⟩
  | .hbm, ⟨48, _⟩ => ⟨S32x2048x1, .f32⟩
  | .hbm, ⟨49, _⟩ => ⟨S_, .f32⟩
  | .hbm, ⟨50, _⟩ => ⟨S32x2048x1, .f32⟩
  | .hbm, ⟨51, _⟩ => ⟨S32x2048x1, .f32⟩
  | .hbm, ⟨52, _⟩ => ⟨S_, .f32⟩
  | .hbm, ⟨53, _⟩ => ⟨S32x2048x1, .f32⟩
  | .hbm, ⟨54, _⟩ => ⟨S32x2048x1, .f32⟩
  | .hbm, ⟨55, _⟩ => ⟨S32x2048x1, .f32⟩
  | .hbm, ⟨56, _⟩ => ⟨S32x2048x256, .f32⟩
  | .hbm, ⟨57, _⟩ => ⟨S32x2048x256, .f32⟩
  | .hbm, ⟨58, _⟩ => ⟨S256, .f32⟩
  | .hbm, ⟨59, _⟩ => ⟨S1x1x256, .f32⟩
  | .hbm, ⟨60, _⟩ => ⟨S32x2048x256, .f32⟩
  | .hbm, ⟨61, _⟩ => ⟨S32x2048x256, .f32⟩
  | .hbm, ⟨62, _⟩ => ⟨S32x2048x1024, .f32⟩
  | .hbm, ⟨63, _⟩ => ⟨S32x2048x1024, .f32⟩
  | .hbm, ⟨64, _⟩ => ⟨S32x2048x1024, .f32⟩
  | .hbm, ⟨65, _⟩ => ⟨S_, .f32⟩
  | .hbm, ⟨66, _⟩ => ⟨S32x2048, .f32⟩
  | .hbm, ⟨67, _⟩ => ⟨S32x2048x1, .f32⟩
  | .hbm, ⟨68, _⟩ => ⟨S_, .f32⟩
  | .hbm, ⟨69, _⟩ => ⟨S32x2048x1, .f32⟩
  | .hbm, ⟨70, _⟩ => ⟨S32x2048x1, .f32⟩
  | .hbm, ⟨71, _⟩ => ⟨S_, .f32⟩
  | .hbm, ⟨72, _⟩ => ⟨S32x2048x1, .f32⟩
  | .hbm, ⟨73, _⟩ => ⟨S32x2048x1, .f32⟩
  | .hbm, ⟨74, _⟩ => ⟨S32x2048x1, .f32⟩
  | .hbm, ⟨75, _⟩ => ⟨S32x2048x1024, .f32⟩
  | .hbm, ⟨76, _⟩ => ⟨S32x2048x1024, .f32⟩
  | .hbm, ⟨77, _⟩ => ⟨S1x1x1024, .f32⟩
  | .hbm, ⟨78, _⟩ => ⟨S32x2048x1024, .f32⟩
  | .hbm, ⟨79, _⟩ => ⟨S32x2048x1024, .f32⟩
  | .hbm, ⟨80, _⟩ => ⟨S32x2048x1024, .f32⟩
  | .hbm, ⟨81, _⟩ => ⟨S32x2048x1024, .f32⟩
  | .hbm, ⟨82, _⟩ => ⟨S_, .f32⟩
  | .hbm, ⟨83, _⟩ => ⟨S32x2048, .f32⟩
  | .hbm, ⟨84, _⟩ => ⟨S32x2048x1, .f32⟩
  | .hbm, ⟨85, _⟩ => ⟨S_, .f32⟩
  | .hbm, ⟨86, _⟩ => ⟨S32x2048x1, .f32⟩
  | .hbm, ⟨87, _⟩ => ⟨S32x2048x1, .f32⟩
  | .hbm, ⟨88, _⟩ => ⟨S_, .f32⟩
  | .hbm, ⟨89, _⟩ => ⟨S32x2048x1, .f32⟩
  | .hbm, ⟨90, _⟩ => ⟨S32x2048x1, .f32⟩
  | .hbm, ⟨91, _⟩ => ⟨S32x2048x1, .f32⟩
  | .hbm, ⟨92, _⟩ => ⟨S32x2048x1024, .f32⟩
  | .hbm, ⟨93, _⟩ => ⟨S32x2048x1024, .f32⟩
  | .hbm, ⟨94, _⟩ => ⟨S1x1x1024, .f32⟩
  | .hbm, ⟨95, _⟩ => ⟨S32x2048x1024, .f32⟩
  | .hbm, ⟨96, _⟩ => ⟨S32x2048x1024, .f32⟩
  | .hbm, ⟨97, _⟩ => ⟨S32x2048x4096, .f32⟩
  | .hbm, ⟨98, _⟩ => ⟨S_, .f32⟩
  | .hbm, ⟨99, _⟩ => ⟨S32x2048x4096, .f32⟩
  | .hbm, ⟨100, _⟩ => ⟨S32x2048x4096, .f32⟩
  | .hbm, ⟨101, _⟩ => ⟨S32x2048x4096, .f32⟩
  | .hbm, ⟨102, _⟩ => ⟨S32x2048x1024, .f32⟩
  | .hbm, ⟨103, _⟩ => ⟨S32x2048x1024, .f32⟩
  | .hbm, ⟨104, _⟩ => ⟨S_, .f32⟩
  | .hbm, ⟨105, _⟩ => ⟨S32x2048, .f32⟩
  | .hbm, ⟨106, _⟩ => ⟨S32x2048x1, .f32⟩
  | .hbm, ⟨107, _⟩ => ⟨S_, .f32⟩
  | .hbm, ⟨108, _⟩ => ⟨S32x2048x1, .f32⟩
  | .hbm, ⟨109, _⟩ => ⟨S32x2048x1, .f32⟩
  | .hbm, ⟨110, _⟩ => ⟨S_, .f32⟩
  | .hbm, ⟨111, _⟩ => ⟨S32x2048x1, .f32⟩
  | .hbm, ⟨112, _⟩ => ⟨S32x2048x1, .f32⟩
  | .hbm, ⟨113, _⟩ => ⟨S32x2048x1, .f32⟩
  | .hbm, ⟨114, _⟩ => ⟨S32x2048x1024, .f32⟩
  | .hbm, ⟨115, _⟩ => ⟨S32x2048x1024, .f32⟩
  | .hbm, ⟨116, _⟩ => ⟨S1x1x1024, .f32⟩
  | .hbm, ⟨117, _⟩ => ⟨S32x2048x1024, .f32⟩
  | .hbm, ⟨118, _⟩ => ⟨S32x2048x1024, .f32⟩
  | .hbm, ⟨119, _⟩ => ⟨S32x2048x1024, .f32⟩
  | .hbm, ⟨120, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call0_cst : Ref sig .tc := ⟨.hbm, 98, rfl⟩
abbrev main_call0_v0 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_14 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩

abbrev nD : Nat := 1
abbrev τ : Topo := Topo.v7x

variable {F : FTy → Type} [FloatOps F]
-- ==== Proj.lean ====
abbrev S32x2048x1024 : Shape := ⟨3, ![32, 2048, 1024]⟩
abbrev S32x2048 : Shape := ⟨2, ![32, 2048]⟩
abbrev S1024x2108 : Shape := ⟨2, ![1024, 2108]⟩
abbrev S128 : Shape := ⟨1, ![128]⟩
abbrev S128x128 : Shape := ⟨2, ![128, 128]⟩
abbrev S1024 : Shape := ⟨1, ![1024]⟩
abbrev S8 : Shape := ⟨1, ![8]⟩
abbrev S_ : Shape := ⟨0, ![]⟩
abbrev S65536x1 : Shape := ⟨2, ![65536, 1]⟩
abbrev S1x8 : Shape := ⟨2, ![1, 8]⟩
abbrev S65536x8 : Shape := ⟨2, ![65536, 8]⟩
abbrev S65536x17 : Shape := ⟨2, ![65536, 17]⟩
abbrev S1x128 : Shape := ⟨2, ![1, 128]⟩
abbrev S8x1 : Shape := ⟨2, ![8, 1]⟩
abbrev S8x128 : Shape := ⟨2, ![8, 128]⟩
abbrev S17x128 : Shape := ⟨2, ![17, 128]⟩
abbrev S17x384 : Shape := ⟨2, ![17, 384]⟩
abbrev S65536x17x1 : Shape := ⟨3, ![65536, 17, 1]⟩
abbrev S1x17x384 : Shape := ⟨3, ![1, 17, 384]⟩
abbrev S65536x17x384 : Shape := ⟨3, ![65536, 17, 384]⟩
abbrev S65536x384 : Shape := ⟨2, ![65536, 384]⟩
abbrev S4 : Shape := ⟨1, ![4]⟩
abbrev S1x4 : Shape := ⟨2, ![1, 4]⟩
abbrev S65536x4 : Shape := ⟨2, ![65536, 4]⟩
abbrev S65536x9 : Shape := ⟨2, ![65536, 9]⟩
abbrev S4x1 : Shape := ⟨2, ![4, 1]⟩
abbrev S4x128 : Shape := ⟨2, ![4, 128]⟩
abbrev S9x128 : Shape := ⟨2, ![9, 128]⟩
abbrev S9x384 : Shape := ⟨2, ![9, 384]⟩
abbrev S65536x9x1 : Shape := ⟨3, ![65536, 9, 1]⟩
abbrev S1x9x384 : Shape := ⟨3, ![1, 9, 384]⟩
abbrev S65536x9x384 : Shape := ⟨3, ![65536, 9, 384]⟩
abbrev S128x64 : Shape := ⟨2, ![128, 64]⟩
abbrev S128x1x1x64 : Shape := ⟨4, ![128, 1, 1, 64]⟩
abbrev S128x1x2x64 : Shape := ⟨4, ![128, 1, 2, 64]⟩
abbrev S128x256 : Shape := ⟨2, ![128, 256]⟩
abbrev S65536x1024 : Shape := ⟨2, ![65536, 1024]⟩
abbrev S1x1024 : Shape := ⟨2, ![1, 1024]⟩
abbrev S1024x256 : Shape := ⟨2, ![1024, 256]⟩
abbrev S1024x128 : Shape := ⟨2, ![1024, 128]⟩
abbrev S1024x32 : Shape := ⟨2, ![1024, 32]⟩
abbrev S1024x4 : Shape := ⟨2, ![1024, 4]⟩
abbrev S1024x512 : Shape := ⟨2, ![1024, 512]⟩
abbrev S1024x24 : Shape := ⟨2, ![1024, 24]⟩
abbrev S1024x100 : Shape := ⟨2, ![1024, 100]⟩
abbrev S1x1024x1x32 : Shape := ⟨4, ![1, 1024, 1, 32]⟩
abbrev S1x1024x4x32 : Shape := ⟨4, ![1, 1024, 4, 32]⟩
abbrev S1024x2x1x64 : Shape := ⟨4, ![1024, 2, 1, 64]⟩
abbrev S1024x2x2x64 : Shape := ⟨4, ![1024, 2, 2, 64]⟩
abbrev S1024x2560 : Shape := ⟨2, ![1024, 2560]⟩
abbrev S65536x256 : Shape := ⟨2, ![65536, 256]⟩
abbrev S65536x128 : Shape := ⟨2, ![65536, 128]⟩
abbrev S256x64x256 : Shape := ⟨3, ![256, 64, 256]⟩
abbrev S65536x512 : Shape := ⟨2, ![65536, 512]⟩
abbrev S256x128x256 : Shape := ⟨3, ![256, 128, 256]⟩
abbrev S512x1024 : Shape := ⟨2, ![512, 1024]⟩
abbrev S512x384 : Shape := ⟨2, ![512, 384]⟩
abbrev S512x256 : Shape := ⟨2, ![512, 256]⟩
abbrev S512x128 : Shape := ⟨2, ![512, 128]⟩
abbrev S2x64x256 : Shape := ⟨3, ![2, 64, 256]⟩
abbrev S512x512 : Shape := ⟨2, ![512, 512]⟩
abbrev S2x128x256 : Shape := ⟨3, ![2, 128, 256]⟩
abbrev S512 : Shape := ⟨1, ![512]⟩
abbrev S512x1 : Shape := ⟨2, ![512, 1]⟩
abbrev S512x2560 : Shape := ⟨2, ![512, 2560]⟩
abbrev S256x128 : Shape := ⟨2, ![256, 128]⟩
abbrev S64x256 : Shape := ⟨2, ![64, 256]⟩
abbrev S1x64x256 : Shape := ⟨3, ![1, 64, 256]⟩
abbrev S1x128x256 : Shape := ⟨3, ![1, 128, 256]⟩

abbrev nBuf : Space → Nat
  | .hbm => 239
  | .vmem => 40
  | .smem => 0
  | _ => 0

abbrev hbmTy0_0 (i : Nat) : BufTy := match i % 128 with
  | 0 => ⟨S32x2048x1024, .f32⟩
  | 1 => ⟨S32x2048, .i32⟩
  | 2 => ⟨S1024x2108, .f32⟩
  | 3 => ⟨S128, .f32⟩
  | 4 => ⟨S128x128, .f32⟩
  | 5 => ⟨S1024, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S32x2048, .f32⟩
  | 21 => ⟨S65536x1, .f32⟩
  | 22 => ⟨S1x8, .f32⟩
  | 23 => ⟨S65536x8, .f32⟩
  | 24 => ⟨S65536x8, .f32⟩
  | 25 => ⟨S65536x8, .f32⟩
  | 26 => ⟨S65536x8, .f32⟩
  | 27 => ⟨S65536x8, .f32⟩
  | 28 => ⟨S_, .f32⟩
  | 29 => ⟨S65536x1, .f32⟩
  | 30 => ⟨S65536x17, .f32⟩
  | 31 => ⟨S128, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S128, .i32⟩
  | 39 => ⟨S128, .i32⟩
  | 40 => ⟨S_, .i32⟩
  | 41 => ⟨S128, .i32⟩
  | 42 => ⟨S128, .i1⟩
  | 43 => ⟨S_, .i32⟩
  | 44 => ⟨S128, .i32⟩
  | 45 => ⟨S128, .i1⟩
  | 46 => ⟨S_, .i32⟩
  | 47 => ⟨S_, .i1⟩
  | 48 => ⟨S128, .i1⟩
  | 49 => ⟨S128, .i1⟩
  | 50 => ⟨S128, .i1⟩
  | 51 => ⟨S128, .i32⟩
  | 52 => ⟨S128, .i32⟩
  | 53 => ⟨S128, .i32⟩
  | 54 => ⟨S8, .i32⟩
  | 55 => ⟨S1x128, .i32⟩
  | 56 => ⟨S8x1, .i32⟩
  | 57 => ⟨S8x128, .i32⟩
  | 58 => ⟨S8x128, .i32⟩
  | 59 => ⟨S8x128, .i1⟩
  | 60 => ⟨S1x128, .i32⟩
  | 61 => ⟨S8x1, .i32⟩
  | 62 => ⟨S_, .i32⟩
  | 63 => ⟨S8x1, .i32⟩
  | 64 => ⟨S8x1, .i32⟩
  | 65 => ⟨S8x128, .i32⟩
  | 66 => ⟨S8x128, .i32⟩
  | 67 => ⟨S8x128, .i1⟩
  | 68 => ⟨S_, .f32⟩
  | 69 => ⟨S8x128, .f32⟩
  | 70 => ⟨S8x128, .i1⟩
  | 71 => ⟨S8x128, .f32⟩
  | 72 => ⟨S_, .i32⟩
  | 73 => ⟨S128, .i32⟩
  | 74 => ⟨S128, .i1⟩
  | 75 => ⟨S128, .f32⟩
  | 76 => ⟨S1x128, .f32⟩
  | 77 => ⟨S17x128, .f32⟩
  | 78 => ⟨S8x128, .f32⟩
  | 79 => ⟨S8x128, .f32⟩
  | 80 => ⟨S_, .f32⟩
  | 81 => ⟨S1x128, .f32⟩
  | 82 => ⟨S17x128, .f32⟩
  | 83 => ⟨S8x128, .f32⟩
  | 84 => ⟨S_, .f32⟩
  | 85 => ⟨S1x128, .f32⟩
  | 86 => ⟨S17x128, .f32⟩
  | 87 => ⟨S17x384, .f32⟩
  | 88 => ⟨S65536x17x1, .f32⟩
  | 89 => ⟨S1x17x384, .f32⟩
  | 90 => ⟨S65536x17x384, .f32⟩
  | 91 => ⟨S65536x17x384, .f32⟩
  | 92 => ⟨S65536x17x384, .f32⟩
  | 93 => ⟨S_, .f32⟩
  | 94 => ⟨S65536x384, .f32⟩
  | 95 => ⟨S4, .f32⟩
  | 96 => ⟨S_, .f32⟩
  | 97 => ⟨S4, .f32⟩
  | 98 => ⟨S4, .f32⟩
  | 99 => ⟨S_, .f32⟩
  | 100 => ⟨S4, .f32⟩
  | 101 => ⟨S4, .f32⟩
  | 102 => ⟨S4, .f32⟩
  | 103 => ⟨S_, .f32⟩
  | 104 => ⟨S4, .f32⟩
  | 105 => ⟨S4, .f32⟩
  | 106 => ⟨S_, .f32⟩
  | 107 => ⟨S4, .f32⟩
  | 108 => ⟨S4, .f32⟩
  | 109 => ⟨S32x2048, .f32⟩
  | 110 => ⟨S65536x1, .f32⟩
  | 111 => ⟨S1x4, .f32⟩
  | 112 => ⟨S65536x4, .f32⟩
  | 113 => ⟨S65536x4, .f32⟩
  | 114 => ⟨S65536x4, .f32⟩
  | 115 => ⟨S65536x4, .f32⟩
  | 116 => ⟨S65536x4, .f32⟩
  | 117 => ⟨S_, .f32⟩
  | 118 => ⟨S65536x1, .f32⟩
  | 119 => ⟨S65536x9, .f32⟩
  | 120 => ⟨S128, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S128, .i32⟩
  | _ => ⟨S32x2048x1024, .f32⟩

abbrev hbmTy0_1 (i : Nat) : BufTy := match i % 128 with
  | 0 => ⟨S128, .i32⟩
  | 1 => ⟨S_, .i32⟩
  | 2 => ⟨S128, .i32⟩
  | 3 => ⟨S128, .i1⟩
  | 4 => ⟨S_, .i32⟩
  | 5 => ⟨S128, .i32⟩
  | 6 => ⟨S128, .i1⟩
  | 7 => ⟨S_, .i32⟩
  | 8 => ⟨S_, .i1⟩
  | 9 => ⟨S128, .i1⟩
  | 10 => ⟨S128, .i1⟩
  | 11 => ⟨S128, .i1⟩
  | 12 => ⟨S128, .i32⟩
  | 13 => ⟨S128, .i32⟩
  | 14 => ⟨S128, .i32⟩
  | 15 => ⟨S4, .i32⟩
  | 16 => ⟨S1x128, .i32⟩
  | 17 => ⟨S4x1, .i32⟩
  | 18 => ⟨S4x128, .i32⟩
  | 19 => ⟨S4x128, .i32⟩
  | 20 => ⟨S4x128, .i1⟩
  | 21 => ⟨S1x128, .i32⟩
  | 22 => ⟨S4x1, .i32⟩
  | 23 => ⟨S_, .i32⟩
  | 24 => ⟨S4x1, .i32⟩
  | 25 => ⟨S4x1, .i32⟩
  | 26 => ⟨S4x128, .i32⟩
  | 27 => ⟨S4x128, .i32⟩
  | 28 => ⟨S4x128, .i1⟩
  | 29 => ⟨S_, .f32⟩
  | 30 => ⟨S4x128, .f32⟩
  | 31 => ⟨S4x128, .i1⟩
  | 32 => ⟨S4x128, .f32⟩
  | 33 => ⟨S_, .i32⟩
  | 34 => ⟨S128, .i32⟩
  | 35 => ⟨S128, .i1⟩
  | 36 => ⟨S128, .f32⟩
  | 37 => ⟨S1x128, .f32⟩
  | 38 => ⟨S9x128, .f32⟩
  | 39 => ⟨S4x128, .f32⟩
  | 40 => ⟨S4x128, .f32⟩
  | 41 => ⟨S_, .f32⟩
  | 42 => ⟨S1x128, .f32⟩
  | 43 => ⟨S9x128, .f32⟩
  | 44 => ⟨S4x128, .f32⟩
  | 45 => ⟨S_, .f32⟩
  | 46 => ⟨S1x128, .f32⟩
  | 47 => ⟨S9x128, .f32⟩
  | 48 => ⟨S9x384, .f32⟩
  | 49 => ⟨S65536x9x1, .f32⟩
  | 50 => ⟨S1x9x384, .f32⟩
  | 51 => ⟨S65536x9x384, .f32⟩
  | 52 => ⟨S65536x9x384, .f32⟩
  | 53 => ⟨S65536x9x384, .f32⟩
  | 54 => ⟨S_, .f32⟩
  | 55 => ⟨S65536x384, .f32⟩
  | 56 => ⟨S128x64, .f32⟩
  | 57 => ⟨S128x1x1x64, .f32⟩
  | 58 => ⟨S128x1x2x64, .f32⟩
  | 59 => ⟨S128x128, .f32⟩
  | 60 => ⟨S128x64, .f32⟩
  | 61 => ⟨S_, .f32⟩
  | 62 => ⟨S128x64, .f32⟩
  | 63 => ⟨S128x256, .f32⟩
  | 64 => ⟨S128x256, .bf16⟩
  | 65 => ⟨S65536x1024, .f32⟩
  | 66 => ⟨S1x1024, .f32⟩
  | 67 => ⟨S1024x256, .f32⟩
  | 68 => ⟨S1024x128, .f32⟩
  | 69 => ⟨S1024x128, .f32⟩
  | 70 => ⟨S1024x32, .f32⟩
  | 71 => ⟨S1024x4, .f32⟩
  | 72 => ⟨S1024x512, .f32⟩
  | 73 => ⟨S1024x128, .f32⟩
  | 74 => ⟨S1024x128, .f32⟩
  | 75 => ⟨S1024x128, .f32⟩
  | 76 => ⟨S1024x128, .f32⟩
  | 77 => ⟨S1024x128, .f32⟩
  | 78 => ⟨S1024x128, .f32⟩
  | 79 => ⟨S1024x24, .f32⟩
  | 80 => ⟨S1024x256, .f32⟩
  | 81 => ⟨S_, .f32⟩
  | 82 => ⟨S1024x100, .f32⟩
  | 83 => ⟨S1024x128, .f32⟩
  | 84 => ⟨S1x1024x1x32, .f32⟩
  | 85 => ⟨S1x1024x4x32, .f32⟩
  | 86 => ⟨S1024x128, .f32⟩
  | 87 => ⟨S1024x2x1x64, .f32⟩
  | 88 => ⟨S1024x2x2x64, .f32⟩
  | 89 => ⟨S1024x256, .f32⟩
  | 90 => ⟨S1024x2x1x64, .f32⟩
  | 91 => ⟨S1024x2x2x64, .f32⟩
  | 92 => ⟨S1024x256, .f32⟩
  | 93 => ⟨S1024x2560, .f32⟩
  | 94 => ⟨S1024x2560, .bf16⟩
  | 95 => ⟨S1x128, .f32⟩
  | 96 => ⟨S65536x256, .bf16⟩
  | 97 => ⟨S65536x128, .bf16⟩
  | 98 => ⟨S256x64x256, .bf16⟩
  | 99 => ⟨S65536x128, .bf16⟩
  | 100 => ⟨S65536x128, .bf16⟩
  | 101 => ⟨S65536x512, .bf16⟩
  | 102 => ⟨S65536x512, .bf16⟩
  | 103 => ⟨S65536x128, .f32⟩
  | 104 => ⟨S65536x128, .f32⟩
  | 105 => ⟨S65536x256, .bf16⟩
  | 106 => ⟨S256x128x256, .bf16⟩
  | 107 => ⟨S65536x256, .bf16⟩
  | 108 => ⟨S256x128x256, .bf16⟩
  | 109 => ⟨S65536x128, .f32⟩
  | 110 => ⟨S65536x256, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1x128, .f32⟩
  | .local _ .vmem, ⟨5, _⟩ => ⟨S128x256, .bf16⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x256, .bf16⟩
  | .local _ .vmem, ⟨11, _⟩ => ⟨S512x256, .bf16⟩
  | .local _ .vmem, ⟨12, _⟩ => ⟨S512x128, .bf16⟩
  | .local _ .vmem, ⟨13, _⟩ => ⟨S512x128, .bf16⟩
  | .local _ .vmem, ⟨14, _⟩ => ⟨S2x64x256, .bf16⟩
  | .local _ .vmem, ⟨15, _⟩ => ⟨S2x64x256, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x256, .bf16⟩
  | .local _ .vmem, ⟨29, _⟩ => ⟨S512x256, .bf16⟩
  | .local _ .vmem, ⟨30, _⟩ => ⟨S2x128x256, .bf16⟩
  | .local _ .vmem, ⟨31, _⟩ => ⟨S2x128x256, .bf16⟩
  | .local _ .vmem, ⟨32, _⟩ => ⟨S512x256, .bf16⟩
  | .local _ .vmem, ⟨33, _⟩ => ⟨S512x256, .bf16⟩
  | .local _ .vmem, ⟨34, _⟩ => ⟨S2x128x256, .bf16⟩
  | .local _ .vmem, ⟨35, _⟩ => ⟨S2x128x256, .bf16⟩
  | .local _ .vmem, ⟨36, _⟩ => ⟨S512x128, .f32⟩
  | .local _ .vmem, ⟨37, _⟩ => ⟨S512x128, .f32⟩
  | .local _ .vmem, ⟨38, _⟩ => ⟨S512x256, .f32⟩
  | .local _ .vmem, ⟨39, _⟩ => ⟨S512x256, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_1 : Ref sig .tc := ⟨.hbm, 40, rfl⟩
abbrev main_call0_v5 : Ref sig .tc := ⟨.hbm, 41, rfl⟩
abbrev main_call0_v6 : Ref sig .tc := ⟨.hbm, 42, rfl⟩
abbrev main_call0_c_2 : Ref sig .tc := ⟨.hbm, 43, rfl⟩
abbrev main_call0_v7 : Ref sig .tc := ⟨.hbm, 44, rfl⟩
abbrev main_call0_v8 : Ref sig .tc := ⟨.hbm, 45, rfl⟩
abbrev main_call0_c_3 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_4 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_5 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_c_6 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_7 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_8 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_9 : Ref sig .tc := ⟨.hbm, 93, rfl⟩
abbrev main_v56 : Ref sig .tc := ⟨.hbm, 94, rfl⟩
abbrev main_v57 : Ref sig .tc := ⟨.hbm, 95, rfl⟩
abbrev main_cst_10 : Ref sig .tc := ⟨.hbm, 96, rfl⟩
abbrev main_v58 : Ref sig .tc := ⟨.hbm, 97, rfl⟩
abbrev main_v59 : Ref sig .tc := ⟨.hbm, 98, rfl⟩
abbrev main_cst_11 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_12 : Ref sig .tc := ⟨.hbm, 103, rfl⟩
abbrev main_v63 : Ref sig .tc := ⟨.hbm, 104, rfl⟩
abbrev main_v64 : Ref sig .tc := ⟨.hbm, 105, rfl⟩
abbrev main_cst_13 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_14 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_15 : Ref sig .tc := ⟨.hbm, 121, rfl⟩
abbrev main_call1_v0 : Ref sig .tc := ⟨.hbm, 122, rfl⟩
abbrev main_call1_c : Ref sig .tc := ⟨.hbm, 123, rfl⟩
abbrev main_call1_v1 : Ref sig .tc := ⟨.hbm, 124, rfl⟩
abbrev main_call1_c_0 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_call1_c_1 : Ref sig .tc := ⟨.hbm, 129, rfl⟩
abbrev main_call1_v5 : Ref sig .tc := ⟨.hbm, 130, rfl⟩
abbrev main_call1_v6 : Ref sig .tc := ⟨.hbm, 131, rfl⟩
abbrev main_call1_c_2 : Ref sig .tc := ⟨.hbm, 132, rfl⟩
abbrev main_call1_v7 : Ref sig .tc := ⟨.hbm, 133, rfl⟩
abbrev main_call1_v8 : Ref sig .tc := ⟨.hbm, 134, rfl⟩
abbrev main_call1_c_3 : Ref sig .tc := ⟨.hbm, 135, rfl⟩
abbrev main_call1_v9 : Ref sig .tc := ⟨.hbm, 136, rfl⟩
abbrev main_call1_v10 : Ref sig .tc := ⟨.hbm, 137, rfl⟩
abbrev main_call1_v11 : Ref sig .tc := ⟨.hbm, 138, rfl⟩
abbrev main_call1_v12 : Ref sig .tc := ⟨.hbm, 139, rfl⟩
abbrev main_call1_v13 : Ref sig .tc := ⟨.hbm, 140, rfl⟩
abbrev main_call1_v14 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_c_16 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_cst_17 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_c_18 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_cst_19 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_cst_20 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_cst_21 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_cst_22 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_cst_23 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152_0 : Ref sig .tc := ⟨.hbm, 224, rfl⟩
abbrev main_v152_1 : Ref sig .tc := ⟨.hbm, 225, rfl⟩
abbrev main_v152_2 : Ref sig .tc := ⟨.hbm, 226, rfl⟩
abbrev main_v152_3 : Ref sig .tc := ⟨.hbm, 227, rfl⟩
abbrev main_v152_4 : Ref sig .tc := ⟨.hbm, 228, rfl⟩
abbrev main_v152_5 : Ref sig .tc := ⟨.hbm, 229, rfl⟩
abbrev main_v152_6 : Ref sig .tc := ⟨.hbm, 230, rfl⟩
abbrev main_v152_7 : Ref sig .tc := ⟨.hbm, 231, rfl⟩
abbrev main_v152_8 : Ref sig .tc := ⟨.hbm, 232, rfl⟩
abbrev main_v152_9 : Ref sig .tc := ⟨.hbm, 233, rfl⟩
abbrev main_v152_10 : Ref sig .tc := ⟨.hbm, 234, rfl⟩
abbrev main_v152_11 : Ref sig .tc := ⟨.hbm, 235, rfl⟩
abbrev main_v152_12 : Ref sig .tc := ⟨.hbm, 236, rfl⟩
abbrev main_v152_13 : Ref sig .tc := ⟨.hbm, 237, rfl⟩
abbrev main_v152_14 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x64x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x128x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x128x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ProjRefIdeal.lean ====
abbrev S32x2048x1024 : Shape := ⟨3, ![32, 2048, 1024]⟩
abbrev S32x2048 : Shape := ⟨2, ![32, 2048]⟩
abbrev S1024x2108 : Shape := ⟨2, ![1024, 2108]⟩
abbrev S128 : Shape := ⟨1, ![128]⟩
abbrev S128x128 : Shape := ⟨2, ![128, 128]⟩
abbrev S1024 : Shape := ⟨1, ![1024]⟩
abbrev S8 : Shape := ⟨1, ![8]⟩
abbrev S_ : Shape := ⟨0, ![]⟩
abbrev S32x2048x1 : Shape := ⟨3, ![32, 2048, 1]⟩
abbrev S1x1x8 : Shape := ⟨3, ![1, 1, 8]⟩
abbrev S32x2048x8 : Shape := ⟨3, ![32, 2048, 8]⟩
abbrev S4 : Shape := ⟨1, ![4]⟩
abbrev S1x1x4 : Shape := ⟨3, ![1, 1, 4]⟩
abbrev S32x2048x4 : Shape := ⟨3, ![32, 2048, 4]⟩
abbrev S1x1x1024 : Shape := ⟨3, ![1, 1, 1024]⟩
abbrev S32x2048x2108 : Shape := ⟨3, ![32, 2048, 2108]⟩
abbrev S32x2048x256 : Shape := ⟨3, ![32, 2048, 256]⟩
abbrev S32x2048x128 : Shape := ⟨3, ![32, 2048, 128]⟩
abbrev S32x2048x32 : Shape := ⟨3, ![32, 2048, 32]⟩
abbrev S32x2048x512 : Shape := ⟨3, ![32, 2048, 512]⟩
abbrev S32x2048x24 : Shape := ⟨3, ![32, 2048, 24]⟩
abbrev S32x2048x4x64 : Shape := ⟨4, ![32, 2048, 4, 64]⟩
abbrev S32x2048x1x8 : Shape := ⟨4, ![32, 2048, 1, 8]⟩
abbrev S32x2048x4x8 : Shape := ⟨4, ![32, 2048, 4, 8]⟩
abbrev S32x2048x4x48 : Shape := ⟨4, ![32, 2048, 4, 48]⟩
abbrev S1x1x128 : Shape := ⟨3, ![1, 1, 128]⟩
abbrev S32x2048x64 : Shape := ⟨3, ![32, 2048, 64]⟩
abbrev S32x2048x48 : Shape := ⟨3, ![32, 2048, 48]⟩
abbrev S32x2048x4x32 : Shape := ⟨4, ![32, 2048, 4, 32]⟩
abbrev S32x2048x1x4 : Shape := ⟨4, ![32, 2048, 1, 4]⟩
abbrev S32x2048x4x4 : Shape := ⟨4, ![32, 2048, 4, 4]⟩
abbrev S32x2048x4x24 : Shape := ⟨4, ![32, 2048, 4, 24]⟩
abbrev S32x2048x8x64 : Shape := ⟨4, ![32, 2048, 8, 64]⟩
abbrev S32x2048x8x8 : Shape := ⟨4, ![32, 2048, 8, 8]⟩
abbrev S32x2048x8x48 : Shape := ⟨4, ![32, 2048, 8, 48]⟩
abbrev S32x2048x2x64 : Shape := ⟨4, ![32, 2048, 2, 64]⟩
abbrev S32x2048x2x8 : Shape := ⟨4, ![32, 2048, 2, 8]⟩
abbrev S32x2048x2x48 : Shape := ⟨4, ![32, 2048, 2, 48]⟩
abbrev S32x2048x100 : Shape := ⟨3, ![32, 2048, 100]⟩
abbrev S65536x256 : Shape := ⟨2, ![65536, 256]⟩
abbrev S32x2048x1x64 : Shape := ⟨4, ![32, 2048, 1, 64]⟩
abbrev S65536x128 : Shape := ⟨2, ![65536, 128]⟩
abbrev S256x256x64 : Shape := ⟨3, ![256, 256, 64]⟩
abbrev S256x64x256 : Shape := ⟨3, ![256, 64, 256]⟩
abbrev S32x2048x1x32 : Shape := ⟨4, ![32, 2048, 1, 32]⟩
abbrev S65536x512 : Shape := ⟨2, ![65536, 512]⟩
abbrev S32x2048x2x1x64 : Shape := ⟨5, ![32, 2048, 2, 1, 64]⟩
abbrev S32x2048x2x2x64 : Shape := ⟨5, ![32, 2048, 2, 2, 64]⟩
abbrev S256x256x128 : Shape := ⟨3, ![256, 256, 128]⟩
abbrev S256x128x256 : Shape := ⟨3, ![256, 128, 256]⟩

abbrev nBuf : Space → Nat
  | .hbm => 260
  | .vmem => 0
  | .smem => 0
  | _ => 0

abbrev hbmTy0_0 (i : Nat) : BufTy := match i % 128 with
  | 0 => ⟨S32x2048x1024, .f32⟩
  | 1 => ⟨S32x2048, .i32⟩
  | 2 => ⟨S1024x2108, .f32⟩
  | 3 => ⟨S128, .f32⟩
  | 4 => ⟨S128x128, .f32⟩
  | 5 => ⟨S1024, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S32x2048, .f32⟩
  | 21 => ⟨S32x2048x1, .f32⟩
  | 22 => ⟨S1x1x8, .f32⟩
  | 23 => ⟨S32x2048x8, .f32⟩
  | 24 => ⟨S32x2048x8, .f32⟩
  | 25 => ⟨S32x2048x8, .f32⟩
  | 26 => ⟨S32x2048x8, .f32⟩
  | 27 => ⟨S32x2048x8, .f32⟩
  | 28 => ⟨S4, .f32⟩
  | 29 => ⟨S_, .f32⟩
  | 30 => ⟨S4, .f32⟩
  | 31 => ⟨S4, .f32⟩
  | 32 => ⟨S_, .f32⟩
  | 33 => ⟨S4, .f32⟩
  | 34 => ⟨S4, .f32⟩
  | 35 => ⟨S4, .f32⟩
  | 36 => ⟨S_, .f32⟩
  | 37 => ⟨S4, .f32⟩
  | 38 => ⟨S4, .f32⟩
  | 39 => ⟨S_, .f32⟩
  | 40 => ⟨S4, .f32⟩
  | 41 => ⟨S4, .f32⟩
  | 42 => ⟨S32x2048, .f32⟩
  | 43 => ⟨S32x2048x1, .f32⟩
  | 44 => ⟨S1x1x4, .f32⟩
  | 45 => ⟨S32x2048x4, .f32⟩
  | 46 => ⟨S32x2048x4, .f32⟩
  | 47 => ⟨S32x2048x4, .f32⟩
  | 48 => ⟨S32x2048x4, .f32⟩
  | 49 => ⟨S32x2048x4, .f32⟩
  | 50 => ⟨S32x2048x1024, .f32⟩
  | 51 => ⟨S_, .f32⟩
  | 52 => ⟨S32x2048, .f32⟩
  | 53 => ⟨S32x2048x1, .f32⟩
  | 54 => ⟨S_, .f32⟩
  | 55 => ⟨S32x2048x1, .f32⟩
  | 56 => ⟨S32x2048x1, .f32⟩
  | 57 => ⟨S_, .f32⟩
  | 58 => ⟨S32x2048x1, .f32⟩
  | 59 => ⟨S32x2048x1, .f32⟩
  | 60 => ⟨S32x2048x1, .f32⟩
  | 61 => ⟨S32x2048x1024, .f32⟩
  | 62 => ⟨S32x2048x1024, .f32⟩
  | 63 => ⟨S1x1x1024, .f32⟩
  | 64 => ⟨S32x2048x1024, .f32⟩
  | 65 => ⟨S32x2048x1024, .f32⟩
  | 66 => ⟨S32x2048x2108, .f32⟩
  | 67 => ⟨S32x2048x256, .f32⟩
  | 68 => ⟨S32x2048x128, .f32⟩
  | 69 => ⟨S32x2048x128, .f32⟩
  | 70 => ⟨S32x2048x32, .f32⟩
  | 71 => ⟨S32x2048x4, .f32⟩
  | 72 => ⟨S32x2048x512, .f32⟩
  | 73 => ⟨S32x2048x128, .f32⟩
  | 74 => ⟨S32x2048x128, .f32⟩
  | 75 => ⟨S32x2048x128, .f32⟩
  | 76 => ⟨S32x2048x128, .f32⟩
  | 77 => ⟨S32x2048x128, .f32⟩
  | 78 => ⟨S32x2048x128, .f32⟩
  | 79 => ⟨S32x2048x24, .f32⟩
  | 80 => ⟨S32x2048x256, .f32⟩
  | 81 => ⟨S32x2048x4x64, .f32⟩
  | 82 => ⟨S32x2048x1x8, .f32⟩
  | 83 => ⟨S32x2048x1x8, .f32⟩
  | 84 => ⟨S32x2048x4x8, .f32⟩
  | 85 => ⟨S32x2048x4x8, .f32⟩
  | 86 => ⟨S32x2048x4x48, .f32⟩
  | 87 => ⟨S32x2048x4x8, .f32⟩
  | 88 => ⟨S32x2048x4x8, .f32⟩
  | 89 => ⟨S32x2048x4x8, .f32⟩
  | 90 => ⟨S32x2048x4x8, .f32⟩
  | 91 => ⟨S32x2048x4x8, .f32⟩
  | 92 => ⟨S32x2048x4x8, .f32⟩
  | 93 => ⟨S32x2048x4x8, .f32⟩
  | 94 => ⟨S32x2048x4x8, .f32⟩
  | 95 => ⟨S32x2048x4x8, .f32⟩
  | 96 => ⟨S32x2048x4x8, .f32⟩
  | 97 => ⟨S32x2048x4x64, .f32⟩
  | 98 => ⟨S32x2048x128, .f32⟩
  | 99 => ⟨S_, .f32⟩
  | 100 => ⟨S32x2048, .f32⟩
  | 101 => ⟨S32x2048x1, .f32⟩
  | 102 => ⟨S_, .f32⟩
  | 103 => ⟨S32x2048x1, .f32⟩
  | 104 => ⟨S32x2048x1, .f32⟩
  | 105 => ⟨S_, .f32⟩
  | 106 => ⟨S32x2048x1, .f32⟩
  | 107 => ⟨S32x2048x1, .f32⟩
  | 108 => ⟨S32x2048x1, .f32⟩
  | 109 => ⟨S32x2048x128, .f32⟩
  | 110 => ⟨S32x2048x128, .f32⟩
  | 111 => ⟨S1x1x128, .f32⟩
  | 112 => ⟨S32x2048x128, .f32⟩
  | 113 => ⟨S32x2048x128, .f32⟩
  | 114 => ⟨S32x2048x128, .f32⟩
  | 115 => ⟨S32x2048x64, .f32⟩
  | 116 => ⟨S32x2048x8, .f32⟩
  | 117 => ⟨S32x2048x8, .f32⟩
  | 118 => ⟨S32x2048x48, .f32⟩
  | 119 => ⟨S32x2048x8, .f32⟩
  | 120 => ⟨S32x2048x8, .f32⟩
  | 121 => ⟨S32x2048x8, .f32⟩
  | 122 => ⟨S32x2048x8, .f32⟩
  | 123 => ⟨S32x2048x8, .f32⟩
  | 124 => ⟨S32x2048x8, .f32⟩
  | 125 => ⟨S32x2048x64, .f32⟩
  | 126 => ⟨S32x2048x64, .f32⟩
  | 127 => ⟨S32x2048x4x32, .f32⟩
  | _ => ⟨S32x2048x1024, .f32⟩

abbrev hbmTy0_1 (i : Nat) : BufTy := match i % 128 with
  | 0 => ⟨S32x2048x1x4, .f32⟩
  | 1 => ⟨S32x2048x1x4, .f32⟩
  | 2 => ⟨S32x2048x4x4, .f32⟩
  | 3 => ⟨S32x2048x4x4, .f32⟩
  | 4 => ⟨S32x2048x4x24, .f32⟩
  | 5 => ⟨S32x2048x4x4, .f32⟩
  | 6 => ⟨S32x2048x4x4, .f32⟩
  | 7 => ⟨S32x2048x4x4, .f32⟩
  | 8 => ⟨S32x2048x4x4, .f32⟩
  | 9 => ⟨S32x2048x4x4, .f32⟩
  | 10 => ⟨S32x2048x4x4, .f32⟩
  | 11 => ⟨S32x2048x4x4, .f32⟩
  | 12 => ⟨S32x2048x4x4, .f32⟩
  | 13 => ⟨S32x2048x4x4, .f32⟩
  | 14 => ⟨S32x2048x4x4, .f32⟩
  | 15 => ⟨S32x2048x4x32, .f32⟩
  | 16 => ⟨S32x2048x4, .f32⟩
  | 17 => ⟨S32x2048x4, .f32⟩
  | 18 => ⟨S32x2048x24, .f32⟩
  | 19 => ⟨S32x2048x4, .f32⟩
  | 20 => ⟨S32x2048x4, .f32⟩
  | 21 => ⟨S32x2048x4, .f32⟩
  | 22 => ⟨S32x2048x4, .f32⟩
  | 23 => ⟨S32x2048x4, .f32⟩
  | 24 => ⟨S32x2048x4, .f32⟩
  | 25 => ⟨S32x2048x32, .f32⟩
  | 26 => ⟨S32x2048x8x64, .f32⟩
  | 27 => ⟨S32x2048x1x8, .f32⟩
  | 28 => ⟨S32x2048x1x8, .f32⟩
  | 29 => ⟨S32x2048x8x8, .f32⟩
  | 30 => ⟨S32x2048x8x8, .f32⟩
  | 31 => ⟨S32x2048x8x48, .f32⟩
  | 32 => ⟨S32x2048x8x8, .f32⟩
  | 33 => ⟨S32x2048x8x8, .f32⟩
  | 34 => ⟨S32x2048x8x8, .f32⟩
  | 35 => ⟨S32x2048x8x8, .f32⟩
  | 36 => ⟨S32x2048x8x8, .f32⟩
  | 37 => ⟨S32x2048x8x8, .f32⟩
  | 38 => ⟨S32x2048x8x8, .f32⟩
  | 39 => ⟨S32x2048x8x8, .f32⟩
  | 40 => ⟨S32x2048x8x8, .f32⟩
  | 41 => ⟨S32x2048x8x8, .f32⟩
  | 42 => ⟨S32x2048x8x64, .f32⟩
  | 43 => ⟨S32x2048x2x64, .f32⟩
  | 44 => ⟨S32x2048x1x8, .f32⟩
  | 45 => ⟨S32x2048x1x8, .f32⟩
  | 46 => ⟨S32x2048x2x8, .f32⟩
  | 47 => ⟨S32x2048x2x8, .f32⟩
  | 48 => ⟨S32x2048x2x48, .f32⟩
  | 49 => ⟨S32x2048x2x8, .f32⟩
  | 50 => ⟨S32x2048x2x8, .f32⟩
  | 51 => ⟨S32x2048x2x8, .f32⟩
  | 52 => ⟨S32x2048x2x8, .f32⟩
  | 53 => ⟨S32x2048x2x8, .f32⟩
  | 54 => ⟨S32x2048x2x8, .f32⟩
  | 55 => ⟨S32x2048x2x8, .f32⟩
  | 56 => ⟨S32x2048x2x8, .f32⟩
  | 57 => ⟨S32x2048x2x8, .f32⟩
  | 58 => ⟨S32x2048x2x8, .f32⟩
  | 59 => ⟨S32x2048x2x64, .f32⟩
  | 60 => ⟨S32x2048x2x64, .f32⟩
  | 61 => ⟨S32x2048x1x8, .f32⟩
  | 62 => ⟨S32x2048x1x8, .f32⟩
  | 63 => ⟨S32x2048x2x8, .f32⟩
  | 64 => ⟨S32x2048x2x8, .f32⟩
  | 65 => ⟨S32x2048x2x48, .f32⟩
  | 66 => ⟨S32x2048x2x8, .f32⟩
  | 67 => ⟨S32x2048x2x8, .f32⟩
  | 68 => ⟨S32x2048x2x8, .f32⟩
  | 69 => ⟨S32x2048x2x8, .f32⟩
  | 70 => ⟨S32x2048x2x8, .f32⟩
  | 71 => ⟨S32x2048x2x8, .f32⟩
  | 72 => ⟨S32x2048x2x8, .f32⟩
  | 73 => ⟨S32x2048x2x8, .f32⟩
  | 74 => ⟨S32x2048x2x8, .f32⟩
  | 75 => ⟨S32x2048x2x8, .f32⟩
  | 76 => ⟨S32x2048x2x64, .f32⟩
  | 77 => ⟨S_, .f32⟩
  | 78 => ⟨S32x2048x100, .f32⟩
  | 79 => ⟨S32x2048x128, .f32⟩
  | 80 => ⟨S_, .f32⟩
  | 81 => ⟨S32x2048x4x64, .f32⟩
  | 82 => ⟨S32x2048x4x64, .f32⟩
  | 83 => ⟨S65536x256, .f32⟩
  | 84 => ⟨S65536x256, .bf16⟩
  | 85 => ⟨S32x2048x1x64, .f32⟩
  | 86 => ⟨S32x2048x1x64, .f32⟩
  | 87 => ⟨S32x2048x2x64, .f32⟩
  | 88 => ⟨S65536x128, .f32⟩
  | 89 => ⟨S65536x128, .bf16⟩
  | 90 => ⟨S256x256x64, .f32⟩
  | 91 => ⟨S256x64x256, .f32⟩
  | 92 => ⟨S256x64x256, .bf16⟩
  | 93 => ⟨S65536x128, .f32⟩
  | 94 => ⟨S65536x128, .bf16⟩
  | 95 => ⟨S32x2048x1x32, .f32⟩
  | 96 => ⟨S32x2048x1x32, .f32⟩
  | 97 => ⟨S32x2048x1x32, .f32⟩
  | 98 => ⟨S32x2048x1x32, .f32⟩
  | 99 => ⟨S32x2048x4x32, .f32⟩
  | 100 => ⟨S65536x128, .f32⟩
  | 101 => ⟨S65536x128, .bf16⟩
  | 102 => ⟨S_, .f32⟩
  | 103 => ⟨S32x2048x8x64, .f32⟩
  | 104 => ⟨S32x2048x8x64, .f32⟩
  | 105 => ⟨S65536x512, .f32⟩
  | 106 => ⟨S65536x512, .bf16⟩
  | 107 => ⟨S_, .f32⟩
  | 108 => ⟨S32x2048x8x64, .f32⟩
  | 109 => ⟨S32x2048x8x64, .f32⟩
  | 110 => ⟨S65536x512, .f32⟩
  | 111 => ⟨S65536x512, .bf16⟩
  | 112 => ⟨S65536x128, .f32⟩
  | 113 => ⟨S65536x128, .f32⟩
  | 114 => ⟨S32x2048x2x1x64, .f32⟩
  | 115 => ⟨S32x2048x2x1x64, .f32⟩
  | 116 => ⟨S32x2048x2x2x64, .f32⟩
  | 117 => ⟨S65536x256, .f32⟩
  | 118 => ⟨S65536x256, .bf16⟩
  | 119 => ⟨S256x256x128, .f32⟩
  | 120 => ⟨S256x128x256, .f32⟩
  | 121 => ⟨S256x128x256, .bf16⟩
  | 122 => ⟨S32x2048x2x1x64, .f32⟩
  | 123 => ⟨S32x2048x2x1x64, .f32⟩
  | 124 => ⟨S32x2048x2x2x64, .f32⟩
  | 125 => ⟨S65536x256, .f32⟩
  | 126 => ⟨S65536x256, .bf16⟩
  | 127 => ⟨S256x256x128, .f32⟩
  | _ => ⟨S32x2048x1024, .f32⟩

abbrev hbmTy0_2 (i : Nat) : BufTy := match i % 128 with
  | 0 => ⟨S256x128x256, .f32⟩
  | 1 => ⟨S256x128x256, .bf16⟩
  | 2 => ⟨S65536x128, .f32⟩
  | 3 => ⟨S65536x256, .f32⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_10 : Ref sig .tc := ⟨.hbm, 99, rfl⟩
abbrev main_v82 : Ref sig .tc := ⟨.hbm, 100, rfl⟩
abbrev main_v83 : Ref sig .tc := ⟨.hbm, 101, rfl⟩
abbrev main_cst_11 : Ref sig .tc := ⟨.hbm, 102, rfl⟩
abbrev main_v84 : Ref sig .tc := ⟨.hbm, 103, rfl⟩
abbrev main_v85 : Ref sig .tc := ⟨.hbm, 104, rfl⟩
abbrev main_cst_12 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_cst_13 : Ref sig .tc := ⟨.hbm, 205, rfl⟩
abbrev main_v185 : Ref sig .tc := ⟨.hbm, 206, rfl⟩
abbrev main_v186 : Ref sig .tc := ⟨.hbm, 207, rfl⟩
abbrev main_cst_14 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_cst_15 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_cst_16 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩

abbrev nD : Nat := 1
abbrev τ : Topo := Topo.v7x

variable {F : FTy → Type} [FloatOps F]
-- ==== Pool.lean ====
abbrev S32x2048x256 : Shape := ⟨3, ![32, 2048, 256]⟩
abbrev S4x64x64 : Shape := ⟨3, ![4, 64, 64]⟩
abbrev S65536x256 : Shape := ⟨2, ![65536, 256]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S2048x256 : Shape := ⟨2, ![2048, 256]⟩
abbrev S2048x1 : Shape := ⟨2, ![2048, 1]⟩
abbrev S1x256 : Shape := ⟨2, ![1, 256]⟩

abbrev nBuf : Space → Nat
  | .hbm => 39
  | .vmem => 5
  | .smem => 0
  | _ => 0

abbrev bufTy : (tb : Table) → Fin (tcTables nBuf tb) → BufTy
  | .hbm, ⟨0, _⟩ => ⟨S32x2048x256, .f32⟩
  | .hbm, ⟨1, _⟩ => ⟨S4x64x64, .f32⟩
  | .hbm, ⟨2, _⟩ => ⟨S65536x256, .f32⟩
  | .hbm, ⟨3, _⟩ => ⟨S_, .f32⟩
  | .hbm, ⟨4, _⟩ => ⟨S256x256, .f32⟩
  | .hbm, ⟨5, _⟩ => ⟨S1x64x64, .f32⟩
  | .hbm, ⟨6, _⟩ => ⟨S64x64, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S256x256, .f32⟩
  | .hbm, ⟨13, _⟩ => ⟨S1x64x64, .f32⟩
  | .hbm, ⟨14, _⟩ => ⟨S64x64, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S256x256, .f32⟩
  | .hbm, ⟨21, _⟩ => ⟨S1x64x64, .f32⟩
  | .hbm, ⟨22, _⟩ => ⟨S64x64, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S256x256, .f32⟩
  | .hbm, ⟨29, _⟩ => ⟨S1x64x64, .f32⟩
  | .hbm, ⟨30, _⟩ => ⟨S64x64, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S256x256, .f32⟩
  | .hbm, ⟨37, _⟩ => ⟨S256x256, .bf16⟩
  | .hbm, ⟨38, _⟩ => ⟨S65536x256, .f32⟩
  | .local _ .vmem, ⟨0, _⟩ => ⟨S2048x256, .f32⟩
  | .local _ .vmem, ⟨1, _⟩ => ⟨S2048x256, .f32⟩
  | .local _ .vmem, ⟨2, _⟩ => ⟨S256x256, .bf16⟩
  | .local _ .vmem, ⟨3, _⟩ => ⟨S2048x256, .f32⟩
  | .local _ .vmem, ⟨4, _⟩ => ⟨S2048x256, .f32⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_c_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolRefIdeal.lean ====
abbrev S32x2048x256 : Shape := ⟨3, ![32, 2048, 256]⟩
abbrev S4x64x64 : Shape := ⟨3, ![4, 64, 64]⟩
abbrev S32x2048x4x64 : Shape := ⟨4, ![32, 2048, 4, 64]⟩
abbrev S_ : Shape := ⟨0, ![]⟩
abbrev S2048 : Shape := ⟨1, ![2048]⟩
abbrev S32x2048x1x64 : Shape := ⟨4, ![32, 2048, 1, 64]⟩
abbrev S32x2048x64 : Shape := ⟨3, ![32, 2048, 64]⟩
abbrev S32x2046x64 : Shape := ⟨3, ![32, 2046, 64]⟩
abbrev S1x2048x1 : Shape := ⟨3, ![1, 2048, 1]⟩
abbrev S32x2044x64 : Shape := ⟨3, ![32, 2044, 64]⟩
abbrev S32x2040x64 : Shape := ⟨3, ![32, 2040, 64]⟩
abbrev S32x2032x64 : Shape := ⟨3, ![32, 2032, 64]⟩
abbrev S4x64x32x2048 : Shape := ⟨4, ![4, 64, 32, 2048]⟩
abbrev S65536x256 : Shape := ⟨2, ![65536, 256]⟩

abbrev nBuf : Space → Nat
  | .hbm => 82
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S4x64x64, .f32⟩
  | .hbm, ⟨2, _⟩ => ⟨S32x2048x4x64, .f32⟩
  | .hbm, ⟨3, _⟩ => ⟨S_, .f32⟩
  | .hbm, ⟨4, _⟩ => ⟨S_, .f32⟩
  | .hbm, ⟨5, _⟩ => ⟨S32x2048x4x64, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S32x2048x1x64, .f32⟩
  | .hbm, ⟨11, _⟩ => ⟨S32x2048x64, .f32⟩
  | .hbm, ⟨12, _⟩ => ⟨S32x2046x64, .f32⟩
  | .hbm, ⟨13, _⟩ => ⟨S_, .i32⟩
  | .hbm, ⟨14, _⟩ => ⟨S_, .f32⟩
  | .hbm, ⟨15, _⟩ => ⟨S32x2048x64, .f32⟩
  | .hbm, ⟨16, _⟩ => ⟨S32x2048x64, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S1x2048x1, .f32⟩
  | .hbm, ⟨21, _⟩ => ⟨S32x2048x64, .f32⟩
  | .hbm, ⟨22, _⟩ => ⟨S32x2048x64, .f32⟩
  | .hbm, ⟨23, _⟩ => ⟨S32x2048x1x64, .f32⟩
  | .hbm, ⟨24, _⟩ => ⟨S32x2048x64, .f32⟩
  | .hbm, ⟨25, _⟩ => ⟨S32x2048x64, .f32⟩
  | .hbm, ⟨26, _⟩ => ⟨S32x2048x1x64, .f32⟩
  | .hbm, ⟨27, _⟩ => ⟨S32x2048x64, .f32⟩
  | .hbm, ⟨28, _⟩ => ⟨S32x2044x64, .f32⟩
  | .hbm, ⟨29, _⟩ => ⟨S_, .i32⟩
  | .hbm, ⟨30, _⟩ => ⟨S_, .f32⟩
  | .hbm, ⟨31, _⟩ => ⟨S32x2048x64, .f32⟩
  | .hbm, ⟨32, _⟩ => ⟨S32x2048x64, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S1x2048x1, .f32⟩
  | .hbm, ⟨37, _⟩ => ⟨S32x2048x64, .f32⟩
  | .hbm, ⟨38, _⟩ => ⟨S32x2048x64, .f32⟩
  | .hbm, ⟨39, _⟩ => ⟨S32x2048x1x64, .f32⟩
  | .hbm, ⟨40, _⟩ => ⟨S32x2048x64, .f32⟩
  | .hbm, ⟨41, _⟩ => ⟨S32x2048x64, .f32⟩
  | .hbm, ⟨42, _⟩ => ⟨S32x2048x1x64, .f32⟩
  | .hbm, ⟨43, _⟩ => ⟨S32x2048x64, .f32⟩
  | .hbm, ⟨44, _⟩ => ⟨S32x2040x64, .f32⟩
  | .hbm, ⟨45, _⟩ => ⟨S_, .i32⟩
  | .hbm, ⟨46, _⟩ => ⟨S_, .f32⟩
  | .hbm, ⟨47, _⟩ => ⟨S32x2048x64, .f32⟩
  | .hbm, ⟨48, _⟩ => ⟨S32x2048x64, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S1x2048x1, .f32⟩
  | .hbm, ⟨53, _⟩ => ⟨S32x2048x64, .f32⟩
  | .hbm, ⟨54, _⟩ => ⟨S32x2048x64, .f32⟩
  | .hbm, ⟨55, _⟩ => ⟨S32x2048x1x64, .f32⟩
  | .hbm, ⟨56, _⟩ => ⟨S32x2048x64, .f32⟩
  | .hbm, ⟨57, _⟩ => ⟨S32x2048x64, .f32⟩
  | .hbm, ⟨58, _⟩ => ⟨S32x2048x1x64, .f32⟩
  | .hbm, ⟨59, _⟩ => ⟨S32x2048x64, .f32⟩
  | .hbm, ⟨60, _⟩ => ⟨S32x2032x64, .f32⟩
  | .hbm, ⟨61, _⟩ => ⟨S_, .i32⟩
  | .hbm, ⟨62, _⟩ => ⟨S_, .f32⟩
  | .hbm, ⟨63, _⟩ => ⟨S32x2048x64, .f32⟩
  | .hbm, ⟨64, _⟩ => ⟨S32x2048x64, .f32⟩
  | .hbm, ⟨65, _⟩ => ⟨S_, .f32⟩
  | .hbm, ⟨66, _⟩ => ⟨S2048, .f32⟩
  | .hbm, ⟨67, _⟩ => ⟨S2048, .f32⟩
  | .hbm, ⟨68, _⟩ => ⟨S1x2048x1, .f32⟩
  | .hbm, ⟨69, _⟩ => ⟨S32x2048x64, .f32⟩
  | .hbm, ⟨70, _⟩ => ⟨S32x2048x64, .f32⟩
  | .hbm, ⟨71, _⟩ => ⟨S32x2048x1x64, .f32⟩
  | .hbm, ⟨72, _⟩ => ⟨S32x2048x64, .f32⟩
  | .hbm, ⟨73, _⟩ => ⟨S32x2048x64, .f32⟩
  | .hbm, ⟨74, _⟩ => ⟨S32x2048x1x64, .f32⟩
  | .hbm, ⟨75, _⟩ => ⟨S32x2048x1x64, .f32⟩
  | .hbm, ⟨76, _⟩ => ⟨S32x2048x1x64, .f32⟩
  | .hbm, ⟨77, _⟩ => ⟨S32x2048x1x64, .f32⟩
  | .hbm, ⟨78, _⟩ => ⟨S32x2048x4x64, .f32⟩
  | .hbm, ⟨79, _⟩ => ⟨S4x64x32x2048, .f32⟩
  | .hbm, ⟨80, _⟩ => ⟨S32x2048x4x64, .f32⟩
  | .hbm, ⟨81, _⟩ => ⟨S65536x256, .f32⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_call2_v0 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_3 : Ref sig .tc := ⟨.hbm, 45, rfl⟩
abbrev main_call3_v0 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_5 : Ref sig .tc := ⟨.hbm, 61, rfl⟩
abbrev main_call4_v0 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Cmp.lean ====
abbrev S32x2048x128 : Shape := ⟨3, ![32, 2048, 128]⟩
abbrev S32x64 : Shape := ⟨2, ![32, 64]⟩
abbrev S32x64x64 : Shape := ⟨3, ![32, 64, 64]⟩
abbrev S65536x128 : Shape := ⟨2, ![65536, 128]⟩
abbrev S32x128 : Shape := ⟨2, ![32, 128]⟩
abbrev S1x32x128 : Shape := ⟨3, ![1, 32, 128]⟩
abbrev S2x32x128 : Shape := ⟨3, ![2, 32, 128]⟩
abbrev S_ : Shape := ⟨0, ![]⟩
abbrev S2x32x128x256 : Shape := ⟨4, ![2, 32, 128, 256]⟩
abbrev S32x64x128 : Shape := ⟨3, ![32, 64, 128]⟩
abbrev S1 : Shape := ⟨1, ![1]⟩
abbrev S3 : Shape := ⟨1, ![3]⟩
abbrev S4096x256 : Shape := ⟨2, ![4096, 256]⟩
abbrev S64x64x128 : Shape := ⟨3, ![64, 64, 128]⟩
abbrev S2048x128 : Shape := ⟨2, ![2048, 128]⟩
abbrev S128x256 : Shape := ⟨2, ![128, 256]⟩
abbrev S2x64x128 : Shape := ⟨3, ![2, 64, 128]⟩
abbrev S128x1 : Shape := ⟨2, ![128, 1]⟩
abbrev S128x128 : Shape := ⟨2, ![128, 128]⟩
abbrev S1x1x128 : Shape := ⟨3, ![1, 1, 128]⟩
abbrev S1x128 : Shape := ⟨2, ![1, 128]⟩
abbrev S1x1x128x256 : Shape := ⟨4, ![1, 1, 128, 256]⟩
abbrev S64x128 : Shape := ⟨2, ![64, 128]⟩
abbrev S1x64x128 : Shape := ⟨3, ![1, 64, 128]⟩

abbrev nBuf : Space → Nat
  | .hbm => 54
  | .vmem => 10
  | .smem => 0
  | _ => 0

abbrev bufTy : (tb : Table) → Fin (tcTables nBuf tb) → BufTy
  | .hbm, ⟨0, _⟩ => ⟨S32x2048x128, .f32⟩
  | .hbm, ⟨1, _⟩ => ⟨S32x2048x128, .f32⟩
  | .hbm, ⟨2, _⟩ => ⟨S32x64, .f32⟩
  | .hbm, ⟨3, _⟩ => ⟨S32x64, .f32⟩
  | .hbm, ⟨4, _⟩ => ⟨S32x64x64, .f32⟩
  | .hbm, ⟨5, _⟩ => ⟨S32x64x64, .f32⟩
  | .hbm, ⟨6, _⟩ => ⟨S65536x128, .f32⟩
  | .hbm, ⟨7, _⟩ => ⟨S65536x128, .f32⟩
  | .hbm, ⟨8, _⟩ => ⟨S32x128, .f32⟩
  | .hbm, ⟨9, _⟩ => ⟨S32x128, .f32⟩
  | .hbm, ⟨10, _⟩ => ⟨S1x32x128, .f32⟩
  | .hbm, ⟨11, _⟩ => ⟨S1x32x128, .f32⟩
  | .hbm, ⟨12, _⟩ => ⟨S2x32x128, .f32⟩
  | .hbm, ⟨13, _⟩ => ⟨S_, .f32⟩
  | .hbm, ⟨14, _⟩ => ⟨S2x32x128x256, .f32⟩
  | .hbm, ⟨15, _⟩ => ⟨S32x64x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S3, .i32⟩
  | .hbm, ⟨23, _⟩ => ⟨S2x32x128x256, .f32⟩
  | .hbm, ⟨24, _⟩ => ⟨S32x64x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S3, .i32⟩
  | .hbm, ⟨32, _⟩ => ⟨S2x32x128x256, .f32⟩
  | .hbm, ⟨33, _⟩ => ⟨S32x64x128, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S3, .i32⟩
  | .hbm, ⟨41, _⟩ => ⟨S2x32x128x256, .f32⟩
  | .hbm, ⟨42, _⟩ => ⟨S32x64x128, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S3, .i32⟩
  | .hbm, ⟨50, _⟩ => ⟨S2x32x128x256, .f32⟩
  | .hbm, ⟨51, _⟩ => ⟨S2x32x128x256, .bf16⟩
  | .hbm, ⟨52, _⟩ => ⟨S4096x256, .bf16⟩
  | .hbm, ⟨53, _⟩ => ⟨S64x64x128, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2x32x128, .f32⟩
  | .local _ .vmem, ⟨5, _⟩ => ⟨S2x32x128x256, .bf16⟩
  | .local _ .vmem, ⟨6, _⟩ => ⟨S128x256, .bf16⟩
  | .local _ .vmem, ⟨7, _⟩ => ⟨S128x256, .bf16⟩
  | .local _ .vmem, ⟨8, _⟩ => ⟨S2x64x128, .bf16⟩
  | .local _ .vmem, ⟨9, _⟩ => ⟨S2x64x128, .bf16⟩
  | _, _ => ⟨S32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_c_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_8 : Ref sig .tc := ⟨.hbm, 43, rfl⟩
abbrev main_v27 : Ref sig .tc := ⟨.hbm, 44, rfl⟩
abbrev main_c_9 : Ref sig .tc := ⟨.hbm, 45, rfl⟩
abbrev main_v28 : Ref sig .tc := ⟨.hbm, 46, rfl⟩
abbrev main_c_10 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33_0 : Ref sig .tc := ⟨.hbm, 52, rfl⟩
abbrev main_v33_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x32x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CmpRefIdeal.lean ====
abbrev S32x2048x128 : Shape := ⟨3, ![32, 2048, 128]⟩
abbrev S32x64 : Shape := ⟨2, ![32, 64]⟩
abbrev S32x64x64 : Shape := ⟨3, ![32, 64, 64]⟩
abbrev S32x2048x2x64 : Shape := ⟨4, ![32, 2048, 2, 64]⟩
abbrev S32x128x16x2x64 : Shape := ⟨5, ![32, 128, 16, 2, 64]⟩
abbrev S32x127x16x2x64 : Shape := ⟨5, ![32, 127, 16, 2, 64]⟩
abbrev S32x127x32x2x64 : Shape := ⟨5, ![32, 127, 32, 2, 64]⟩
abbrev S1x1x32x1x64 : Shape := ⟨5, ![1, 1, 32, 1, 64]⟩
abbrev S32x127x2x64 : Shape := ⟨4, ![32, 127, 2, 64]⟩
abbrev S_ : Shape := ⟨0, ![]⟩
abbrev S32x128x2x64 : Shape := ⟨4, ![32, 128, 2, 64]⟩
abbrev S32x128x2x1x64 : Shape := ⟨5, ![32, 128, 2, 1, 64]⟩
abbrev S32x128x2x2x64 : Shape := ⟨5, ![32, 128, 2, 2, 64]⟩
abbrev S4096x256 : Shape := ⟨2, ![4096, 256]⟩
abbrev S32x2x64x128 : Shape := ⟨4, ![32, 2, 64, 128]⟩
abbrev S64x64x128 : Shape := ⟨3, ![64, 64, 128]⟩

abbrev nBuf : Space → Nat
  | .hbm => 38
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S32x2048x128, .f32⟩
  | .hbm, ⟨2, _⟩ => ⟨S32x64, .f32⟩
  | .hbm, ⟨3, _⟩ => ⟨S32x64, .f32⟩
  | .hbm, ⟨4, _⟩ => ⟨S32x64x64, .f32⟩
  | .hbm, ⟨5, _⟩ => ⟨S32x64x64, .f32⟩
  | .hbm, ⟨6, _⟩ => ⟨S32x2048x2x64, .f32⟩
  | .hbm, ⟨7, _⟩ => ⟨S32x128x16x2x64, .f32⟩
  | .hbm, ⟨8, _⟩ => ⟨S32x127x16x2x64, .f32⟩
  | .hbm, ⟨9, _⟩ => ⟨S32x127x16x2x64, .f32⟩
  | .hbm, ⟨10, _⟩ => ⟨S32x127x32x2x64, .f32⟩
  | .hbm, ⟨11, _⟩ => ⟨S1x1x32x1x64, .f32⟩
  | .hbm, ⟨12, _⟩ => ⟨S32x127x32x2x64, .f32⟩
  | .hbm, ⟨13, _⟩ => ⟨S32x127x32x2x64, .f32⟩
  | .hbm, ⟨14, _⟩ => ⟨S32x127x2x64, .f32⟩
  | .hbm, ⟨15, _⟩ => ⟨S32x2048x2x64, .f32⟩
  | .hbm, ⟨16, _⟩ => ⟨S32x128x16x2x64, .f32⟩
  | .hbm, ⟨17, _⟩ => ⟨S32x127x16x2x64, .f32⟩
  | .hbm, ⟨18, _⟩ => ⟨S32x127x16x2x64, .f32⟩
  | .hbm, ⟨19, _⟩ => ⟨S32x127x32x2x64, .f32⟩
  | .hbm, ⟨20, _⟩ => ⟨S1x1x32x1x64, .f32⟩
  | .hbm, ⟨21, _⟩ => ⟨S32x127x32x2x64, .f32⟩
  | .hbm, ⟨22, _⟩ => ⟨S32x127x32x2x64, .f32⟩
  | .hbm, ⟨23, _⟩ => ⟨S32x127x2x64, .f32⟩
  | .hbm, ⟨24, _⟩ => ⟨S_, .i32⟩
  | .hbm, ⟨25, _⟩ => ⟨S_, .f32⟩
  | .hbm, ⟨26, _⟩ => ⟨S32x128x2x64, .f32⟩
  | .hbm, ⟨27, _⟩ => ⟨S_, .i32⟩
  | .hbm, ⟨28, _⟩ => ⟨S_, .f32⟩
  | .hbm, ⟨29, _⟩ => ⟨S32x128x2x64, .f32⟩
  | .hbm, ⟨30, _⟩ => ⟨S32x128x2x1x64, .f32⟩
  | .hbm, ⟨31, _⟩ => ⟨S32x128x2x1x64, .f32⟩
  | .hbm, ⟨32, _⟩ => ⟨S32x128x2x2x64, .f32⟩
  | .hbm, ⟨33, _⟩ => ⟨S4096x256, .f32⟩
  | .hbm, ⟨34, _⟩ => ⟨S4096x256, .bf16⟩
  | .hbm, ⟨35, _⟩ => ⟨S32x2x64x128, .f32⟩
  | .hbm, ⟨36, _⟩ => ⟨S64x64x128, .f32⟩
  | .hbm, ⟨37, _⟩ => ⟨S64x64x128, .bf16⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_c_0 : Ref sig .tc := ⟨.hbm, 27, rfl⟩
abbrev main_call1_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.MergeRow.lean ====
/- The merge and MLP tail of the layer on ONE token's rows, over the extended reals: root-mean-square normalisation with a
   gain, the three mixers' normalised outputs side by side, the output projection with its normalised residual, and the
   squared-relu MLP with its normalised residual. Both programs are shown to compute `tail` on every token. -/
module

public import Idealize.ShloMosaic.Lib.Pointwise

@[expose] public section

noncomputable section

namespace Cert.Proof.Merge

open Idealize.ShloMosaic

/-- The row `x` divided by its root mean square (`d` its length, with the programs' small constant added under the root),
    times the gain `g`. -/
def rms {n : ℕ} (d : EReal) (x g : Fin n → EReal) (j : Fin n) : EReal :=
  x j * Ideal.rsqrt (Ideal.div (∑ k : Fin n, x k * x k) d + Ideal.ofBits .f32 0x358637BD#32) * g j

abbrev d256 : EReal := Ideal.ofBits .f32 0x43800000#32
abbrev d512 : EReal := Ideal.ofBits .f32 0x44000000#32
abbrev d1024 : EReal := Ideal.ofBits .f32 0x44800000#32

/-- Three rows side by side: 256, 512 and 256 lanes. -/
def side (a : Fin 256 → EReal) (b : Fin 512 → EReal) (c : Fin 256 → EReal) (k : Fin 1024) : EReal :=
  if h : k.val < 256 then a ⟨k.val, h⟩
  else if h' : k.val - 256 < 512 then b ⟨k.val - 256, h'⟩
  else c ⟨k.val - 256 - 512, by omega⟩

/-- A row times a matrix. -/
def lin {n p : ℕ} (x : Fin n → EReal) (w : Fin n → Fin p → EReal) (j : Fin p) : EReal := ∑ k : Fin n, x k * w k j

/-- The residual row plus the normalised projection of the merged row. -/
def mid (x : Fin 1024 → EReal) (o : Fin 1024 → EReal) (w : Fin 1024 → Fin 1024 → EReal) (g : Fin 1024 → EReal)
    (j : Fin 1024) : EReal := x j + rms d1024 (lin o w) g j

/-- The squared positive part. -/
def sqrelu {n : ℕ} (x : Fin n → EReal) (k : Fin n) : EReal := max (x k) 0 * max (x k) 0

/-- The MLP with its residual. -/
def mlp (y : Fin 1024 → EReal) (g₁ : Fin 1024 → EReal) (wu : Fin 1024 → Fin 4096 → EReal) (wd : Fin 4096 → Fin 1024 → EReal)
    (g₂ : Fin 1024 → EReal) (j : Fin 1024) : EReal :=
  y j + rms d1024 (lin (sqrelu (lin (rms d1024 y g₁) wu)) wd) g₂ j

/-- The whole tail on one token. -/
def tail (x : Fin 1024 → EReal) (a : Fin 256 → EReal) (b : Fin 512 → EReal) (c : Fin 256 → EReal)
    (ga : Fin 256 → EReal) (gb : Fin 512 → EReal) (gc : Fin 256 → EReal) (w : Fin 1024 → Fin 1024 → EReal)
    (g₁ g₂ : Fin 1024 → EReal) (wu : Fin 1024 → Fin 4096 → EReal) (wd : Fin 4096 → Fin 1024 → EReal)
    (g₃ : Fin 1024 → EReal) : Fin 1024 → EReal :=
  mlp (mid x (side (rms d256 a ga) (rms d512 b gb) (rms d256 c gc)) w g₁) g₂ wu wd g₃

end Cert.Proof.Merge

end
-- ==== Proof.MergeBody.lean ====
/- What the kernel's body computes at one row and lane of a block: the layer tail `tail` of that row. -/
module

public import proofs.«01_k».proof.Proof.MergeRow
public import proofs.«01_k».proof.Proof.Gen.MergeIdeal.Value

@[expose] public section

noncomputable section

namespace Cert.Proof.Merge

open Idealize.ShloMosaic Cert.MergeIdeal Cert.MergeIdeal.Gen

theorem pay2_apply (x : Vec Ideal S512x256 .f32) (g : Vec Ideal S1x256 .f32) (r : Fin 512) (l : Fin 256) :
    k0_pay2 x g (ix2 r l) = rms d256 (fun k => x (ix2 r k)) (fun k => g (ix2 0 k)) l := by
  pointwise [k0_pay2, rms]

theorem pay3_apply (x : Vec Ideal S512x512 .f32) (g : Vec Ideal S1x512 .f32) (r : Fin 512) (l : Fin 512) :
    k0_pay3 x g (ix2 r l) = rms d512 (fun k => x (ix2 r k)) (fun k => g (ix2 0 k)) l := by
  pointwise [k0_pay3, rms]

/-- The projection with its normalised residual, of any three mixers' blocks. -/
theorem pay7_apply (a : FVec Ideal S512x256 .f32) (b : FVec Ideal S512x512 .f32) (o : Vec Ideal S512x256 .f32)
    (g : Vec Ideal S1x256 .f32) (x : Vec Ideal S512x1024 .f32) (w : Vec Ideal S1024x1024 .bf16) (g₁ : Vec Ideal S1x1024 .f32)
    (r : Fin 512) (l : Fin 1024) :
    k0_pay7 a b (k0_pay4 o) (k0_pay5 o) (k0_pay6 (F := Ideal)) g x w g₁ (ix2 r l)
      = mid (fun k => x (ix2 r k))
          (side (fun k => a (ix2 r k)) (fun k => b (ix2 r k)) (rms d256 (fun k => o (ix2 r k)) (fun k => g (ix2 0 k))))
          (fun k j => w (ix2 k j)) (fun k => g₁ (ix2 0 k)) l := by
  have hc : ∀ k : Fin 1024, concatenate S512x1024 1 [⟨S512x256, a⟩, ⟨S512x512, b⟩, ⟨S512x256, mulf (mulf (k0_pay4 o)
        (broadcastTo S512x256 (rsqrt (addf (k0_pay5 o) (k0_pay6 (F := Ideal)))) broadcasts_S512x1_S512x256))
        (broadcastTo S512x256 (shapeCast S1x256 g shapeCasts_S1x256_S1x256) broadcasts_S1x256_S512x256)⟩]
        concatenates_S512x256_S512x512_S512x256_S512x1024_d1 (ix2 r k)
      = side (fun k => a (ix2 r k)) (fun k => b (ix2 r k)) (rms d256 (fun k => o (ix2 r k)) (fun k => g (ix2 0 k))) k := by
    intro k
    pointwise [k0_pay4, k0_pay5, k0_pay6, side, rms]
  unfold k0_pay7
  dsimp only
  generalize concatenate S512x1024 1 [⟨S512x256, a⟩, ⟨S512x512, b⟩, ⟨S512x256, mulf (mulf (k0_pay4 o)
        (broadcastTo S512x256 (rsqrt (addf (k0_pay5 o) (k0_pay6 (F := Ideal)))) broadcasts_S512x1_S512x256))
        (broadcastTo S512x256 (shapeCast S1x256 g shapeCasts_S1x256_S1x256) broadcasts_S1x256_S512x256)⟩]
        concatenates_S512x256_S512x512_S512x256_S512x1024_d1 = M at hc ⊢
  pointwise [mid, rms, lin]
  simp only [hc]

/-- The MLP with its residual, of any middle block `y`: the body normalises `y` under its own name. -/
theorem pay1_apply (y yn : FVec Ideal S512x1024 .f32) (g₂ g₃ : Vec Ideal S1x1024 .f32) (wu : Vec Ideal S1024x4096 .bf16)
    (wd : Vec Ideal S4096x1024 .bf16) (r : Fin 512) (l : Fin 1024)
    (h : ∀ k : Fin 1024, mulf yn (k0_pay9 g₂) (ix2 r k) = rms d1024 (fun k => y (ix2 r k)) (fun k => g₂ (ix2 0 k)) k) :
    k0_pay1 y yn (k0_pay9 g₂) wu wd g₃ (ix2 r l)
      = mlp (fun k => y (ix2 r k)) (fun k => g₂ (ix2 0 k)) (fun k j => wu (ix2 k j)) (fun k j => wd (ix2 k j))
          (fun k => g₃ (ix2 0 k)) l := by
  unfold k0_pay1
  dsimp only
  generalize mulf yn (k0_pay9 g₂) = M at h ⊢
  pointwise [mlp, rms, lin, sqrelu]
  simp only [h, rms]

/-- The whole block the body stores, at one row and lane. -/
theorem block_apply (x : Vec Ideal S512x1024 .f32) (a : Vec Ideal S512x256 .f32) (b : Vec Ideal S512x512 .f32)
    (o : Vec Ideal S512x256 .f32) (ga : Vec Ideal S1x256 .f32) (gb : Vec Ideal S1x512 .f32) (gc : Vec Ideal S1x256 .f32)
    (w : Vec Ideal S1024x1024 .bf16) (g₁ g₂ : Vec Ideal S1x1024 .f32) (wu : Vec Ideal S1024x4096 .bf16)
    (wd : Vec Ideal S4096x1024 .bf16) (g₃ : Vec Ideal S1x1024 .f32) (r : Fin 512) (l : Fin 1024) :
    out0_13 x a b o ga gb gc w g₁ g₂ wu wd g₃ (ix2 r l)
      = tail (fun k => x (ix2 r k)) (fun k => a (ix2 r k)) (fun k => b (ix2 r k)) (fun k => o (ix2 r k))
          (fun k => ga (ix2 0 k)) (fun k => gb (ix2 0 k)) (fun k => gc (ix2 0 k)) (fun k j => w (ix2 k j))
          (fun k => g₁ (ix2 0 k)) (fun k => g₂ (ix2 0 k)) (fun k j => wu (ix2 k j)) (fun k j => wd (ix2 k j))
          (fun k => g₃ (ix2 0 k)) l := by
  have hz : (![0, 0] : Fin 2 → Nat) = fun _ => 0 := funext fun a => by fin_cases a <;> rfl
  unfold_out out0_13
  rw [View.canon_unit_zero hz, View.ld_unit_zero hz, View.ld_unit_zero hz, View.ld_unit_zero hz, View.ld_unit_zero hz,
    View.ld_unit_zero hz, View.ld_unit_zero hz, View.ld_unit_zero hz, View.ld_unit_zero hz, View.ld_unit_zero hz,
    View.ld_unit_zero hz, View.ld_unit_zero hz, View.ld_unit_zero hz, View.ld_unit_zero hz]
  rw [pay1_apply _ _ _ _ _ _ _ _ (fun k => by
    unfold k0_pay8
    dsimp only
    generalize k0_pay7 (k0_pay2 a ga) (k0_pay3 b gb) (k0_pay4 o) (k0_pay5 o) (k0_pay6 (F := Ideal)) gc x w g₁ = y
    pointwise [k0_pay9, rms])]
  unfold tail
  congr 1
  funext k
  rw [pay7_apply]
  congr 1
  funext q
  congr 1 <;> funext i
  · exact pay2_apply ..
  · exact pay3_apply ..

end Cert.Proof.Merge

end
-- ==== Proof.MergeRun.lean ====
/- The kernel's result array as one function of its arguments: row `i` is the layer tail of token `i`. -/
module

public import proofs.«01_k».proof.Proof.MergeBody

@[expose] public section

noncomputable section

namespace Cert.Proof.Merge

open Idealize.ShloMosaic Idealize.ShloMosaic.TcCoe Idealize.SL.Sem

/-- Row `i`, lane `l` of the result, of the arguments as the layer holds them. -/
def result (x : (⟨3, ![32, 2048, 1024]⟩ : Shape).Idx → EReal) (a : (⟨3, ![32, 2048, 256]⟩ : Shape).Idx → EReal)
    (b : (⟨3, ![32, 2048, 512]⟩ : Shape).Idx → EReal) (o : (⟨3, ![32, 2048, 256]⟩ : Shape).Idx → EReal)
    (ga : (⟨1, ![256]⟩ : Shape).Idx → EReal) (gb : (⟨1, ![512]⟩ : Shape).Idx → EReal)
    (gc : (⟨2, ![4, 64]⟩ : Shape).Idx → EReal) (w : (⟨2, ![1024, 1024]⟩ : Shape).Idx → EReal)
    (g₁ g₂ : (⟨1, ![1024]⟩ : Shape).Idx → EReal) (wu : (⟨2, ![1024, 4096]⟩ : Shape).Idx → EReal)
    (wd : (⟨2, ![4096, 1024]⟩ : Shape).Idx → EReal) (g₃ : (⟨1, ![1024]⟩ : Shape).Idx → EReal)
    (j : (⟨2, ![65536, 1024]⟩ : Shape).Idx) : EReal :=
  let p : Fin 32 := ⟨(j 0).val / 2048, by have := (j 0).isLt; simp at this; omega⟩
  let q : Fin 2048 := ⟨(j 0).val % 2048, Nat.mod_lt _ (by norm_num)⟩
  tail (fun k => x (ix3 p q k)) (fun k => a (ix3 p q k)) (fun k => b (ix3 p q k)) (fun k => o (ix3 p q k))
    (fun k => ga (ix1 k)) (fun k => gb (ix1 k))
    (fun k => gc (ix2 ⟨k.val / 64, by omega⟩ ⟨k.val % 64, Nat.mod_lt _ (by norm_num)⟩)) (fun k l => w (ix2 k l))
    (fun k => g₁ (ix1 k)) (fun k => g₂ (ix1 k)) (fun k l => wu (ix2 k l)) (fun k l => wd (ix2 k l))
    (fun k => g₃ (ix1 k)) (j 1)

open Cert.MergeIdeal Cert.MergeIdeal.Gen Cert.MergeIdeal.Value
open Idealize.ShloMosaic.Pipeline (Dat)

/-- A stack of 32 batches of 2048 rows as one matrix of rows: row `i` is row `i % 2048` of batch `i / 2048`. -/
theorem cast_row {n : ℕ} (v : (⟨3, ![32, 2048, n]⟩ : Shape).Idx → EReal)
    (h : (⟨3, ![32, 2048, n]⟩ : Shape).ShapeCasts ⟨2, ![65536, n]⟩) (i : Fin 65536) (k : Fin n) :
    shapeCast _ v h (ix2 i k) = v (ix3 ⟨i.val / 2048, by omega⟩ ⟨i.val % 2048, Nat.mod_lt _ (by norm_num)⟩ k) := by
  refine shapeCast_apply _ h _ _ ?_
  rw [Shape.rowMajor_val_two, Shape.rowMajor_val_three]
  show (i.val / 2048 * 2048 + i.val % 2048) * n + k.val = i.val * n + k.val
  rw [Nat.div_add_mod']

/-- A vector as a matrix of one row. -/
theorem cast_one {n : ℕ} (v : (⟨1, ![n]⟩ : Shape).Idx → EReal) (h : (⟨1, ![n]⟩ : Shape).ShapeCasts ⟨2, ![1, n]⟩) (k : Fin n) :
    shapeCast _ v h (ix2 0 k) = v (ix1 k) := by
  refine shapeCast_apply _ h _ _ ?_
  rw [Shape.rowMajor_val_two, Shape.rowMajor_val_one]
  show k.val = 0 * n + k.val
  omega

/-- Four groups of 64 lanes as one row of 256. -/
theorem cast_groups (v : (⟨2, ![4, 64]⟩ : Shape).Idx → EReal) (h : (⟨2, ![4, 64]⟩ : Shape).ShapeCasts ⟨2, ![1, 256]⟩) (k : Fin 256) :
    shapeCast _ v h (ix2 0 k) = v (ix2 ⟨k.val / 64, by omega⟩ ⟨k.val % 64, Nat.mod_lt _ (by norm_num)⟩) := by
  refine shapeCast_apply _ h _ _ ?_
  rw [Shape.rowMajor_val_two, Shape.rowMajor_val_two]
  show k.val / 64 * 64 + k.val % 64 = 0 * 256 + k.val
  omega

variable (m : (ℓ : Loc nD τ sig) → Buf (Elt Ideal) ℓ) (ρ : Dev nD → PrngReg)

/-- Row `r` of block `t` among all the rows. -/
abbrev rowOf (t : Fin cfg0.N) (r : Fin 512) : Fin 65536 := ⟨t.val * 512 + r.val, by have : t.val < 128 := t.isLt; omega⟩

theorem idx_row : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_13.index t (0 : Fin 2) = t.val ∧ win0_13.index t (1 : Fin 2) = 0) :=
  (by decide +kernel : ∀ t : Fin grid0.N, _)

theorem idx_whole : ∀ t : Fin cfg0.N, (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

theorem V0 (c : Dev nD) : V m c main_v0 = shapeCast _ (m ((c : Thread nD τ).loc main_arg0)) shapeCasts_S32x2048x1024_S65536x1024 := by
  show StableHlo.after hostOps0 _ (Proc.devRef .tc main_v0) = _
  after_results
  rfl

theorem blk0 (c : Dev nD) (t : Fin cfg0.N) (r : Fin 512) (k : Fin 1024) :
    iblk m c 0 t (ix2 r k) = m ((c : Thread nD τ).loc main_arg0)
      (ix3 ⟨(rowOf t r).val / 2048, by omega⟩ ⟨(rowOf t r).val % 2048, Nat.mod_lt _ (by norm_num)⟩ k) := by
  have e := (idx_row t).1
  have hp : ((cfg0.win 0).blk t).view.emb (ix2 r k) = ix2 (rowOf t r) k := by
    funext a; apply Fin.ext
    match a with
    | ⟨0, _⟩ => show win0_0.index t (0 : Fin 2) * 512 + 1 * r.val = t.val * 512 + r.val; omega
    | ⟨1, _⟩ => show win0_0.index t (1 : Fin 2) * 1024 + 1 * k.val = k.val; omega
  show V m c main_v0 (((cfg0.win 0).blk t).view.emb (ix2 r k)) = _
  rw [hp, V0]
  exact cast_row _ _ _ _

theorem V1 (c : Dev nD) : V m c main_v1 = shapeCast _ (m ((c : Thread nD τ).loc main_arg1)) shapeCasts_S32x2048x256_S65536x256 := by
  show StableHlo.after hostOps0 _ (Proc.devRef .tc main_v1) = _
  after_results
  rfl

theorem blk1 (c : Dev nD) (t : Fin cfg0.N) (r : Fin 512) (k : Fin 256) :
    iblk m c 1 t (ix2 r k) = m ((c : Thread nD τ).loc main_arg1)
      (ix3 ⟨(rowOf t r).val / 2048, by omega⟩ ⟨(rowOf t r).val % 2048, Nat.mod_lt _ (by norm_num)⟩ k) := by
  have e := (idx_row t).2.1
  have hp : ((cfg0.win 1).blk t).view.emb (ix2 r k) = ix2 (rowOf t r) k := by
    funext a; apply Fin.ext
    match a with
    | ⟨0, _⟩ => show win0_1.index t (0 : Fin 2) * 512 + 1 * r.val = t.val * 512 + r.val; omega
    | ⟨1, _⟩ => show win0_1.index t (1 : Fin 2) * 256 + 1 * k.val = k.val; omega
  show V m c main_v1 (((cfg0.win 1).blk t).view.emb (ix2 r k)) = _
  rw [hp, V1]
  exact cast_row _ _ _ _

theorem V2 (c : Dev nD) : V m c main_v2 = shapeCast _ (m ((c : Thread nD τ).loc main_arg2)) shapeCasts_S32x2048x512_S65536x512 := by
  show StableHlo.after hostOps0 _ (Proc.devRef .tc main_v2) = _
  after_results
  rfl

theorem blk2 (c : Dev nD) (t : Fin cfg0.N) (r : Fin 512) (k : Fin 512) :
    iblk m c 2 t (ix2 r k) = m ((c : Thread nD τ).loc main_arg2)
      (ix3 ⟨(rowOf t r).val / 2048, by omega⟩ ⟨(rowOf t r).val % 2048, Nat.mod_lt _ (by norm_num)⟩ k) := by
  have e := (idx_row t).2.2.1
  have hp : ((cfg0.win 2).blk t).view.emb (ix2 r k) = ix2 (rowOf t r) k := by
    funext a; apply Fin.ext
    match a with
    | ⟨0, _⟩ => show win0_2.index t (0 : Fin 2) * 512 + 1 * r.val = t.val * 512 + r.val; omega
    | ⟨1, _⟩ => show win0_2.index t (1 : Fin 2) * 512 + 1 * k.val = k.val; omega
  show V m c main_v2 (((cfg0.win 2).blk t).view.emb (ix2 r k)) = _
  rw [hp, V2]
  exact cast_row _ _ _ _

theorem V3 (c : Dev nD) : V m c main_v3 = shapeCast _ (m ((c : Thread nD τ).loc main_arg3)) shapeCasts_S32x2048x256_S65536x256 := by
  show StableHlo.after hostOps0 _ (Proc.devRef .tc main_v3) = _
  after_results
  rfl

theorem blk3 (c : Dev nD) (t : Fin cfg0.N) (r : Fin 512) (k : Fin 256) :
    iblk m c 3 t (ix2 r k) = m ((c : Thread nD τ).loc main_arg3)
      (ix3 ⟨(rowOf t r).val / 2048, by omega⟩ ⟨(rowOf t r).val % 2048, Nat.mod_lt _ (by norm_num)⟩ k) := by
  have e := (idx_row t).2.2.2.1
  have hp : ((cfg0.win 3).blk t).view.emb (ix2 r k) = ix2 (rowOf t r) k := by
    funext a; apply Fin.ext
    match a with
    | ⟨0, _⟩ => show win0_3.index t (0 : Fin 2) * 512 + 1 * r.val = t.val * 512 + r.val; omega
    | ⟨1, _⟩ => show win0_3.index t (1 : Fin 2) * 256 + 1 * k.val = k.val; omega
  show V m c main_v3 (((cfg0.win 3).blk t).view.emb (ix2 r k)) = _
  rw [hp, V3]
  exact cast_row _ _ _ _

theorem V4 (c : Dev nD) : V m c main_v4 = shapeCast _ (m ((c : Thread nD τ).loc main_arg4)) shapeCasts_S256_S1x256 := by
  show StableHlo.after hostOps0 _ (Proc.devRef .tc main_v4) = _
  after_results
  rfl

theorem blk4 (c : Dev nD) (t : Fin cfg0.N) (k : Fin 256) :
    iblk m c 4 t (ix2 0 k) = m ((c : Thread nD τ).loc main_arg4) (ix1 k) := by
  have e := (idx_whole t).1
  have hp : ((cfg0.win 4).blk t).view.emb (ix2 0 k) = ix2 0 k := by
    funext a; apply Fin.ext
    match a with
    | ⟨0, _⟩ => show win0_4.index t (0 : Fin 2) * 1 + 1 * 0 = 0; omega
    | ⟨1, _⟩ => show win0_4.index t (1 : Fin 2) * 256 + 1 * k.val = k.val; omega
  show V m c main_v4 (((cfg0.win 4).blk t).view.emb (ix2 0 k)) = _
  rw [hp, V4]
  exact cast_one _ _ _

theorem V5 (c : Dev nD) : V m c main_v5 = shapeCast _ (m ((c : Thread nD τ).loc main_arg5)) shapeCasts_S512_S1x512 := by
  show StableHlo.after hostOps0 _ (Proc.devRef .tc main_v5) = _
  after_results
  rfl

theorem blk5 (c : Dev nD) (t : Fin cfg0.N) (k : Fin 512) :
    iblk m c 5 t (ix2 0 k) = m ((c : Thread nD τ).loc main_arg5) (ix1 k) := by
  have e := (idx_whole t).2.1
  have hp : ((cfg0.win 5).blk t).view.emb (ix2 0 k) = ix2 0 k := by
    funext a; apply Fin.ext
    match a with
    | ⟨0, _⟩ => show win0_5.index t (0 : Fin 2) * 1 + 1 * 0 = 0; omega
    | ⟨1, _⟩ => show win0_5.index t (1 : Fin 2) * 512 + 1 * k.val = k.val; omega
  show V m c main_v5 (((cfg0.win 5).blk t).view.emb (ix2 0 k)) = _
  rw [hp, V5]
  exact cast_one _ _ _

theorem V6 (c : Dev nD) : V m c main_v6 = shapeCast _ (m ((c : Thread nD τ).loc main_arg6)) shapeCasts_S4x64_S1x256 := by
  show StableHlo.after hostOps0 _ (Proc.devRef .tc main_v6) = _
  after_results
  rfl

theorem blk6 (c : Dev nD) (t : Fin cfg0.N) (k : Fin 256) :
    iblk m c 6 t (ix2 0 k) = m ((c : Thread nD τ).loc main_arg6) (ix2 ⟨k.val / 64, by omega⟩ ⟨k.val % 64, Nat.mod_lt _ (by norm_num)⟩) := by
  have e := (idx_whole t).2.2.1
  have hp : ((cfg0.win 6).blk t).view.emb (ix2 0 k) = ix2 0 k := by
    funext a; apply Fin.ext
    match a with
    | ⟨0, _⟩ => show win0_6.index t (0 : Fin 2) * 1 + 1 * 0 = 0; omega
    | ⟨1, _⟩ => show win0_6.index t (1 : Fin 2) * 256 + 1 * k.val = k.val; omega
  show V m c main_v6 (((cfg0.win 6).blk t).view.emb (ix2 0 k)) = _
  rw [hp, V6]
  exact cast_groups _ _ _

theorem V8 (c : Dev nD) : V m c main_v8 = shapeCast _ (m ((c : Thread nD τ).loc main_arg8)) shapeCasts_S1024_S1x1024 := by
  show StableHlo.after hostOps0 _ (Proc.devRef .tc main_v8) = _
  after_results
  rfl

theorem blk8 (c : Dev nD) (t : Fin cfg0.N) (k : Fin 1024) :
    iblk m c 8 t (ix2 0 k) = m ((c : Thread nD τ).loc main_arg8) (ix1 k) := by
  have e := (idx_whole t).2.2.2.2.1
  have hp : ((cfg0.win 8).blk t).view.emb (ix2 0 k) = ix2 0 k := by
    funext a; apply Fin.ext
    match a with
    | ⟨0, _⟩ => show win0_8.index t (0 : Fin 2) * 1 + 1 * 0 = 0; omega
    | ⟨1, _⟩ => show win0_8.index t (1 : Fin 2) * 1024 + 1 * k.val = k.val; omega
  show V m c main_v8 (((cfg0.win 8).blk t).view.emb (ix2 0 k)) = _
  rw [hp, V8]
  exact cast_one _ _ _

theorem V9 (c : Dev nD) : V m c main_v9 = shapeCast _ (m ((c : Thread nD τ).loc main_arg9)) shapeCasts_S1024_S1x1024 := by
  show StableHlo.after hostOps0 _ (Proc.devRef .tc main_v9) = _
  after_results
  rfl

theorem blk9 (c : Dev nD) (t : Fin cfg0.N) (k : Fin 1024) :
    iblk m c 9 t (ix2 0 k) = m ((c : Thread nD τ).loc main_arg9) (ix1 k) := by
  have e := (idx_whole t).2.2.2.2.2.1
  have hp : ((cfg0.win 9).blk t).view.emb (ix2 0 k) = ix2 0 k := by
    funext a; apply Fin.ext
    match a with
    | ⟨0, _⟩ => show win0_9.index t (0 : Fin 2) * 1 + 1 * 0 = 0; omega
    | ⟨1, _⟩ => show win0_9.index t (1 : Fin 2) * 1024 + 1 * k.val = k.val; omega
  show V m c main_v9 (((cfg0.win 9).blk t).view.emb (ix2 0 k)) = _
  rw [hp, V9]
  exact cast_one _ _ _

theorem V12 (c : Dev nD) : V m c main_v12 = shapeCast _ (m ((c : Thread nD τ).loc main_arg12)) shapeCasts_S1024_S1x1024 := by
  show StableHlo.after hostOps0 _ (Proc.devRef .tc main_v12) = _
  after_results
  rfl

theorem blk12 (c : Dev nD) (t : Fin cfg0.N) (k : Fin 1024) :
    iblk m c 12 t (ix2 0 k) = m ((c : Thread nD τ).loc main_arg12) (ix1 k) := by
  have e := (idx_whole t).2.2.2.2.2.2.2.2
  have hp : ((cfg0.win 12).blk t).view.emb (ix2 0 k) = ix2 0 k := by
    funext a; apply Fin.ext
    match a with
    | ⟨0, _⟩ => show win0_12.index t (0 : Fin 2) * 1 + 1 * 0 = 0; omega
    | ⟨1, _⟩ => show win0_12.index t (1 : Fin 2) * 1024 + 1 * k.val = k.val; omega
  show V m c main_v12 (((cfg0.win 12).blk t).view.emb (ix2 0 k)) = _
  rw [hp, V12]
  exact cast_one _ _ _

theorem V7 (c : Dev nD) : V m c main_v7 = (truncf (φ := .f32) .bf16 (m ((c : Thread nD τ).loc main_arg7)) bitsLt_bf16_f32 : FVec Ideal S1024x1024 .bf16) := by
  show StableHlo.after hostOps0 _ (Proc.devRef .tc main_v7) = _
  after_results

theorem blk7 (c : Dev nD) (t : Fin cfg0.N) (k : Fin 1024) (l : Fin 1024) :
    iblk m c 7 t (ix2 k l) = m ((c : Thread nD τ).loc main_arg7) (ix2 k l) := by
  have e := (idx_whole t).2.2.2.1
  have hp : ((cfg0.win 7).blk t).view.emb (ix2 k l) = ix2 k l := by
    funext a; apply Fin.ext
    match a with
    | ⟨0, _⟩ => show win0_7.index t (0 : Fin 2) * 1024 + 1 * k.val = k.val; omega
    | ⟨1, _⟩ => show win0_7.index t (1 : Fin 2) * 1024 + 1 * l.val = l.val; omega
  show V m c main_v7 (((cfg0.win 7).blk t).view.emb (ix2 k l)) = _
  rw [hp, V7]
  rfl

theorem V10 (c : Dev nD) : V m c main_v10 = (truncf (φ := .f32) .bf16 (m ((c : Thread nD τ).loc main_arg10)) bitsLt_bf16_f32 : FVec Ideal S1024x4096 .bf16) := by
  show StableHlo.after hostOps0 _ (Proc.devRef .tc main_v10) = _
  after_results

theorem blk10 (c : Dev nD) (t : Fin cfg0.N) (k : Fin 1024) (l : Fin 4096) :
    iblk m c 10 t (ix2 k l) = m ((c : Thread nD τ).loc main_arg10) (ix2 k l) := by
  have e := (idx_whole t).2.2.2.2.2.2.1
  have hp : ((cfg0.win 10).blk t).view.emb (ix2 k l) = ix2 k l := by
    funext a; apply Fin.ext
    match a with
    | ⟨0, _⟩ => show win0_10.index t (0 : Fin 2) * 1024 + 1 * k.val = k.val; omega
    | ⟨1, _⟩ => show win0_10.index t (1 : Fin 2) * 4096 + 1 * l.val = l.val; omega
  show V m c main_v10 (((cfg0.win 10).blk t).view.emb (ix2 k l)) = _
  rw [hp, V10]
  rfl

theorem V11 (c : Dev nD) : V m c main_v11 = (truncf (φ := .f32) .bf16 (m ((c : Thread nD τ).loc main_arg11)) bitsLt_bf16_f32 : FVec Ideal S4096x1024 .bf16) := by
  show StableHlo.after hostOps0 _ (Proc.devRef .tc main_v11) = _
  after_results

theorem blk11 (c : Dev nD) (t : Fin cfg0.N) (k : Fin 4096) (l : Fin 1024) :
    iblk m c 11 t (ix2 k l) = m ((c : Thread nD τ).loc main_arg11) (ix2 k l) := by
  have e := (idx_whole t).2.2.2.2.2.2.2.1
  have hp : ((cfg0.win 11).blk t).view.emb (ix2 k l) = ix2 k l := by
    funext a; apply Fin.ext
    match a with
    | ⟨0, _⟩ => show win0_11.index t (0 : Fin 2) * 4096 + 1 * k.val = k.val; omega
    | ⟨1, _⟩ => show win0_11.index t (1 : Fin 2) * 1024 + 1 * l.val = l.val; omega
  show V m c main_v11 (((cfg0.win 11).blk t).view.emb (ix2 k l)) = _
  rw [hp, V11]
  rfl

/-- The result array of a device, from that device's arguments at launch. -/
def G (c : Dev nD) : S65536x1024.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem emb13 (t : Fin cfg0.N) (r : Fin 512) (l : Fin 1024) :
    ((cfg0.win 13).blk t).view.emb (ix2 r l) = ix2 (rowOf t r) l := by
  have e := (idx_row t).2.2.2.2
  funext a; apply Fin.ext
  match a with
  | ⟨0, _⟩ => show win0_13.index t (0 : Fin 2) * 512 + 1 * r.val = t.val * 512 + r.val; omega
  | ⟨1, _⟩ => show win0_13.index t (1 : Fin 2) * 1024 + 1 * l.val = l.val; omega

theorem flushed_eq (c : Dev nD) (t : Fin cfg0.N) :
    (dats m 0 c).flushed 13 t = ((cfg0.win 13).blk t).view.read (Elt Ideal) (G m c) := by
  rw [flushed13]
  funext (j : S512x1024.Idx)
  obtain ⟨r, l, rfl⟩ : ∃ (r : Fin 512) (l : Fin 1024), j = ix2 r l := ⟨j 0, j 1, eq_ix2 j⟩
  show out0_13 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (ix2 r l)
    = G m c (((cfg0.win 13).blk t).view.emb (ix2 r l))
  rw [emb13, block_apply]
  simp only [blk0, blk1, blk2, blk3, blk4, blk5, blk6, blk7, blk8, blk9, blk10, blk11, blk12]
  rfl

theorem covered (i : S65536x1024.Idx) :
    ∃ t : Fin cfg0.N, (cfg0.win 13).flush t = true ∧ i ∈ ((cfg0.win 13).blk t).view.set := by
  obtain ⟨a, l, rfl⟩ : ∃ (a : Fin 65536) (l : Fin 1024), i = ix2 a l := ⟨i 0, i 1, eq_ix2 i⟩
  let t : Fin cfg0.N := ⟨a.val / 512, show a.val / 512 < 128 by omega⟩
  refine ⟨t, flush0_13 t, ?_⟩
  have h := ((cfg0.win 13).blk t).view.emb_mem_set (ix2 ⟨a.val % 512, Nat.mod_lt _ (by norm_num)⟩ l)
  rw [emb13] at h
  have ha : rowOf t ⟨a.val % 512, Nat.mod_lt _ (by norm_num)⟩ = a := Fin.ext (by show a.val / 512 * 512 + a.val % 512 = a.val; omega)
  rwa [ha] at h

/-- After the run the result array holds, row by row, the layer tail of the arguments. -/
theorem final (c : Dev nD) : (dats m 0 c).arrAt 13 cfg0.N = G m c :=
  (dats m 0 c).arrAt_eq_of_cover 13 (G m c) (fun t _ => flushed_eq m c t) covered

end Cert.Proof.Merge

end
-- ==== Proof.MergeRef.lean ====
/- What the reference program computes at one row and lane: the same layer tail. -/
module

public import proofs.«01_k».proof.Proof.MergeRow
public import proofs.«01_k».proof.Proof.Gen.MergeRefIdeal.Run
public import proofs.«01_k».proof.Proof.Gen.MergeRefIdeal.Read

@[expose] public section

noncomputable section

namespace Cert.Proof.Merge

open Idealize.ShloMosaic Cert.MergeRefIdeal Cert.MergeRefIdeal.Read

variable (x : Vec Ideal S32x2048x1024 .f32) (a : Vec Ideal S32x2048x256 .f32) (b : Vec Ideal S32x2048x512 .f32)
  (o : Vec Ideal S32x2048x256 .f32) (ga : Vec Ideal S256 .f32) (gb : Vec Ideal S512 .f32) (gc : Vec Ideal S4x64 .f32)
  (w : Vec Ideal S1024x1024 .f32) (g₁ g₂ : Vec Ideal S1024 .f32) (wu : Vec Ideal S1024x4096 .f32)
  (wd : Vec Ideal S4096x1024 .f32) (g₃ : Vec Ideal S1024 .f32) (p : Fin 32) (q : Fin 2048)

theorem ref12 (l : Fin 256) : val_main_v12 (F := Ideal) a ga (ix3 p q l) = rms d256 (fun k => a (ix3 p q k)) (fun k => ga (ix1 k)) l := by
  pointwise [val_main_v0, val_main_cst, val_main_v1, val_main_v2, val_main_cst_0, val_main_v3, val_main_v4, val_main_cst_1,
    val_main_v5, val_main_v6, val_main_v7, val_main_v8, val_main_v9, val_main_v10, val_main_v11, val_main_v12, rms]

theorem ref25 (l : Fin 512) : val_main_v25 (F := Ideal) b gb (ix3 p q l) = rms d512 (fun k => b (ix3 p q k)) (fun k => gb (ix1 k)) l := by
  pointwise [val_main_v13, val_main_cst_2, val_main_v14, val_main_v15, val_main_cst_3, val_main_v16, val_main_v17, val_main_cst_4,
    val_main_v18, val_main_v19, val_main_v20, val_main_v21, val_main_v22, val_main_v23, val_main_v24, val_main_v25, rms]

theorem ref39 (l : Fin 256) : val_main_v39 (F := Ideal) o gc (ix3 p q l)
    = rms d256 (fun k => o (ix3 p q k)) (fun k => gc (ix2 ⟨k.val / 64, by omega⟩ ⟨k.val % 64, Nat.mod_lt _ (by norm_num)⟩)) l := by
  pointwise [val_main_v26, val_main_cst_5, val_main_v27, val_main_v28, val_main_cst_6, val_main_v29, val_main_v30, val_main_cst_7,
    val_main_v31, val_main_v32, val_main_v33, val_main_v34, val_main_v35, val_main_v36, val_main_v37, val_main_v38, val_main_v39, rms]

theorem ref40 (k : Fin 1024) : val_main_v40 (F := Ideal) a b o ga gb gc (ix3 p q k)
    = side (rms d256 (fun k => a (ix3 p q k)) (fun k => ga (ix1 k))) (rms d512 (fun k => b (ix3 p q k)) (fun k => gb (ix1 k)))
        (rms d256 (fun k => o (ix3 p q k)) (fun k => gc (ix2 ⟨k.val / 64, by omega⟩ ⟨k.val % 64, Nat.mod_lt _ (by norm_num)⟩))) k := by
  unfold val_main_v40 side
  pointwise
  simp only [ref12, ref25, ref39]

/-- The residual with the normalised projection. -/
theorem ref55 (l : Fin 1024) : val_main_v55 (F := Ideal) x a b o ga gb gc w g₁ (ix3 p q l)
    = mid (fun k => x (ix3 p q k))
        (side (rms d256 (fun k => a (ix3 p q k)) (fun k => ga (ix1 k))) (rms d512 (fun k => b (ix3 p q k)) (fun k => gb (ix1 k)))
          (rms d256 (fun k => o (ix3 p q k)) (fun k => gc (ix2 ⟨k.val / 64, by omega⟩ ⟨k.val % 64, Nat.mod_lt _ (by norm_num)⟩))))
        (fun k j => w (ix2 k j)) (fun k => g₁ (ix1 k)) l := by
  have h := ref40 a b o ga gb gc p q
  unfold val_main_v55 val_main_v54 val_main_v51 val_main_v50 val_main_v49 val_main_v48 val_main_v46 val_main_v44 val_main_v43 val_main_v42 val_main_v41
  generalize val_main_v40 (F := Ideal) a b o ga gb gc = M at h ⊢
  pointwise [val_main_cst_8, val_main_cst_9, val_main_v45, val_main_cst_10, val_main_v47, val_main_v52, val_main_v53, mid, rms, lin]
  simp only [h, rms]

/-- The whole reference before its last reshape. -/
theorem ref86 (l : Fin 1024) : val_main_v86 (F := Ideal) x a b o ga gb gc w g₁ g₂ wu wd g₃ (ix3 p q l)
    = tail (fun k => x (ix3 p q k)) (fun k => a (ix3 p q k)) (fun k => b (ix3 p q k)) (fun k => o (ix3 p q k))
        (fun k => ga (ix1 k)) (fun k => gb (ix1 k))
        (fun k => gc (ix2 ⟨k.val / 64, by omega⟩ ⟨k.val % 64, Nat.mod_lt _ (by norm_num)⟩)) (fun k j => w (ix2 k j))
        (fun k => g₁ (ix1 k)) (fun k => g₂ (ix1 k)) (fun k j => wu (ix2 k j)) (fun k j => wd (ix2 k j))
        (fun k => g₃ (ix1 k)) l := by
  have h := ref55 x a b o ga gb gc w g₁ p q
  have h' : ∀ k : Fin 1024, val_main_v68 (F := Ideal) x a b o ga gb gc w g₁ g₂ (ix3 p q k)
      = rms d1024 (fun k => val_main_v55 (F := Ideal) x a b o ga gb gc w g₁ (ix3 p q k)) (fun k => g₂ (ix1 k)) k := by
    intro k
    unfold val_main_v68 val_main_v65 val_main_v64 val_main_v63 val_main_v62 val_main_v60 val_main_v58 val_main_v57 val_main_v56
    generalize val_main_v55 (F := Ideal) x a b o ga gb gc w g₁ = M
    pointwise [val_main_cst_11, val_main_cst_12, val_main_v59, val_main_cst_13, val_main_v61, val_main_v66, val_main_v67, rms]
  unfold val_main_v86 val_main_v85 val_main_v82 val_main_v81 val_main_v80 val_main_v79 val_main_v77 val_main_v75 val_main_v74
    val_main_v73 val_main_v72 val_main_v71 val_main_v70 val_main_v69
  generalize val_main_v68 (F := Ideal) x a b o ga gb gc w g₁ g₂ = N at h' ⊢
  unfold tail
  rw [← funext h]
  generalize val_main_v55 (F := Ideal) x a b o ga gb gc w g₁ = M at h' ⊢
  pointwise [val_main_call0_cst, val_main_call0_v0, val_main_cst_14, val_main_cst_15, val_main_v76, val_main_cst_16,
    val_main_v78, val_main_v83, val_main_v84, mlp, rms, lin, sqrelu]
  simp only [h', rms]

end Cert.Proof.Merge

end
-- ==== Proof.MergeClaim.lean ====
/- The merge and MLP tail: the kernel and the reference end with equal results over the extended reals. -/
module

public import proofs.«01_k».proof.Defs
public import proofs.«01_k».proof.Proof.MergeRun
public import proofs.«01_k».proof.Proof.MergeRef

@[expose] public section

noncomputable section

namespace Cert.Proof.Merge

open Idealize.ShloMosaic Idealize.ShloMosaic.TcCoe Idealize.SL.Sem

/-- The reference's result array is the kernel's function of the same arguments. -/
theorem ref_eq (x : Vec Ideal MergeRefIdeal.S32x2048x1024 .f32) (a : Vec Ideal MergeRefIdeal.S32x2048x256 .f32)
    (b : Vec Ideal MergeRefIdeal.S32x2048x512 .f32) (o : Vec Ideal MergeRefIdeal.S32x2048x256 .f32)
    (ga : Vec Ideal MergeRefIdeal.S256 .f32) (gb : Vec Ideal MergeRefIdeal.S512 .f32) (gc : Vec Ideal MergeRefIdeal.S4x64 .f32)
    (w : Vec Ideal MergeRefIdeal.S1024x1024 .f32) (g₁ g₂ : Vec Ideal MergeRefIdeal.S1024 .f32)
    (wu : Vec Ideal MergeRefIdeal.S1024x4096 .f32) (wd : Vec Ideal MergeRefIdeal.S4096x1024 .f32)
    (g₃ : Vec Ideal MergeRefIdeal.S1024 .f32) :
    MergeRefIdeal.Read.val_main_v87 (F := Ideal) x a b o ga gb gc w g₁ g₂ wu wd g₃ = result x a b o ga gb gc w g₁ g₂ wu wd g₃ := by
  funext j
  obtain ⟨i, l, rfl⟩ : ∃ (i : Fin 65536) (l : Fin 1024), j = ix2 i l := ⟨j 0, j 1, eq_ix2 j⟩
  unfold MergeRefIdeal.Read.val_main_v87
  refine (cast_row _ _ i l).trans ?_
  rw [ref86]
  rfl

theorem claim : Cert.algebraic_MergeIdeal_MergeRefIdeal (hMergeIdeal := Cert.MergeIdeal.Gen.facts)
    (hMergeRefIdeal := Cert.MergeRefIdeal.Gen.facts) := by
  intro m ρ m' ρ' _ hag
  refine ⟨fun c => G m c, ?_, ?_⟩
  · exact (θ_run _ _ _).mono (fun r h c => ⟨(h c).1.trans (final m c), (h c).2⟩) (MergeIdeal.Value.run_blocks m ρ)
  · refine (θ_run _ _ _).mono (fun r h c => ⟨(h c).1.trans ?_, (h c).2⟩) (MergeRefIdeal.Value.run m' ρ')
    rw [MergeRefIdeal.Read.val_main_v87_eq, ref_eq]
    obtain ⟨h0, h1, h2, h3, h4, h5, h6, h7, h8, h9, h10, h11, h12⟩ := hag c
    show result (m' ((c.tc : Thread MergeRefIdeal.nD MergeRefIdeal.τ).loc MergeRefIdeal.main_arg0)) (m' ((c.tc : Thread MergeRefIdeal.nD MergeRefIdeal.τ).loc MergeRefIdeal.main_arg1)) (m' ((c.tc : Thread MergeRefIdeal.nD MergeRefIdeal.τ).loc MergeRefIdeal.main_arg2)) (m' ((c.tc : Thread MergeRefIdeal.nD MergeRefIdeal.τ).loc MergeRefIdeal.main_arg3)) (m' ((c.tc : Thread MergeRefIdeal.nD MergeRefIdeal.τ).loc MergeRefIdeal.main_arg4)) (m' ((c.tc : Thread MergeRefIdeal.nD MergeRefIdeal.τ).loc MergeRefIdeal.main_arg5)) (m' ((c.tc : Thread MergeRefIdeal.nD MergeRefIdeal.τ).loc MergeRefIdeal.main_arg6)) (m' ((c.tc : Thread MergeRefIdeal.nD MergeRefIdeal.τ).loc MergeRefIdeal.main_arg7)) (m' ((c.tc : Thread MergeRefIdeal.nD MergeRefIdeal.τ).loc MergeRefIdeal.main_arg8)) (m' ((c.tc : Thread MergeRefIdeal.nD MergeRefIdeal.τ).loc MergeRefIdeal.main_arg9)) (m' ((c.tc : Thread MergeRefIdeal.nD MergeRefIdeal.τ).loc MergeRefIdeal.main_arg10)) (m' ((c.tc : Thread MergeRefIdeal.nD MergeRefIdeal.τ).loc MergeRefIdeal.main_arg11)) (m' ((c.tc : Thread MergeRefIdeal.nD MergeRefIdeal.τ).loc MergeRefIdeal.main_arg12)) = G m c
    unfold G
    rw [← h0, ← h1, ← h2, ← h3, ← h4, ← h5, ← h6, ← h7, ← h8, ← h9, ← h10, ← h11, ← h12]

end Cert.Proof.Merge

end
-- ==== Proof.ProjRow.lean ====
/- One token of the input projection: its normalised row times the weights, the rotary rotation of a head, and the
   fifteen results of the call lane by lane. -/
module

public import Mathlib.Data.EReal.Operations
public import Idealize.ShloMosaic.Lib.Pointwise
public import proofs.«01_k».proof.Proof.MergeRow

@[expose] public section

noncomputable section

namespace Cert.Proof.Proj

open Idealize.ShloMosaic

abbrev d128 : EReal := Ideal.ofBits .f32 0x43000000#32

/-- A head's lanes with the first `2 * h` of them rotated in pairs `(d, d + h)` by the angles of cosine `c` and sine `s`;
    the other lanes are left as they are. -/
def rope {n : ℕ} (h : ℕ) (hn : 2 * h ≤ n) (v : Fin n → EReal) (c s : Fin h → EReal) (d : Fin n) : EReal :=
  if h₁ : d.val < h then v d * c ⟨d.val, h₁⟩ - v ⟨d.val + h, by omega⟩ * s ⟨d.val, h₁⟩
  else if h₂ : d.val - h < h then v ⟨d.val - h, by omega⟩ * s ⟨d.val - h, h₂⟩ + v d * c ⟨d.val - h, h₂⟩
  else v d

/-- The token's projected columns. -/
def cols (x g : Fin 1024 → EReal) (w : Fin 1024 → Fin 2108 → EReal) : Fin 2108 → EReal :=
  Merge.lin (Merge.rms Merge.d1024 x g) w

/-- The low-rank latent, normalised and taken up to one key and one value head. -/
def latent (p : Fin 2108 → EReal) (g : Fin 128 → EReal) (w : Fin 128 → Fin 128 → EReal) : Fin 128 → EReal :=
  Merge.lin (Merge.rms d128 (fun k => p ⟨256 + k.val, by omega⟩) g) w

/-- One head of 64 lanes rotated: the columns from `b` on. -/
def head (b : ℕ) (hb : b + 64 ≤ 2108) (t : Fin 2108 → EReal) (c s : Fin 8 → EReal) : Fin 64 → EReal :=
  rope 8 (by omega) (fun d => t ⟨b + d.val, by omega⟩) c s

/-- One indexer head of 32 lanes rotated. -/
def ihead (b : ℕ) (hb : b + 32 ≤ 2108) (t : Fin 2108 → EReal) (c s : Fin 4 → EReal) : Fin 32 → EReal :=
  rope 4 (by omega) (fun d => t ⟨b + d.val, by omega⟩) c s

abbrev lane64 (l : ℕ) : Fin 64 := ⟨l % 64, Nat.mod_lt _ (by norm_num)⟩
abbrev lane32 (l : ℕ) : Fin 32 := ⟨l % 32, Nat.mod_lt _ (by norm_num)⟩

/-- The two scalings of a query: by `1/8`, and by `log₂ e / 8`. -/
abbrev κ : EReal := Ideal.ofBits .f32 0x3E000000#32
abbrev κ₂ : EReal := Ideal.ofBits .f32 0x3E38AA3B#32

variable (t : Fin 2108 → EReal) (u : Fin 128 → EReal) (c s : Fin 8 → EReal) (ci si : Fin 4 → EReal)

def qa (l : Fin 256) : EReal := head (l.val / 64 * 64) (by omega) t c s (lane64 l.val) * κ₂
def ka (l : Fin 128) : EReal := rope 8 (by omega) (fun d : Fin 64 => u ⟨d.val, by omega⟩) c s (lane64 l.val)
def va (d : Fin 64) : EReal := u ⟨64 + d.val, by omega⟩
def qidx (l : Fin 128) : EReal := ihead (384 + l.val / 32 * 32) (by omega) t ci si (lane32 l.val)
def kidx (l : Fin 128) : EReal := ihead 512 (by omega) t ci si (lane32 l.val)
def qbn (l : Fin 512) : EReal := t ⟨548 + l.val, by omega⟩ * κ
def qbr (l : Fin 512) : EReal := head (548 + l.val / 64 * 64) (by omega) t c s (lane64 l.val) * κ₂
def kslc (l : Fin 256) : EReal := head (1316 + l.val / 128 * 64) (by omega) t c s (lane64 l.val)
def kwin (l : Fin 256) : EReal := head (1572 + l.val / 128 * 64) (by omega) t c s (lane64 l.val)
def plain {n : ℕ} (b : ℕ) (hb : b + n ≤ 2108) (l : Fin n) : EReal := t ⟨b + l.val, by omega⟩
def misc (l : Fin 128) : EReal :=
  if h₁ : l.val < 4 then t ⟨544 + l.val, by omega⟩ else if h₂ : l.val - 4 < 24 then t ⟨1828 + (l.val - 4), by omega⟩
  else Ideal.ofBits .f32 0x00000000#32

/-- A result held token by token: row `i` is token `i % 2048` of batch `i / 2048`. -/
def rows {n : ℕ} (f : Fin 32 → Fin 2048 → Fin n → EReal) (j : (⟨2, ![65536, n]⟩ : Shape).Idx) : EReal :=
  f ⟨(j 0).val / 2048, by have := (j 0).isLt; simp at this; omega⟩ ⟨(j 0).val % 2048, Nat.mod_lt _ (by norm_num)⟩ (j 1)

/-- A result held transposed by chunks of 256 tokens. -/
def turned {n : ℕ} (f : Fin 32 → Fin 2048 → Fin n → EReal) (j : (⟨3, ![256, n, 256]⟩ : Shape).Idx) : EReal :=
  f ⟨(j 0).val / 8, by have := (j 0).isLt; simp at this; omega⟩
    ⟨(j 0).val % 8 * 256 + (j 2).val, by have := (j 2).isLt; simp at this; omega⟩ (j 1)

/-- The projected columns of token `q` of batch `p`. -/
def tok (x : (⟨3, ![32, 2048, 1024]⟩ : Shape).Idx → EReal) (w : (⟨2, ![1024, 2108]⟩ : Shape).Idx → EReal)
    (g : (⟨1, ![1024]⟩ : Shape).Idx → EReal) (p : Fin 32) (q : Fin 2048) : Fin 2108 → EReal :=
  cols (fun k => x (ix3 p q k)) (fun k => g (ix1 k)) (fun k j => w (ix2 k j))

/-- Its latent key and value. -/
def lat (x : (⟨3, ![32, 2048, 1024]⟩ : Shape).Idx → EReal) (w : (⟨2, ![1024, 2108]⟩ : Shape).Idx → EReal)
    (gk : (⟨1, ![128]⟩ : Shape).Idx → EReal) (wk : (⟨2, ![128, 128]⟩ : Shape).Idx → EReal)
    (g : (⟨1, ![1024]⟩ : Shape).Idx → EReal) (p : Fin 32) (q : Fin 2048) : Fin 128 → EReal :=
  latent (tok x w g p q) (fun k => gk (ix1 k)) (fun k j => wk (ix2 k j))

/-- A stack of 32 batches of 2048 rows, each row in heads, as one matrix of rows. -/
theorem cast_heads {a b n : ℕ} (hab : n = a * b) (hb : 0 < b) (v : (⟨4, ![32, 2048, a, b]⟩ : Shape).Idx → EReal)
    (h : (⟨4, ![32, 2048, a, b]⟩ : Shape).ShapeCasts ⟨2, ![65536, n]⟩) (i : Fin 65536) (k : Fin n) :
    shapeCast _ v h (ix2 i k) = v (ix4 ⟨i.val / 2048, by omega⟩ ⟨i.val % 2048, Nat.mod_lt _ (by norm_num)⟩
      ⟨k.val / b, by rw [Nat.div_lt_iff_lt_mul hb, ← hab]; exact k.isLt⟩ ⟨k.val % b, Nat.mod_lt _ hb⟩) := by
  refine shapeCast_apply _ h _ _ ?_
  rw [Shape.rowMajor_val_two, Shape.rowMajor_val_four]
  show ((i.val / 2048 * 2048 + i.val % 2048) * a + k.val / b) * b + k.val % b = i.val * n + k.val
  rw [Nat.div_add_mod', Nat.add_mul, Nat.add_assoc, Nat.div_add_mod', Nat.mul_assoc, ← hab]

/-- The same with every head twice. -/
theorem cast_twice (v : (⟨5, ![32, 2048, 2, 2, 64]⟩ : Shape).Idx → EReal)
    (h : (⟨5, ![32, 2048, 2, 2, 64]⟩ : Shape).ShapeCasts ⟨2, ![65536, 256]⟩) (i : Fin 65536) (k : Fin 256) :
    shapeCast _ v h (ix2 i k) = v (ix5 ⟨i.val / 2048, by omega⟩ ⟨i.val % 2048, Nat.mod_lt _ (by norm_num)⟩
      ⟨k.val / 128, by omega⟩ ⟨k.val / 64 % 2, by omega⟩ ⟨k.val % 64, by omega⟩) := by
  refine shapeCast_apply _ h _ _ ?_
  rw [Shape.rowMajor_val_two, Shape.rowMajor_val_five]
  show (((i.val / 2048 * 2048 + i.val % 2048) * 2 + k.val / 128) * 2 + k.val / 64 % 2) * 64 + k.val % 64 = i.val * 256 + k.val
  omega

/-- A stack of 32 batches of 2048 rows as 256 chunks of 256 rows. -/
theorem cast_chunks {n : ℕ} (v : (⟨3, ![32, 2048, n]⟩ : Shape).Idx → EReal)
    (h : (⟨3, ![32, 2048, n]⟩ : Shape).ShapeCasts ⟨3, ![256, 256, n]⟩) (a b : Fin 256) (k : Fin n) :
    shapeCast _ v h (ix3 a b k) = v (ix3 ⟨a.val / 8, by omega⟩ ⟨a.val % 8 * 256 + b.val, by omega⟩ k) := by
  refine shapeCast_apply _ h _ _ ?_
  rw [Shape.rowMajor_val_three, Shape.rowMajor_val_three]
  show (a.val / 8 * 2048 + (a.val % 8 * 256 + b.val)) * n + k.val = (a.val * 256 + b.val) * n + k.val
  rw [show a.val / 8 * 2048 + (a.val % 8 * 256 + b.val) = a.val * 256 + b.val by omega]

end Cert.Proof.Proj

end
-- ==== Proof.ProjTable.lean ====
/- The rotation of a row of 128 lanes that holds two heads of 64 lanes, or four of 32, made of the row and its two
   shifts times three tables of coefficients. -/
module

public import proofs.«01_k».proof.Proof.ProjRow

@[expose] public section

noncomputable section

namespace Cert.Proof.Proj

open Idealize.ShloMosaic

/-- The coefficient of the lane itself. -/
def tA {h : ℕ} (n : ℕ) (c : Fin h → EReal) (l : ℕ) : EReal :=
  if h₁ : l % n < h then c ⟨l % n, h₁⟩ else if h₂ : l % n - h < h then c ⟨l % n - h, h₂⟩ else 1

/-- The coefficient of the lane `h` above. -/
def tB {h : ℕ} (n : ℕ) (s : Fin h → EReal) (l : ℕ) : EReal :=
  if h₁ : l % n < h then - s ⟨l % n, h₁⟩ else 0

/-- The coefficient of the lane `h` below. -/
def tC {h : ℕ} (n : ℕ) (s : Fin h → EReal) (l : ℕ) : EReal :=
  if l % n < h then 0 else if h₂ : l % n - h < h then s ⟨l % n - h, h₂⟩ else 0

/-- A row times the three tables, each shift given by the lanes it drops. -/
def spin (p q : ℕ) (v : Fin 128 → EReal) (a b c : Fin 128 → EReal) (l : Fin 128) : EReal :=
  v l * a l + v ⟨(l.val + 128 - p) % 128, Nat.mod_lt _ (by norm_num)⟩ * b l
    + v ⟨(l.val + 128 - q) % 128, Nat.mod_lt _ (by norm_num)⟩ * c l

theorem spin_heads (v : Fin 128 → EReal) (c s : Fin 8 → EReal) (l : Fin 128) :
    spin 120 8 v (fun l => tA 64 c l.val) (fun l => tB 64 s l.val) (fun l => tC 64 s l.val) l
      = rope 8 (by omega) (fun d : Fin 64 => v ⟨l.val / 64 * 64 + d.val, by omega⟩) c s (lane64 l.val) := by
  unfold spin tA tB tC rope
  have h0 : (⟨l.val / 64 * 64 + l.val % 64, by omega⟩ : Fin 128) = l := Fin.ext (by simp only; omega)
  by_cases h₁ : l.val % 64 < 8
  · have e : (⟨(l.val + 128 - 120) % 128, Nat.mod_lt _ (by norm_num)⟩ : Fin 128)
        = ⟨l.val / 64 * 64 + (l.val % 64 + 8), by omega⟩ := Fin.ext (by simp only; omega)
    simp only [h₁, dif_pos, if_pos, mul_zero, add_zero, mul_neg, sub_eq_add_neg, h0, e]
  · by_cases h₂ : l.val % 64 - 8 < 8
    · have e : (⟨(l.val + 128 - 8) % 128, Nat.mod_lt _ (by norm_num)⟩ : Fin 128)
        = ⟨l.val / 64 * 64 + (l.val % 64 - 8), by omega⟩ := Fin.ext (by simp only; omega)
      simp only [h₁, h₂, dif_pos, if_neg, dif_neg, not_false_eq_true, mul_zero, add_zero, h0, e]
      exact add_comm _ _
    · simp only [h₁, h₂, if_neg, dif_neg, not_false_eq_true, mul_zero, add_zero, mul_one, h0]

theorem spin_iheads (v : Fin 128 → EReal) (c s : Fin 4 → EReal) (l : Fin 128) :
    spin 124 4 v (fun l => tA 32 c l.val) (fun l => tB 32 s l.val) (fun l => tC 32 s l.val) l
      = rope 4 (by omega) (fun d : Fin 32 => v ⟨l.val / 32 * 32 + d.val, by omega⟩) c s (lane32 l.val) := by
  unfold spin tA tB tC rope
  have h0 : (⟨l.val / 32 * 32 + l.val % 32, by omega⟩ : Fin 128) = l := Fin.ext (by simp only; omega)
  by_cases h₁ : l.val % 32 < 4
  · have e : (⟨(l.val + 128 - 124) % 128, Nat.mod_lt _ (by norm_num)⟩ : Fin 128)
        = ⟨l.val / 32 * 32 + (l.val % 32 + 4), by omega⟩ := Fin.ext (by simp only; omega)
    simp only [h₁, dif_pos, if_pos, mul_zero, add_zero, mul_neg, sub_eq_add_neg, h0, e]
  · by_cases h₂ : l.val % 32 - 4 < 4
    · have e : (⟨(l.val + 128 - 4) % 128, Nat.mod_lt _ (by norm_num)⟩ : Fin 128)
        = ⟨l.val / 32 * 32 + (l.val % 32 - 4), by omega⟩ := Fin.ext (by simp only; omega)
      simp only [h₁, h₂, dif_pos, if_neg, dif_neg, not_false_eq_true, mul_zero, add_zero, h0, e]
      exact add_comm _ _
    · simp only [h₁, h₂, if_neg, dif_neg, not_false_eq_true, mul_zero, add_zero, mul_one, h0]

/-- A sum against a column with one entry. -/
theorem one_hot {n : ℕ} (f g : Fin n → EReal) (t : Fin n) (a : EReal) (h : ∀ x, g x = if x = t then a else 0) :
    ∑ x, f x * g x = f t * a := by
  simp only [h, mul_ite, mul_zero, Finset.sum_ite_eq', Finset.mem_univ, if_true, Finset.sum_ite_eq]

/-- A sum against a column with none. -/
theorem none_hot {n : ℕ} (f g : Fin n → EReal) (h : ∀ x, g x = 0) : ∑ x, f x * g x = 0 := by
  simp only [h, mul_zero, Finset.sum_const_zero]

theorem bit_one : (FloatOps.uitofp (F := Ideal) .f32 (1#1) : EReal) = 1 := by
  simp [FloatOps.uitofp]

theorem bit_zero : (FloatOps.uitofp (F := Ideal) .f32 (0#1) : EReal) = 0 := by
  simp [FloatOps.uitofp]

/-- A bit taken to a number. -/
theorem bit (b : BitVec 1) : (FloatOps.uitofp (F := Ideal) .f32 b : EReal) = if b = 1#1 then 1 else 0 := by
  have h : b = 0#1 ∨ b = 1#1 := by revert b; decide
  rcases h with rfl | rfl
  · rw [bit_zero]; rfl
  · rw [bit_one]; rfl

theorem either64 : ∀ (L : Fin 64) (x : Fin 8), IntOp.ori (IntOp.cmpi .eq (BitVec.ofNat 32 L.val) (BitVec.ofNat 32 x.val))
    (IntOp.cmpi .eq (BitVec.ofNat 32 L.val) (IntOp.addi (BitVec.ofNat 32 x.val) 8#32)) = 1#1 ↔ L.val = x.val ∨ L.val = x.val + 8 := by
  decide +kernel

theorem first64 : ∀ (L : Fin 64) (x : Fin 8), IntOp.cmpi .eq (BitVec.ofNat 32 L.val) (BitVec.ofNat 32 x.val) = 1#1 ↔ L.val = x.val := by
  decide +kernel

theorem second64 : ∀ (L : Fin 64) (x : Fin 8),
    IntOp.cmpi .eq (BitVec.ofNat 32 L.val) (IntOp.addi (BitVec.ofNat 32 x.val) 8#32) = 1#1 ↔ L.val = x.val + 8 := by
  decide +kernel

theorem past64 : ∀ L : Fin 64, IntOp.cmpi .sge (BitVec.ofNat 32 L.val) 16#32 = 1#1 ↔ 16 ≤ L.val := by
  decide +kernel

theorem either32 : ∀ (L : Fin 32) (x : Fin 4), IntOp.ori (IntOp.cmpi .eq (BitVec.ofNat 32 L.val) (BitVec.ofNat 32 x.val))
    (IntOp.cmpi .eq (BitVec.ofNat 32 L.val) (IntOp.addi (BitVec.ofNat 32 x.val) 4#32)) = 1#1 ↔ L.val = x.val ∨ L.val = x.val + 4 := by
  decide +kernel

theorem first32 : ∀ (L : Fin 32) (x : Fin 4), IntOp.cmpi .eq (BitVec.ofNat 32 L.val) (BitVec.ofNat 32 x.val) = 1#1 ↔ L.val = x.val := by
  decide +kernel

theorem second32 : ∀ (L : Fin 32) (x : Fin 4),
    IntOp.cmpi .eq (BitVec.ofNat 32 L.val) (IntOp.addi (BitVec.ofNat 32 x.val) 4#32) = 1#1 ↔ L.val = x.val + 4 := by
  decide +kernel

theorem past32 : ∀ L : Fin 32, IntOp.cmpi .sge (BitVec.ofNat 32 L.val) 8#32 = 1#1 ↔ 8 ≤ L.val := by
  decide +kernel

end Cert.Proof.Proj

end
-- ==== Proof.ProjBody.lean ====
/- What the projection's body computes at one row and lane of a block. -/
module

public import proofs.«01_k».proof.Proof.ProjTable
public import proofs.«01_k».proof.Proof.Gen.ProjIdeal.Value

@[expose] public section

noncomputable section

namespace Cert.Proof.Proj

open Idealize.ShloMosaic Idealize.ShloMosaic.TcCoe Idealize.SL.Sem
open Cert.ProjIdeal Cert.ProjIdeal.Gen Cert.ProjIdeal.Value

/-- One row of a block's product with the weights, at any column. -/
theorem pay1_apply (x : Vec Ideal S512x1024 .f32) (g : Vec Ideal S1x1024 .f32) (w : Vec Ideal S1024x2560 .bf16)
    (r : Fin 512) (l : Fin 2560) :
    k0_pay1 x g w (ix2 r l)
      = Merge.lin (Merge.rms Merge.d1024 (fun k => x (ix2 r k)) (fun k => g (ix2 0 k))) (fun k j => w (ix2 k j)) l := by
  pointwise [k0_pay1, Merge.lin, Merge.rms]

/-- One row of the keys and values, at any column. -/
theorem pay13_apply (P : FVec Ideal S512x2560 .f32) (g : Vec Ideal S1x128 .f32) (w : Vec Ideal S128x256 .bf16)
    (r : Fin 512) (l : Fin 256) :
    k0_pay13 P g w (ix2 r l)
      = Merge.lin (Merge.rms d128 (fun k => P (ix2 r ⟨256 + k.val, by omega⟩)) (fun k => g (ix2 0 k))) (fun k j => w (ix2 k j)) l := by
  pointwise [k0_pay13, Merge.lin, Merge.rms]

section

variable (P : FVec Ideal S512x2560 .f32) (A B C : FVec Ideal S512x128 .f32) (KV : FVec Ideal S512x256 .f32) (r : Fin 512)

theorem pay12_apply (l : Fin 128) :
    k0_pay12 P A B C (ix2 r l) = spin 120 8 (fun k : Fin 128 => P (ix2 r ⟨128 + k.val, by omega⟩)) (fun k => A (ix2 r k)) (fun k => B (ix2 r k)) (fun k => C (ix2 r k)) l * κ₂ := by
  pointwise [k0_pay12, spin]

theorem pay24_apply (l : Fin 128) :
    k0_pay24 P A B C (ix2 r l) = spin 124 4 (fun k : Fin 128 => P (ix2 r ⟨384 + k.val, by omega⟩)) (fun k => A (ix2 r k)) (fun k => B (ix2 r k)) (fun k => C (ix2 r k)) l := by
  pointwise [k0_pay24, spin]

theorem pay25_apply (l : Fin 128) :
    k0_pay25 P A B C (ix2 r l) = spin 124 4 (fun k : Fin 128 => P (ix2 r ⟨512 + k.val, by omega⟩)) (fun k => A (ix2 r k)) (fun k => B (ix2 r k)) (fun k => C (ix2 r k)) l := by
  pointwise [k0_pay25, spin]

theorem pay29_apply (l : Fin 128) :
    k0_pay29 B C (k0_pay26 P) (k0_pay28 P A) 120#32 (ix2 r l) = spin 120 8 (fun k : Fin 128 => P (ix2 r ⟨640 + k.val, by omega⟩)) (fun k => A (ix2 r k)) (fun k => B (ix2 r k)) (fun k => C (ix2 r k)) l * κ₂ := by
  pointwise [k0_pay29, k0_pay26, k0_pay28, spin]

theorem pay32_apply (l : Fin 128) :
    k0_pay32 P A B C (ix2 r l) = spin 120 8 (fun k : Fin 128 => P (ix2 r ⟨768 + k.val, by omega⟩)) (fun k => A (ix2 r k)) (fun k => B (ix2 r k)) (fun k => C (ix2 r k)) l * κ₂ := by
  pointwise [k0_pay32, k0_pay30, spin]

theorem pay36_apply (l : Fin 128) :
    k0_pay36 (k0_pay35 P A B C) (Scalar.ofBits .f32 0x3E38AA3B#32) (ix2 r l) = spin 120 8 (fun k : Fin 128 => P (ix2 r ⟨896 + k.val, by omega⟩)) (fun k => A (ix2 r k)) (fun k => B (ix2 r k)) (fun k => C (ix2 r k)) l * κ₂ := by
  pointwise [k0_pay36, k0_pay35, k0_pay33, spin]

theorem pay39_apply (l : Fin 128) :
    k0_pay39 P A B C (ix2 r l) = spin 120 8 (fun k : Fin 128 => P (ix2 r ⟨1024 + k.val, by omega⟩)) (fun k => A (ix2 r k)) (fun k => B (ix2 r k)) (fun k => C (ix2 r k)) l * κ₂ := by
  pointwise [k0_pay39, k0_pay37, spin]

theorem pay41_apply (l : Fin 128) :
    k0_pay41 P A B C (ix2 r l) = spin 120 8 (fun k : Fin 128 => P (ix2 r ⟨1408 + k.val, by omega⟩)) (fun k => A (ix2 r k)) (fun k => B (ix2 r k)) (fun k => C (ix2 r k)) l := by
  pointwise [k0_pay41, spin]

theorem pay47_apply (l : Fin 128) :
    k0_pay47 P A B C (ix2 r l) = spin 120 8 (fun k : Fin 128 => P (ix2 r ⟨1536 + k.val, by omega⟩)) (fun k => A (ix2 r k)) (fun k => B (ix2 r k)) (fun k => C (ix2 r k)) l := by
  pointwise [k0_pay47, spin]

theorem pay44_apply (l : Fin 128) :
    k0_pay44 C (k0_pay42 P) (k0_pay43 P A B) 8#32 (ix2 r l) = spin 120 8 (fun k : Fin 128 => P (ix2 r ⟨1792 + k.val, by omega⟩)) (fun k => A (ix2 r k)) (fun k => B (ix2 r k)) (fun k => C (ix2 r k)) l := by
  pointwise [k0_pay44, k0_pay42, k0_pay43, spin]

theorem pay48_apply (l : Fin 128) :
    k0_pay48 P A B C (ix2 r l) = spin 120 8 (fun k : Fin 128 => P (ix2 r ⟨1920 + k.val, by omega⟩)) (fun k => A (ix2 r k)) (fun k => B (ix2 r k)) (fun k => C (ix2 r k)) l := by
  pointwise [k0_pay48, spin]

theorem pay27_apply (l : Fin 128) : k0_pay27 P (ix2 r l) = P (ix2 r ⟨640 + l.val, by omega⟩) * κ := by
  pointwise [k0_pay27, k0_pay30, k0_pay33, k0_pay37, k0_pay26]

theorem pay31_apply (l : Fin 128) : k0_pay31 P (ix2 r l) = P (ix2 r ⟨768 + l.val, by omega⟩) * κ := by
  pointwise [k0_pay31, k0_pay30, k0_pay33, k0_pay37, k0_pay26]

theorem pay34_apply (l : Fin 128) : k0_pay34 P (ix2 r l) = P (ix2 r ⟨896 + l.val, by omega⟩) * κ := by
  pointwise [k0_pay34, k0_pay30, k0_pay33, k0_pay37, k0_pay26]

theorem pay38_apply (l : Fin 128) : k0_pay38 P (ix2 r l) = P (ix2 r ⟨1024 + l.val, by omega⟩) * κ := by
  pointwise [k0_pay38, k0_pay30, k0_pay33, k0_pay37, k0_pay26]

theorem pay40_apply (l : Fin 128) : k0_pay40 P (ix2 r l) = P (ix2 r ⟨1152 + l.val, by omega⟩) := by
  pointwise [k0_pay40, k0_pay30, k0_pay33, k0_pay37, k0_pay26]

theorem pay46_apply (l : Fin 128) : k0_pay46 P (ix2 r l) = P (ix2 r ⟨1280 + l.val, by omega⟩) := by
  pointwise [k0_pay46, k0_pay30, k0_pay33, k0_pay37, k0_pay26]

theorem pay45_apply (l : Fin 128) : k0_pay45 P (ix2 r l) = P (ix2 r ⟨2304 + l.val, by omega⟩) := by
  pointwise [k0_pay45, k0_pay30, k0_pay33, k0_pay37, k0_pay26]

theorem pay49_apply (l : Fin 128) : k0_pay49 P (ix2 r l) = P (ix2 r ⟨2432 + l.val, by omega⟩) := by
  pointwise [k0_pay49, k0_pay30, k0_pay33, k0_pay37, k0_pay26]

theorem pay50_apply (l : Fin 128) : k0_pay50 P (ix2 r l) = P (ix2 r ⟨2176 + l.val, by omega⟩) := by
  pointwise [k0_pay50, k0_pay30, k0_pay33, k0_pay37, k0_pay26]

theorem pay18_apply (d : Fin 128) (b : Fin 256) :
    k0_pay18 P (ix3 0 d b) = P (ix2 ⟨0 + b.val, by omega⟩ ⟨1664 + d.val, by omega⟩) := by
  pointwise [k0_pay18, k0_pay14]

theorem pay22_apply (d : Fin 128) (b : Fin 256) :
    k0_pay22 (k0_pay21 P) (ix3 0 d b) = P (ix2 ⟨256 + b.val, by omega⟩ ⟨1664 + d.val, by omega⟩) := by
  pointwise [k0_pay22, k0_pay21, k0_pay14]

theorem pay19_apply (d : Fin 128) (b : Fin 256) :
    k0_pay19 P (ix3 0 d b) = P (ix2 ⟨0 + b.val, by omega⟩ ⟨2048 + d.val, by omega⟩) := by
  pointwise [k0_pay19, k0_pay14]

theorem pay23_apply (d : Fin 128) (b : Fin 256) :
    k0_pay23 P (ix3 0 d b) = P (ix2 ⟨256 + b.val, by omega⟩ ⟨2048 + d.val, by omega⟩) := by
  pointwise [k0_pay23, k0_pay14]

theorem pay17_apply (d : Fin 64) (b : Fin 256) :
    k0_pay17 KV (ix3 0 d b) = KV (ix2 ⟨0 + b.val, by omega⟩ ⟨128 + d.val, by omega⟩) := by
  pointwise [k0_pay17]

theorem pay20_apply (d : Fin 64) (b : Fin 256) :
    k0_pay20 KV (ix3 0 d b) = KV (ix2 ⟨256 + b.val, by omega⟩ ⟨128 + d.val, by omega⟩) := by
  pointwise [k0_pay20]

theorem pay11_apply (x : Vec Ideal S512x1024 .f32) (g : Vec Ideal S1x1024 .f32) (w : Vec Ideal S1024x2560 .bf16)
    (A B : Vec Ideal S512x128 .f32) (l : Fin 128) :
    k0_pay11 C (k0_pay8 x g w) (k0_pay9 x g w A) (k0_pay10 x g w B) (ix2 r l)
      = spin 120 8 (fun k : Fin 128 => k0_pay1 x g w (ix2 r ⟨0 + k.val, by omega⟩)) (fun k => A (ix2 r k)) (fun k => B (ix2 r k)) (fun k => C (ix2 r k)) l * κ₂ := by
  unfold k0_pay9 k0_pay10 k0_pay8
  generalize k0_pay1 x g w = P
  pointwise [k0_pay11, k0_pay2, k0_pay3, spin]

theorem pay16_apply (gk : Vec Ideal S1x128 .f32) (wk : Vec Ideal S128x256 .bf16) (l : Fin 128) :
    k0_pay16 B C (k0_pay14 P gk wk) (k0_pay15 P A gk wk) (ix2 r l)
      = spin 120 8 (fun k : Fin 128 => k0_pay13 P gk wk (ix2 r ⟨k.val, by omega⟩)) (fun k => A (ix2 r k)) (fun k => B (ix2 r k)) (fun k => C (ix2 r k)) l := by
  unfold k0_pay15 k0_pay14
  generalize k0_pay13 P gk wk = KV
  pointwise [k0_pay16, spin]

end

end Cert.Proof.Proj

end
-- ==== Proof.ProjBlock.lean ====
/- The fifteen blocks the projection's body leaves, lane by lane, of blocks whose rows are known tokens. -/
module

public import proofs.«01_k».proof.Proof.ProjBody

@[expose] public section

noncomputable section

namespace Cert.Proof.Proj

open Idealize.ShloMosaic Idealize.ShloMosaic.TcCoe Idealize.SL.Sem
open Cert.ProjIdeal Cert.ProjIdeal.Gen Cert.ProjIdeal.Value

theorem rope_eq {n h : ℕ} (hn : 2 * h ≤ n) (v v' : Fin n → EReal) (c s : Fin h → EReal) (d d' : Fin n) (hv : ∀ e, v e = v' e)
    (hd : d.val = d'.val) : rope h hn v c s d = rope h hn v' c s d' := by
  obtain rfl : d = d' := Fin.ext hd
  obtain rfl : v = v' := funext hv
  rfl

/-- Row by row, the products, the keys and values and the rotation tables of a block, named as token `t`'s columns, its
    latent `u` and its angles' cosines and sines. -/
structure Blocks (x0 : Vec Ideal S512x1024 .f32) (x1 : Vec Ideal S1x1024 .f32) (x2 : Vec Ideal S1024x2560 .bf16)
    (x3 : Vec Ideal S1x128 .f32) (x4 : Vec Ideal S128x256 .bf16) (x5 : Vec Ideal S512x384 .f32) (x6 : Vec Ideal S512x384 .f32)
    (t : Fin 512 → Fin 2108 → EReal) (u : Fin 512 → Fin 128 → EReal) (c s : Fin 512 → Fin 8 → EReal)
    (ci si : Fin 512 → Fin 4 → EReal) : Prop where
  p124 : ∀ (r : Fin 512) (l : Fin 256), k0_pay1 x0 x1 x2 (ix2 r ⟨0 + l.val, by omega⟩) = t r ⟨0 + l.val, by omega⟩
  p125 : ∀ (r : Fin 512) (l : Fin 128), k0_pay1 x0 x1 x2 (ix2 r ⟨256 + l.val, by omega⟩) = t r ⟨256 + l.val, by omega⟩
  p126 : ∀ (r : Fin 512) (l : Fin 128), k0_pay1 x0 x1 x2 (ix2 r ⟨384 + l.val, by omega⟩) = t r ⟨384 + l.val, by omega⟩
  p142 : ∀ (r : Fin 512) (l : Fin 128), k0_pay1 x0 x1 x2 (ix2 r ⟨512 + l.val, by omega⟩) = t r ⟨512 + l.val % 32, by omega⟩
  p129 : ∀ (r : Fin 512) (l : Fin 512), k0_pay1 x0 x1 x2 (ix2 r ⟨640 + l.val, by omega⟩) = t r ⟨548 + l.val, by omega⟩
  p130 : ∀ (r : Fin 512) (l : Fin 128), k0_pay1 x0 x1 x2 (ix2 r ⟨1152 + l.val, by omega⟩) = t r ⟨1060 + l.val, by omega⟩
  p131 : ∀ (r : Fin 512) (l : Fin 128), k0_pay1 x0 x1 x2 (ix2 r ⟨1280 + l.val, by omega⟩) = t r ⟨1188 + l.val, by omega⟩
  p145 : ∀ (r : Fin 512) (l : Fin 256), k0_pay1 x0 x1 x2 (ix2 r ⟨1408 + l.val, by omega⟩) = t r ⟨1316 + (l.val / 128 * 64 + l.val % 64), by omega⟩
  p133 : ∀ (r : Fin 512) (l : Fin 128), k0_pay1 x0 x1 x2 (ix2 r ⟨1664 + l.val, by omega⟩) = t r ⟨1444 + l.val, by omega⟩
  p148 : ∀ (r : Fin 512) (l : Fin 256), k0_pay1 x0 x1 x2 (ix2 r ⟨1792 + l.val, by omega⟩) = t r ⟨1572 + (l.val / 128 * 64 + l.val % 64), by omega⟩
  p135 : ∀ (r : Fin 512) (l : Fin 128), k0_pay1 x0 x1 x2 (ix2 r ⟨2048 + l.val, by omega⟩) = t r ⟨1700 + l.val, by omega⟩
  p139 : ∀ (r : Fin 512) (l : Fin 128), k0_pay1 x0 x1 x2 (ix2 r ⟨2176 + l.val, by omega⟩) = if h₁ : l.val < 4 then t r ⟨544 + l.val, by omega⟩
      else if h₂ : l.val - 4 < 24 then t r ⟨1828 + (l.val - 4), by omega⟩ else (0 : EReal)
  p137 : ∀ (r : Fin 512) (l : Fin 256), k0_pay1 x0 x1 x2 (ix2 r ⟨2304 + l.val, by omega⟩) = t r ⟨1852 + l.val, by omega⟩
  kv : ∀ (r : Fin 512) (l : Fin 128), k0_pay13 (k0_pay1 x0 x1 x2) x3 x4 (ix2 r ⟨l.val, by omega⟩) = u r ⟨l.val % 64, by omega⟩
  kv' : ∀ (r : Fin 512) (l : Fin 64), k0_pay13 (k0_pay1 x0 x1 x2) x3 x4 (ix2 r ⟨128 + l.val, by omega⟩) = u r ⟨64 + l.val, by omega⟩
  a5A : ∀ (r : Fin 512) (l : Fin 128), x5 (ix2 r ⟨0 + l.val, by omega⟩) = tA 64 (c r) l.val
  a6A : ∀ (r : Fin 512) (l : Fin 128), x6 (ix2 r ⟨0 + l.val, by omega⟩) = tA 32 (ci r) l.val
  a5B : ∀ (r : Fin 512) (l : Fin 128), x5 (ix2 r ⟨128 + l.val, by omega⟩) = tB 64 (s r) l.val
  a6B : ∀ (r : Fin 512) (l : Fin 128), x6 (ix2 r ⟨128 + l.val, by omega⟩) = tB 32 (si r) l.val
  a5C : ∀ (r : Fin 512) (l : Fin 128), x5 (ix2 r ⟨256 + l.val, by omega⟩) = tC 64 (s r) l.val
  a6C : ∀ (r : Fin 512) (l : Fin 128), x6 (ix2 r ⟨256 + l.val, by omega⟩) = tC 32 (si r) l.val

theorem z2 : (![0, 0] : Fin 2 → Nat) = fun _ => 0 := funext fun a => by fin_cases a <;> rfl

theorem ld3 (x : Vec Ideal S512x384 .f32) (r : Fin 512) (k : Fin 128) : View.ld x r0_3 (ix2 r k) = x (ix2 r ⟨0 + k.val, by omega⟩) := by
  refine congrArg x (funext fun a => Fin.ext ?_)
  match a with
  | ⟨0, _⟩ => show 0 + 1 * r.val = r.val; omega
  | ⟨1, _⟩ => show 0 + 1 * k.val = 0 + k.val; omega

theorem ld4 (x : Vec Ideal S512x384 .f32) (r : Fin 512) (k : Fin 128) : View.ld x r0_4 (ix2 r k) = x (ix2 r ⟨128 + k.val, by omega⟩) := by
  refine congrArg x (funext fun a => Fin.ext ?_)
  match a with
  | ⟨0, _⟩ => show 0 + 1 * r.val = r.val; omega
  | ⟨1, _⟩ => show 128 + 1 * k.val = 128 + k.val; omega

theorem ld5 (x : Vec Ideal S512x384 .f32) (r : Fin 512) (k : Fin 128) : View.ld x r0_5 (ix2 r k) = x (ix2 r ⟨256 + k.val, by omega⟩) := by
  refine congrArg x (funext fun a => Fin.ext ?_)
  match a with
  | ⟨0, _⟩ => show 0 + 1 * r.val = r.val; omega
  | ⟨1, _⟩ => show 256 + 1 * k.val = 256 + k.val; omega

theorem emb6 (r : Fin 512) (k : Fin 128) : r0_6.emb (ix2 r k) = ix2 r ⟨0 + k.val, by omega⟩ := by
  refine funext fun a => Fin.ext ?_
  match a with
  | ⟨0, _⟩ => show 0 + 1 * r.val = r.val; omega
  | ⟨1, _⟩ => show 0 + 1 * k.val = 0 + k.val; omega

theorem emb7 (r : Fin 512) (k : Fin 128) : r0_7.emb (ix2 r k) = ix2 r ⟨128 + k.val, by omega⟩ := by
  refine funext fun a => Fin.ext ?_
  match a with
  | ⟨0, _⟩ => show 0 + 1 * r.val = r.val; omega
  | ⟨1, _⟩ => show 128 + 1 * k.val = 128 + k.val; omega

theorem emb15 (r : Fin 512) (k : Fin 128) : r0_15.emb (ix2 r k) = ix2 r ⟨0 + k.val, by omega⟩ := by
  refine funext fun a => Fin.ext ?_
  match a with
  | ⟨0, _⟩ => show 0 + 1 * r.val = r.val; omega
  | ⟨1, _⟩ => show 0 + 1 * k.val = 0 + k.val; omega

theorem emb16 (r : Fin 512) (k : Fin 128) : r0_16.emb (ix2 r k) = ix2 r ⟨128 + k.val, by omega⟩ := by
  refine funext fun a => Fin.ext ?_
  match a with
  | ⟨0, _⟩ => show 0 + 1 * r.val = r.val; omega
  | ⟨1, _⟩ => show 128 + 1 * k.val = 128 + k.val; omega

theorem emb17 (r : Fin 512) (k : Fin 128) : r0_17.emb (ix2 r k) = ix2 r ⟨256 + k.val, by omega⟩ := by
  refine funext fun a => Fin.ext ?_
  match a with
  | ⟨0, _⟩ => show 0 + 1 * r.val = r.val; omega
  | ⟨1, _⟩ => show 256 + 1 * k.val = 256 + k.val; omega

theorem emb18 (r : Fin 512) (k : Fin 128) : r0_18.emb (ix2 r k) = ix2 r ⟨384 + k.val, by omega⟩ := by
  refine funext fun a => Fin.ext ?_
  match a with
  | ⟨0, _⟩ => show 0 + 1 * r.val = r.val; omega
  | ⟨1, _⟩ => show 384 + 1 * k.val = 384 + k.val; omega

theorem emb11 (d : Fin 64) (b : Fin 256) : r0_11.emb (ix3 0 d b) = ix3 0 d b := by
  refine funext fun a => Fin.ext ?_
  match a with
  | ⟨0, _⟩ => rfl
  | ⟨1, _⟩ => show 0 + 1 * d.val = d.val; omega
  | ⟨2, _⟩ => show 0 + 1 * b.val = b.val; omega

theorem emb13 (d : Fin 64) (b : Fin 256) : r0_13.emb (ix3 0 d b) = ix3 1 d b := by
  refine funext fun a => Fin.ext ?_
  match a with
  | ⟨0, _⟩ => rfl
  | ⟨1, _⟩ => show 0 + 1 * d.val = d.val; omega
  | ⟨2, _⟩ => show 0 + 1 * b.val = b.val; omega

theorem emb12 (d : Fin 128) (b : Fin 256) : r0_12.emb (ix3 0 d b) = ix3 0 d b := by
  refine funext fun a => Fin.ext ?_
  match a with
  | ⟨0, _⟩ => rfl
  | ⟨1, _⟩ => show 0 + 1 * d.val = d.val; omega
  | ⟨2, _⟩ => show 0 + 1 * b.val = b.val; omega

theorem emb14 (d : Fin 128) (b : Fin 256) : r0_14.emb (ix3 0 d b) = ix3 1 d b := by
  refine funext fun a => Fin.ext ?_
  match a with
  | ⟨0, _⟩ => rfl
  | ⟨1, _⟩ => show 0 + 1 * d.val = d.val; omega
  | ⟨2, _⟩ => show 0 + 1 * b.val = b.val; omega

theorem tab2 (x : Vec Ideal S512x384 .f32) (r : Fin 512) (l : Fin 128) :
    k0_pay2 (View.ld x r0_3) (ix2 r l) = x (ix2 r ⟨0 + l.val, by omega⟩) := by
  refine Eq.trans ?_ (ld3 x r l)
  generalize View.ld x r0_3 = y
  pointwise [k0_pay2]

theorem tab3 (x : Vec Ideal S512x384 .f32) (r : Fin 512) (l : Fin 128) :
    k0_pay3 (View.ld x r0_4) (ix2 r l) = x (ix2 r ⟨128 + l.val, by omega⟩) := by
  refine Eq.trans ?_ (ld4 x r l)
  generalize View.ld x r0_4 = y
  pointwise [k0_pay3]

theorem tab4 (x : Vec Ideal S512x384 .f32) (r : Fin 512) (l : Fin 128) :
    k0_pay4 (View.ld x r0_5) (ix2 r l) = x (ix2 r ⟨256 + l.val, by omega⟩) := by
  refine Eq.trans ?_ (ld5 x r l)
  generalize View.ld x r0_5 = y
  pointwise [k0_pay4]

theorem tab5 (x : Vec Ideal S512x384 .f32) (r : Fin 512) (l : Fin 128) :
    k0_pay5 (View.ld x r0_3) (ix2 r l) = x (ix2 r ⟨0 + l.val, by omega⟩) := by
  refine Eq.trans ?_ (ld3 x r l)
  generalize View.ld x r0_3 = y
  pointwise [k0_pay5]

theorem tab6 (x : Vec Ideal S512x384 .f32) (r : Fin 512) (l : Fin 128) :
    k0_pay6 (View.ld x r0_4) (ix2 r l) = x (ix2 r ⟨128 + l.val, by omega⟩) := by
  refine Eq.trans ?_ (ld4 x r l)
  generalize View.ld x r0_4 = y
  pointwise [k0_pay6]

theorem tab7 (x : Vec Ideal S512x384 .f32) (r : Fin 512) (l : Fin 128) :
    k0_pay7 (View.ld x r0_5) (ix2 r l) = x (ix2 r ⟨256 + l.val, by omega⟩) := by
  refine Eq.trans ?_ (ld5 x r l)
  generalize View.ld x r0_5 = y
  pointwise [k0_pay7]

section

variable {x0 : Vec Ideal S512x1024 .f32} {x1 : Vec Ideal S1x1024 .f32} {x2 : Vec Ideal S1024x2560 .bf16}
  {x3 : Vec Ideal S1x128 .f32} {x4 : Vec Ideal S128x256 .bf16} {x5 : Vec Ideal S512x384 .f32} {x6 : Vec Ideal S512x384 .f32}
  {t : Fin 512 → Fin 2108 → EReal} {u : Fin 512 → Fin 128 → EReal} {c s : Fin 512 → Fin 8 → EReal}
  {ci si : Fin 512 → Fin 4 → EReal} (H : Blocks x0 x1 x2 x3 x4 x5 x6 t u c s ci si)
include H

omit H in
theorem spin_congr {p q : ℕ} {v a b c a' b' c' : Fin 128 → EReal} (ha : ∀ k, a k = a' k) (hb : ∀ k, b k = b' k) (hc : ∀ k, c k = c' k)
    (l : Fin 128) : spin p q v a b c l = spin p q v a' b' c' l := by
  obtain rfl : a = a' := funext ha
  obtain rfl : b = b' := funext hb
  obtain rfl : c = c' := funext hc
  rfl

/-- The pieces rotated by heads, of any row `v` of 128 lanes. -/
theorem spin5 (r : Fin 512) (v : Fin 128 → EReal) (l : Fin 128) :
    spin 120 8 v (fun k => k0_pay2 (View.ld x5 r0_3) (ix2 r k)) (fun k => k0_pay3 (View.ld x5 r0_4) (ix2 r k))
      (fun k => k0_pay4 (View.ld x5 r0_5) (ix2 r k)) l
      = rope 8 (by omega) (fun d : Fin 64 => v ⟨l.val / 64 * 64 + d.val, by omega⟩) (c r) (s r) (lane64 l.val) := by
  exact (spin_congr (fun k => (tab2 x5 r k).trans (H.a5A r k)) (fun k => (tab3 x5 r k).trans (H.a5B r k))
    (fun k => (tab4 x5 r k).trans (H.a5C r k)) l).trans (spin_heads _ _ _ _)

theorem spin5' (r : Fin 512) (v : Fin 128 → EReal) (l : Fin 128) :
    spin 120 8 v (fun k => View.ld x5 r0_3 (ix2 r k)) (fun k => View.ld x5 r0_4 (ix2 r k))
      (fun k => k0_pay4 (View.ld x5 r0_5) (ix2 r k)) l
      = rope 8 (by omega) (fun d : Fin 64 => v ⟨l.val / 64 * 64 + d.val, by omega⟩) (c r) (s r) (lane64 l.val) := by
  exact (spin_congr (fun k => (ld3 x5 r k).trans (H.a5A r k)) (fun k => (ld4 x5 r k).trans (H.a5B r k))
    (fun k => (tab4 x5 r k).trans (H.a5C r k)) l).trans (spin_heads _ _ _ _)

theorem spin6 (r : Fin 512) (v : Fin 128 → EReal) (l : Fin 128) :
    spin 124 4 v (fun k => k0_pay5 (View.ld x6 r0_3) (ix2 r k)) (fun k => k0_pay6 (View.ld x6 r0_4) (ix2 r k))
      (fun k => k0_pay7 (View.ld x6 r0_5) (ix2 r k)) l
      = rope 4 (by omega) (fun d : Fin 32 => v ⟨l.val / 32 * 32 + d.val, by omega⟩) (ci r) (si r) (lane32 l.val) := by
  exact (spin_congr (fun k => (tab5 x6 r k).trans (H.a6A r k)) (fun k => (tab6 x6 r k).trans (H.a6B r k))
    (fun k => (tab7 x6 r k).trans (H.a6C r k)) l).trans (spin_iheads _ _ _ _)

theorem blk8 (r : Fin 512) (l : Fin 128) : out0_8 x0 x1 x2 x3 x4 x5 x6 (ix2 r l) = ka (u r) (c r) (s r) l := by
  unfold_out out0_8
  rw [View.canon_unit_zero z2, View.ld_unit_zero z2, View.ld_unit_zero z2, View.ld_unit_zero z2, View.ld_unit_zero z2, View.ld_unit_zero z2]
  rw [pay16_apply, spin5 H]
  refine rope_eq _ _ _ _ _ _ _ (fun e => ?_) rfl
  refine (H.kv r ⟨l.val / 64 * 64 + e.val, by omega⟩).trans (congrArg (u r) (Fin.ext ?_))
  simp only
  omega

theorem blk10 (r : Fin 512) (l : Fin 128) : out0_10 x0 x1 x2 x3 x4 x5 x6 (ix2 r l) = qidx (t r) (ci r) (si r) l := by
  unfold_out out0_10
  rw [View.canon_unit_zero z2, View.ld_unit_zero z2, View.ld_unit_zero z2, View.ld_unit_zero z2]
  rw [pay24_apply, spin6 H]
  unfold qidx ihead
  refine rope_eq _ _ _ _ _ _ _ (fun e => ?_) rfl
  refine (H.p126 r ⟨l.val / 32 * 32 + e.val, by omega⟩).trans (congrArg (t r) (Fin.ext ?_))
  simp only
  omega

theorem blk11 (r : Fin 512) (l : Fin 128) : out0_11 x0 x1 x2 x3 x4 x5 x6 (ix2 r l) = kidx (t r) (ci r) (si r) l := by
  unfold_out out0_11
  rw [View.canon_unit_zero z2, View.ld_unit_zero z2, View.ld_unit_zero z2, View.ld_unit_zero z2]
  rw [pay25_apply, spin6 H]
  unfold kidx ihead
  refine rope_eq _ _ _ _ _ _ _ (fun e => ?_) rfl
  refine (H.p142 r ⟨l.val / 32 * 32 + e.val, by omega⟩).trans (congrArg (t r) (Fin.ext ?_))
  simp only
  omega

theorem blk14 (r : Fin 512) (l : Fin 128) : out0_14 x0 x1 x2 x3 x4 x5 x6 (ix2 r l) = plain (t r) 1060 (by omega) l := by
  unfold_out out0_14
  rw [View.canon_unit_zero z2, View.ld_unit_zero z2, View.ld_unit_zero z2, View.ld_unit_zero z2]
  rw [pay40_apply]
  exact H.p130 r l

theorem blk15 (r : Fin 512) (l : Fin 128) : out0_15 x0 x1 x2 x3 x4 x5 x6 (ix2 r l) = plain (t r) 1188 (by omega) l := by
  unfold_out out0_15
  rw [View.canon_unit_zero z2, View.ld_unit_zero z2, View.ld_unit_zero z2, View.ld_unit_zero z2]
  rw [pay46_apply]
  exact H.p131 r l

theorem blk20 (r : Fin 512) (l : Fin 128) : out0_20 x0 x1 x2 x3 x4 x5 x6 (ix2 r l) = misc (t r) l := by
  unfold_out out0_20
  rw [View.canon_unit_zero z2, View.ld_unit_zero z2, View.ld_unit_zero z2, View.ld_unit_zero z2]
  rw [pay50_apply]
  refine (H.p139 r l).trans ?_
  unfold misc
  split_ifs
  · rfl
  · rfl
  · exact Ideal.ofBits_zero_f32.symm

theorem blk7 (r : Fin 512) (l : Fin 256) : out0_7 x0 x1 x2 x3 x4 x5 x6 (ix2 r l) = qa (t r) (c r) (s r) l := by
  unfold_out out0_7
  rw [View.ld_unit_zero z2, View.ld_unit_zero z2, View.ld_unit_zero z2]
  refine View.canon_apply_of_pieces (Val := Elt Ideal) (S := S512x256) (e := .bf16) (fun j : S512x256.Idx => (fun (r : Fin 512) (l : Fin 256) => qa (t r) (c r) (s r) l) (j 0) (j 1)) _ ?_ _
    (cover0_7 _ _ _)
  intro p hp
  simp only [List.mem_cons, List.not_mem_nil, or_false] at hp
  rcases hp with rfl | rfl
  · intro (i : S512x128.Idx)
    obtain ⟨r, l, rfl⟩ : ∃ (r : Fin 512) (l : Fin 128), i = ix2 r l := ⟨i 0, i 1, Idealize.ShloMosaic.eq_ix2 i⟩
    rw [emb7]
    refine ((pay12_apply _ _ _ _ r l).trans (congrArg (· * κ₂) (spin5 H r _ l))).trans ?_
    show _ = (fun (r : Fin 512) (l : Fin 256) => qa (t r) (c r) (s r) l) r ⟨128 + l.val, by omega⟩
    beta_reduce
    unfold qa head
    refine congrArg (· * κ₂) (rope_eq _ _ _ _ _ _ _ (fun e => ?_) (by show l.val % 64 = (128 + l.val) % 64; omega))
    refine (congrArg (fun x : Fin 2560 => k0_pay1 x0 x1 x2 (ix2 r x)) (Fin.ext (by simp only; omega))).trans
      ((H.p124 r ⟨128 + (l.val / 64 * 64 + e.val), by omega⟩).trans (congrArg (t r) (Fin.ext ?_)))
    show _ = (128 + l.val) / 64 * 64 + e.val
    simp only
    omega
  · intro (i : S512x128.Idx)
    obtain ⟨r, l, rfl⟩ : ∃ (r : Fin 512) (l : Fin 128), i = ix2 r l := ⟨i 0, i 1, Idealize.ShloMosaic.eq_ix2 i⟩
    rw [emb6]
    refine ((pay11_apply _ r _ _ _ (View.ld x5 r0_3) (View.ld x5 r0_4) l).trans (congrArg (· * κ₂) (spin5' H r _ l))).trans ?_
    show _ = (fun (r : Fin 512) (l : Fin 256) => qa (t r) (c r) (s r) l) r ⟨0 + l.val, by omega⟩
    beta_reduce
    unfold qa head
    refine congrArg (· * κ₂) (rope_eq _ _ _ _ _ _ _ (fun e => ?_) (by show l.val % 64 = (0 + l.val) % 64; omega))
    refine (congrArg (fun x : Fin 2560 => k0_pay1 x0 x1 x2 (ix2 r x)) (Fin.ext (by simp only; omega))).trans
      ((H.p124 r ⟨0 + (l.val / 64 * 64 + e.val), by omega⟩).trans (congrArg (t r) (Fin.ext ?_)))
    show _ = (0 + l.val) / 64 * 64 + e.val
    simp only
    omega

theorem blk12 (r : Fin 512) (l : Fin 512) : out0_12 x0 x1 x2 x3 x4 x5 x6 (ix2 r l) = qbn (t r) l := by
  unfold_out out0_12
  rw [View.ld_unit_zero z2, View.ld_unit_zero z2, View.ld_unit_zero z2]
  refine View.canon_apply_of_pieces (Val := Elt Ideal) (S := S512x512) (e := .bf16) (fun j : S512x512.Idx => (fun (r : Fin 512) (l : Fin 512) => qbn (t r) l) (j 0) (j 1)) _ ?_ _
    (cover0_12 _ _ _ _ _)
  intro p hp
  simp only [List.mem_cons, List.not_mem_nil, or_false] at hp
  rcases hp with rfl | rfl | rfl | rfl
  · intro (i : S512x128.Idx)
    obtain ⟨r, l, rfl⟩ : ∃ (r : Fin 512) (l : Fin 128), i = ix2 r l := ⟨i 0, i 1, Idealize.ShloMosaic.eq_ix2 i⟩
    rw [emb18]
    refine (pay38_apply _ r l).trans ?_
    show _ = (fun (r : Fin 512) (l : Fin 512) => qbn (t r) l) r ⟨384 + l.val, by omega⟩
    beta_reduce
    unfold qbn
    refine congrArg (· * κ) (?_)
    exact (congrArg (fun x : Fin 2560 => k0_pay1 x0 x1 x2 (ix2 r x)) (Fin.ext (by simp only; omega))).trans
      (H.p129 r ⟨384 + l.val, by omega⟩)
  · intro (i : S512x128.Idx)
    obtain ⟨r, l, rfl⟩ : ∃ (r : Fin 512) (l : Fin 128), i = ix2 r l := ⟨i 0, i 1, Idealize.ShloMosaic.eq_ix2 i⟩
    rw [emb17]
    refine (pay34_apply _ r l).trans ?_
    show _ = (fun (r : Fin 512) (l : Fin 512) => qbn (t r) l) r ⟨256 + l.val, by omega⟩
    beta_reduce
    unfold qbn
    refine congrArg (· * κ) (?_)
    exact (congrArg (fun x : Fin 2560 => k0_pay1 x0 x1 x2 (ix2 r x)) (Fin.ext (by simp only; omega))).trans
      (H.p129 r ⟨256 + l.val, by omega⟩)
  · intro (i : S512x128.Idx)
    obtain ⟨r, l, rfl⟩ : ∃ (r : Fin 512) (l : Fin 128), i = ix2 r l := ⟨i 0, i 1, Idealize.ShloMosaic.eq_ix2 i⟩
    rw [emb16]
    refine (pay31_apply _ r l).trans ?_
    show _ = (fun (r : Fin 512) (l : Fin 512) => qbn (t r) l) r ⟨128 + l.val, by omega⟩
    beta_reduce
    unfold qbn
    refine congrArg (· * κ) (?_)
    exact (congrArg (fun x : Fin 2560 => k0_pay1 x0 x1 x2 (ix2 r x)) (Fin.ext (by simp only; omega))).trans
      (H.p129 r ⟨128 + l.val, by omega⟩)
  · intro (i : S512x128.Idx)
    obtain ⟨r, l, rfl⟩ : ∃ (r : Fin 512) (l : Fin 128), i = ix2 r l := ⟨i 0, i 1, Idealize.ShloMosaic.eq_ix2 i⟩
    rw [emb15]
    refine (pay27_apply _ r l).trans ?_
    show _ = (fun (r : Fin 512) (l : Fin 512) => qbn (t r) l) r ⟨0 + l.val, by omega⟩
    beta_reduce
    unfold qbn
    refine congrArg (· * κ) (?_)
    exact (congrArg (fun x : Fin 2560 => k0_pay1 x0 x1 x2 (ix2 r x)) (Fin.ext (by simp only; omega))).trans
      (H.p129 r ⟨0 + l.val, by omega⟩)

theorem blk13 (r : Fin 512) (l : Fin 512) : out0_13 x0 x1 x2 x3 x4 x5 x6 (ix2 r l) = qbr (t r) (c r) (s r) l := by
  unfold_out out0_13
  rw [View.ld_unit_zero z2, View.ld_unit_zero z2, View.ld_unit_zero z2]
  refine View.canon_apply_of_pieces (Val := Elt Ideal) (S := S512x512) (e := .bf16) (fun j : S512x512.Idx => (fun (r : Fin 512) (l : Fin 512) => qbr (t r) (c r) (s r) l) (j 0) (j 1)) _ ?_ _
    (cover0_13 _ _ _ _ _)
  intro p hp
  simp only [List.mem_cons, List.not_mem_nil, or_false] at hp
  rcases hp with rfl | rfl | rfl | rfl
  · intro (i : S512x128.Idx)
    obtain ⟨r, l, rfl⟩ : ∃ (r : Fin 512) (l : Fin 128), i = ix2 r l := ⟨i 0, i 1, Idealize.ShloMosaic.eq_ix2 i⟩
    rw [emb18]
    refine ((pay39_apply _ _ _ _ r l).trans (congrArg (· * κ₂) (spin5 H r _ l))).trans ?_
    show _ = (fun (r : Fin 512) (l : Fin 512) => qbr (t r) (c r) (s r) l) r ⟨384 + l.val, by omega⟩
    beta_reduce
    unfold qbr head
    refine congrArg (· * κ₂) (rope_eq _ _ _ _ _ _ _ (fun e => ?_) (by show l.val % 64 = (384 + l.val) % 64; omega))
    refine (congrArg (fun x : Fin 2560 => k0_pay1 x0 x1 x2 (ix2 r x)) (Fin.ext (by simp only; omega))).trans
      ((H.p129 r ⟨384 + (l.val / 64 * 64 + e.val), by omega⟩).trans (congrArg (t r) (Fin.ext ?_)))
    show _ = 548 + (384 + l.val) / 64 * 64 + e.val
    simp only
    omega
  · intro (i : S512x128.Idx)
    obtain ⟨r, l, rfl⟩ : ∃ (r : Fin 512) (l : Fin 128), i = ix2 r l := ⟨i 0, i 1, Idealize.ShloMosaic.eq_ix2 i⟩
    rw [emb17]
    refine ((pay36_apply _ _ _ _ r l).trans (congrArg (· * κ₂) (spin5 H r _ l))).trans ?_
    show _ = (fun (r : Fin 512) (l : Fin 512) => qbr (t r) (c r) (s r) l) r ⟨256 + l.val, by omega⟩
    beta_reduce
    unfold qbr head
    refine congrArg (· * κ₂) (rope_eq _ _ _ _ _ _ _ (fun e => ?_) (by show l.val % 64 = (256 + l.val) % 64; omega))
    refine (congrArg (fun x : Fin 2560 => k0_pay1 x0 x1 x2 (ix2 r x)) (Fin.ext (by simp only; omega))).trans
      ((H.p129 r ⟨256 + (l.val / 64 * 64 + e.val), by omega⟩).trans (congrArg (t r) (Fin.ext ?_)))
    show _ = 548 + (256 + l.val) / 64 * 64 + e.val
    simp only
    omega
  · intro (i : S512x128.Idx)
    obtain ⟨r, l, rfl⟩ : ∃ (r : Fin 512) (l : Fin 128), i = ix2 r l := ⟨i 0, i 1, Idealize.ShloMosaic.eq_ix2 i⟩
    rw [emb16]
    refine ((pay32_apply _ _ _ _ r l).trans (congrArg (· * κ₂) (spin5 H r _ l))).trans ?_
    show _ = (fun (r : Fin 512) (l : Fin 512) => qbr (t r) (c r) (s r) l) r ⟨128 + l.val, by omega⟩
    beta_reduce
    unfold qbr head
    refine congrArg (· * κ₂) (rope_eq _ _ _ _ _ _ _ (fun e => ?_) (by show l.val % 64 = (128 + l.val) % 64; omega))
    refine (congrArg (fun x : Fin 2560 => k0_pay1 x0 x1 x2 (ix2 r x)) (Fin.ext (by simp only; omega))).trans
      ((H.p129 r ⟨128 + (l.val / 64 * 64 + e.val), by omega⟩).trans (congrArg (t r) (Fin.ext ?_)))
    show _ = 548 + (128 + l.val) / 64 * 64 + e.val
    simp only
    omega
  · intro (i : S512x128.Idx)
    obtain ⟨r, l, rfl⟩ : ∃ (r : Fin 512) (l : Fin 128), i = ix2 r l := ⟨i 0, i 1, Idealize.ShloMosaic.eq_ix2 i⟩
    rw [emb15]
    refine ((pay29_apply _ _ _ _ r l).trans (congrArg (· * κ₂) (spin5 H r _ l))).trans ?_
    show _ = (fun (r : Fin 512) (l : Fin 512) => qbr (t r) (c r) (s r) l) r ⟨0 + l.val, by omega⟩
    beta_reduce
    unfold qbr head
    refine congrArg (· * κ₂) (rope_eq _ _ _ _ _ _ _ (fun e => ?_) (by show l.val % 64 = (0 + l.val) % 64; omega))
    refine (congrArg (fun x : Fin 2560 => k0_pay1 x0 x1 x2 (ix2 r x)) (Fin.ext (by simp only; omega))).trans
      ((H.p129 r ⟨0 + (l.val / 64 * 64 + e.val), by omega⟩).trans (congrArg (t r) (Fin.ext ?_)))
    show _ = 548 + (0 + l.val) / 64 * 64 + e.val
    simp only
    omega

theorem blk16 (r : Fin 512) (l : Fin 256) : out0_16 x0 x1 x2 x3 x4 x5 x6 (ix2 r l) = kslc (t r) (c r) (s r) l := by
  unfold_out out0_16
  rw [View.ld_unit_zero z2, View.ld_unit_zero z2, View.ld_unit_zero z2]
  refine View.canon_apply_of_pieces (Val := Elt Ideal) (S := S512x256) (e := .bf16) (fun j : S512x256.Idx => (fun (r : Fin 512) (l : Fin 256) => kslc (t r) (c r) (s r) l) (j 0) (j 1)) _ ?_ _
    (cover0_16 _ _ _)
  intro p hp
  simp only [List.mem_cons, List.not_mem_nil, or_false] at hp
  rcases hp with rfl | rfl
  · intro (i : S512x128.Idx)
    obtain ⟨r, l, rfl⟩ : ∃ (r : Fin 512) (l : Fin 128), i = ix2 r l := ⟨i 0, i 1, Idealize.ShloMosaic.eq_ix2 i⟩
    rw [emb7]
    refine ((pay47_apply _ _ _ _ r l).trans (spin5 H r _ l)).trans ?_
    show _ = (fun (r : Fin 512) (l : Fin 256) => kslc (t r) (c r) (s r) l) r ⟨128 + l.val, by omega⟩
    beta_reduce
    unfold kslc head
    refine rope_eq _ _ _ _ _ _ _ (fun e => ?_) (by show l.val % 64 = (128 + l.val) % 64; omega)
    refine (congrArg (fun x : Fin 2560 => k0_pay1 x0 x1 x2 (ix2 r x)) (Fin.ext (by simp only; omega))).trans
      ((H.p145 r ⟨128 + (l.val / 64 * 64 + e.val), by omega⟩).trans (congrArg (t r) (Fin.ext ?_)))
    show _ = 1316 + (128 + l.val) / 128 * 64 + e.val
    simp only
    omega
  · intro (i : S512x128.Idx)
    obtain ⟨r, l, rfl⟩ : ∃ (r : Fin 512) (l : Fin 128), i = ix2 r l := ⟨i 0, i 1, Idealize.ShloMosaic.eq_ix2 i⟩
    rw [emb6]
    refine ((pay41_apply _ _ _ _ r l).trans (spin5 H r _ l)).trans ?_
    show _ = (fun (r : Fin 512) (l : Fin 256) => kslc (t r) (c r) (s r) l) r ⟨0 + l.val, by omega⟩
    beta_reduce
    unfold kslc head
    refine rope_eq _ _ _ _ _ _ _ (fun e => ?_) (by show l.val % 64 = (0 + l.val) % 64; omega)
    refine (congrArg (fun x : Fin 2560 => k0_pay1 x0 x1 x2 (ix2 r x)) (Fin.ext (by simp only; omega))).trans
      ((H.p145 r ⟨0 + (l.val / 64 * 64 + e.val), by omega⟩).trans (congrArg (t r) (Fin.ext ?_)))
    show _ = 1316 + (0 + l.val) / 128 * 64 + e.val
    simp only
    omega

theorem blk18 (r : Fin 512) (l : Fin 256) : out0_18 x0 x1 x2 x3 x4 x5 x6 (ix2 r l) = kwin (t r) (c r) (s r) l := by
  unfold_out out0_18
  rw [View.ld_unit_zero z2, View.ld_unit_zero z2, View.ld_unit_zero z2]
  refine View.canon_apply_of_pieces (Val := Elt Ideal) (S := S512x256) (e := .bf16) (fun j : S512x256.Idx => (fun (r : Fin 512) (l : Fin 256) => kwin (t r) (c r) (s r) l) (j 0) (j 1)) _ ?_ _
    (cover0_18 _ _ _)
  intro p hp
  simp only [List.mem_cons, List.not_mem_nil, or_false] at hp
  rcases hp with rfl | rfl
  · intro (i : S512x128.Idx)
    obtain ⟨r, l, rfl⟩ : ∃ (r : Fin 512) (l : Fin 128), i = ix2 r l := ⟨i 0, i 1, Idealize.ShloMosaic.eq_ix2 i⟩
    rw [emb7]
    refine ((pay48_apply _ _ _ _ r l).trans (spin5 H r _ l)).trans ?_
    show _ = (fun (r : Fin 512) (l : Fin 256) => kwin (t r) (c r) (s r) l) r ⟨128 + l.val, by omega⟩
    beta_reduce
    unfold kwin head
    refine rope_eq _ _ _ _ _ _ _ (fun e => ?_) (by show l.val % 64 = (128 + l.val) % 64; omega)
    refine (congrArg (fun x : Fin 2560 => k0_pay1 x0 x1 x2 (ix2 r x)) (Fin.ext (by simp only; omega))).trans
      ((H.p148 r ⟨128 + (l.val / 64 * 64 + e.val), by omega⟩).trans (congrArg (t r) (Fin.ext ?_)))
    show _ = 1572 + (128 + l.val) / 128 * 64 + e.val
    simp only
    omega
  · intro (i : S512x128.Idx)
    obtain ⟨r, l, rfl⟩ : ∃ (r : Fin 512) (l : Fin 128), i = ix2 r l := ⟨i 0, i 1, Idealize.ShloMosaic.eq_ix2 i⟩
    rw [emb6]
    refine ((pay44_apply _ _ _ _ r l).trans (spin5 H r _ l)).trans ?_
    show _ = (fun (r : Fin 512) (l : Fin 256) => kwin (t r) (c r) (s r) l) r ⟨0 + l.val, by omega⟩
    beta_reduce
    unfold kwin head
    refine rope_eq _ _ _ _ _ _ _ (fun e => ?_) (by show l.val % 64 = (0 + l.val) % 64; omega)
    refine (congrArg (fun x : Fin 2560 => k0_pay1 x0 x1 x2 (ix2 r x)) (Fin.ext (by simp only; omega))).trans
      ((H.p148 r ⟨0 + (l.val / 64 * 64 + e.val), by omega⟩).trans (congrArg (t r) (Fin.ext ?_)))
    show _ = 1572 + (0 + l.val) / 128 * 64 + e.val
    simp only
    omega

theorem blk21 (r : Fin 512) (l : Fin 256) : out0_21 x0 x1 x2 x3 x4 x5 x6 (ix2 r l) = plain (t r) 1852 (by omega) l := by
  unfold_out out0_21
  rw [View.ld_unit_zero z2, View.ld_unit_zero z2, View.ld_unit_zero z2]
  refine View.canon_apply_of_pieces (Val := Elt Ideal) (S := S512x256) (e := .f32) (fun j : S512x256.Idx => (fun (r : Fin 512) (l : Fin 256) => plain (t r) 1852 (by omega) l) (j 0) (j 1)) _ ?_ _
    (cover0_21 _ _ _)
  intro p hp
  simp only [List.mem_cons, List.not_mem_nil, or_false] at hp
  rcases hp with rfl | rfl
  · intro (i : S512x128.Idx)
    obtain ⟨r, l, rfl⟩ : ∃ (r : Fin 512) (l : Fin 128), i = ix2 r l := ⟨i 0, i 1, Idealize.ShloMosaic.eq_ix2 i⟩
    rw [emb7]
    refine (pay49_apply (k0_pay1 x0 x1 x2) r l).trans ?_
    show _ = (fun (r : Fin 512) (l : Fin 256) => plain (t r) 1852 (by omega) l) r ⟨128 + l.val, by omega⟩
    beta_reduce
    unfold plain
    refine (?_)
    exact (congrArg (fun x : Fin 2560 => k0_pay1 x0 x1 x2 (ix2 r x)) (Fin.ext (by simp only; omega))).trans
      (H.p137 r ⟨128 + l.val, by omega⟩)
  · intro (i : S512x128.Idx)
    obtain ⟨r, l, rfl⟩ : ∃ (r : Fin 512) (l : Fin 128), i = ix2 r l := ⟨i 0, i 1, Idealize.ShloMosaic.eq_ix2 i⟩
    rw [emb6]
    refine (pay45_apply (k0_pay1 x0 x1 x2) r l).trans ?_
    show _ = (fun (r : Fin 512) (l : Fin 256) => plain (t r) 1852 (by omega) l) r ⟨0 + l.val, by omega⟩
    beta_reduce
    unfold plain
    refine (?_)
    exact (congrArg (fun x : Fin 2560 => k0_pay1 x0 x1 x2 (ix2 r x)) (Fin.ext (by simp only; omega))).trans
      (H.p137 r ⟨0 + l.val, by omega⟩)

theorem blk9 (a : Fin 2) (d : Fin 64) (b : Fin 256) : out0_9 x0 x1 x2 x3 x4 x5 x6 (ix3 a d b) = va (u ⟨a.val * 256 + b.val, by omega⟩) d := by
  unfold_out out0_9
  rw [View.ld_unit_zero z2, View.ld_unit_zero z2, View.ld_unit_zero z2, View.ld_unit_zero z2, View.ld_unit_zero z2]
  refine View.canon_apply_of_pieces (Val := Elt Ideal) (S := S2x64x256) (e := .bf16) (fun j : S2x64x256.Idx => (fun (a : Fin 2) (d : Fin 64) (b : Fin 256) => va (u ⟨a.val * 256 + b.val, by omega⟩) d) (j 0) (j 1) (j 2)) _ ?_ _
    (cover0_9 _ _ _)
  intro p hp
  simp only [List.mem_cons, List.not_mem_nil, or_false] at hp
  rcases hp with rfl | rfl
  · intro (i : S1x64x256.Idx)
    obtain ⟨z, d, b, rfl⟩ : ∃ (z : Fin 1) (d : Fin 64) (b : Fin 256), i = ix3 z d b := ⟨i 0, i 1, i 2, Idealize.ShloMosaic.eq_ix3 i⟩
    obtain rfl : z = 0 := Subsingleton.elim _ _
    rw [emb13]
    exact (pay20_apply _ d b).trans (H.kv' ⟨256 + b.val, by omega⟩ d)
  · intro (i : S1x64x256.Idx)
    obtain ⟨z, d, b, rfl⟩ : ∃ (z : Fin 1) (d : Fin 64) (b : Fin 256), i = ix3 z d b := ⟨i 0, i 1, i 2, Idealize.ShloMosaic.eq_ix3 i⟩
    obtain rfl : z = 0 := Subsingleton.elim _ _
    rw [emb11]
    exact (pay17_apply _ d b).trans (H.kv' ⟨0 + b.val, by omega⟩ d)

theorem blk17 (a : Fin 2) (d : Fin 128) (b : Fin 256) : out0_17 x0 x1 x2 x3 x4 x5 x6 (ix3 a d b) = plain (t ⟨a.val * 256 + b.val, by omega⟩) 1444 (by omega) d := by
  unfold_out out0_17
  rw [View.ld_unit_zero z2, View.ld_unit_zero z2, View.ld_unit_zero z2]
  refine View.canon_apply_of_pieces (Val := Elt Ideal) (S := S2x128x256) (e := .bf16) (fun j : S2x128x256.Idx => (fun (a : Fin 2) (d : Fin 128) (b : Fin 256) => plain (t ⟨a.val * 256 + b.val, by omega⟩) 1444 (by omega) d) (j 0) (j 1) (j 2)) _ ?_ _
    (cover0_17 _ _ _)
  intro p hp
  simp only [List.mem_cons, List.not_mem_nil, or_false] at hp
  rcases hp with rfl | rfl
  · intro (i : S1x128x256.Idx)
    obtain ⟨z, d, b, rfl⟩ : ∃ (z : Fin 1) (d : Fin 128) (b : Fin 256), i = ix3 z d b := ⟨i 0, i 1, i 2, Idealize.ShloMosaic.eq_ix3 i⟩
    obtain rfl : z = 0 := Subsingleton.elim _ _
    rw [emb14]
    exact (pay22_apply _ d b).trans (H.p133 ⟨256 + b.val, by omega⟩ d)
  · intro (i : S1x128x256.Idx)
    obtain ⟨z, d, b, rfl⟩ : ∃ (z : Fin 1) (d : Fin 128) (b : Fin 256), i = ix3 z d b := ⟨i 0, i 1, i 2, Idealize.ShloMosaic.eq_ix3 i⟩
    obtain rfl : z = 0 := Subsingleton.elim _ _
    rw [emb12]
    exact (pay18_apply _ d b).trans (H.p133 ⟨0 + b.val, by omega⟩ d)

theorem blk19 (a : Fin 2) (d : Fin 128) (b : Fin 256) : out0_19 x0 x1 x2 x3 x4 x5 x6 (ix3 a d b) = plain (t ⟨a.val * 256 + b.val, by omega⟩) 1700 (by omega) d := by
  unfold_out out0_19
  rw [View.ld_unit_zero z2, View.ld_unit_zero z2, View.ld_unit_zero z2]
  refine View.canon_apply_of_pieces (Val := Elt Ideal) (S := S2x128x256) (e := .bf16) (fun j : S2x128x256.Idx => (fun (a : Fin 2) (d : Fin 128) (b : Fin 256) => plain (t ⟨a.val * 256 + b.val, by omega⟩) 1700 (by omega) d) (j 0) (j 1) (j 2)) _ ?_ _
    (cover0_19 _ _ _)
  intro p hp
  simp only [List.mem_cons, List.not_mem_nil, or_false] at hp
  rcases hp with rfl | rfl
  · intro (i : S1x128x256.Idx)
    obtain ⟨z, d, b, rfl⟩ : ∃ (z : Fin 1) (d : Fin 128) (b : Fin 256), i = ix3 z d b := ⟨i 0, i 1, i 2, Idealize.ShloMosaic.eq_ix3 i⟩
    obtain rfl : z = 0 := Subsingleton.elim _ _
    rw [emb14]
    exact (pay23_apply _ d b).trans (H.p135 ⟨256 + b.val, by omega⟩ d)
  · intro (i : S1x128x256.Idx)
    obtain ⟨z, d, b, rfl⟩ : ∃ (z : Fin 1) (d : Fin 128) (b : Fin 256), i = ix3 z d b := ⟨i 0, i 1, i 2, Idealize.ShloMosaic.eq_ix3 i⟩
    obtain rfl : z = 0 := Subsingleton.elim _ _
    rw [emb12]
    exact (pay19_apply _ d b).trans (H.p135 ⟨0 + b.val, by omega⟩ d)

end

end Cert.Proof.Proj

end
-- ==== Proof.ProjRef.lean ====
/- The reference's stages of the input projection at one token, and its fifteen results as functions of the arguments. -/
module

public import proofs.«01_k».proof.Proof.ProjRow
public import proofs.«01_k».proof.Proof.MergeRun
public import proofs.«01_k».proof.Proof.Gen.ProjRefIdeal.Run
public import proofs.«01_k».proof.Proof.Gen.ProjRefIdeal.Read

@[expose] public section

noncomputable section

namespace Cert.Proof.Proj

open Idealize.ShloMosaic Cert.ProjRefIdeal Cert.ProjRefIdeal.Read

variable (x : Vec Ideal S32x2048x1024 .f32) (pos : Vec Ideal S32x2048 .i32) (w : Vec Ideal S1024x2108 .f32)
  (gk : Vec Ideal S128 .f32) (wk : Vec Ideal S128x128 .f32) (g : Vec Ideal S1024 .f32) (p : Fin 32) (q : Fin 2048)

/-- The cosines and sines of the token's angles, of a head and of an indexer head. -/
def ch (i : Fin 8) : EReal := val_main_v16 (F := Ideal) pos (ix3 p q i)
def sh (i : Fin 8) : EReal := val_main_v17 (F := Ideal) pos (ix3 p q i)
def ci (i : Fin 4) : EReal := val_main_v34 (F := Ideal) pos (ix3 p q i)
def si (i : Fin 4) : EReal := val_main_v35 (F := Ideal) pos (ix3 p q i)

theorem ref48 (k : Fin 1024) : val_main_v48 (F := Ideal) x g (ix3 p q k)
    = Merge.rms Merge.d1024 (fun k => x (ix3 p q k)) (fun k => g (ix1 k)) k := by
  pointwise [val_main_v36, val_main_v37, val_main_v38, val_main_v39, val_main_v40, val_main_v41, val_main_v42, val_main_v43,
    val_main_v44, val_main_v45, val_main_v46, val_main_v47, val_main_v48, val_main_cst_7, val_main_cst_8, val_main_cst_9, Merge.rms]

theorem ref49 (j : Fin 2108) : val_main_v49 (F := Ideal) x w g (ix3 p q j) = tok x w g p q j := by
  have h := ref48 x g p q
  unfold val_main_v49
  generalize val_main_v48 (F := Ideal) x g = M at h ⊢
  pointwise [tok, cols, Merge.lin]
  simp only [h]

theorem ref93 (k : Fin 128) : val_main_v93 (F := Ideal) x w gk g (ix3 p q k)
    = Merge.rms d128 (fun k => tok x w g p q ⟨256 + k.val, by omega⟩) (fun k => gk (ix1 k)) k := by
  have h49 := ref49 x w g p q
  unfold val_main_v93 val_main_v90 val_main_v89 val_main_v88 val_main_v87 val_main_v85 val_main_v83 val_main_v82 val_main_v81 val_main_v51
  generalize val_main_v49 (F := Ideal) x w g = M at h49 ⊢
  pointwise [val_main_v84, val_main_v86, val_main_v91, val_main_v92, val_main_cst_10, val_main_cst_11, val_main_cst_12, Merge.rms]
  simp only [h49]

theorem ref94 (j : Fin 128) : val_main_v94 (F := Ideal) x w gk wk g (ix3 p q j) = lat x w gk wk g p q j := by
  have h := ref93 x w gk g p q
  unfold val_main_v94
  generalize val_main_v93 (F := Ideal) x w gk g = M at h ⊢
  pointwise [lat, latent, Merge.lin]
  simp only [h]

theorem ref80 (h : Fin 4) (d : Fin 64) : val_main_v80 (F := Ideal) x pos w g (ix4 p q h d)
    = head (h.val * 64) (by omega) (tok x w g p q) (ch pos p q) (sh pos p q) d := by
  have h49 := ref49 x w g p q
  unfold val_main_v80 val_main_v79 val_main_v78 val_main_v77 val_main_v76 val_main_v75 val_main_v74 val_main_v73 val_main_v72 val_main_v71 val_main_v70 val_main_v69 val_main_v68 val_main_v67 val_main_v66 val_main_v65 val_main_v64 val_main_v50
  unfold head ch sh
  generalize val_main_v49 (F := Ideal) x w g = M at h49 ⊢
  generalize val_main_v16 (F := Ideal) pos = C
  generalize val_main_v17 (F := Ideal) pos = S
  pointwise [rope]
  simp only [h49]
  try simp only [Nat.add_assoc]
  split_ifs
  all_goals first
    | rfl
    | (simp only [Nat.add_comm 8 d.val]; done)
    | (simp only [show 8 + (d.val - 8) = d.val by omega]; done)
    | (simp only [show 16 + (d.val - 8 - 8) = d.val by omega]; done)
    | (rename_i hx; exact absurd rfl hx)

theorem ref123 (h : Fin 4) (d : Fin 32) : val_main_v123 (F := Ideal) x pos w g (ix4 p q h d)
    = ihead (384 + h.val * 32) (by omega) (tok x w g p q) (ci pos p q) (si pos p q) d := by
  have h49 := ref49 x w g p q
  unfold val_main_v123 val_main_v122 val_main_v121 val_main_v120 val_main_v119 val_main_v118 val_main_v117 val_main_v116 val_main_v115 val_main_v114 val_main_v113 val_main_v112 val_main_v111 val_main_v110 val_main_v109 val_main_v108 val_main_v107 val_main_v52
  unfold ihead ci si
  generalize val_main_v49 (F := Ideal) x w g = M at h49 ⊢
  generalize val_main_v34 (F := Ideal) pos = C
  generalize val_main_v35 (F := Ideal) pos = S
  pointwise [rope]
  simp only [h49]
  try simp only [Nat.add_assoc]
  split_ifs
  all_goals first
    | rfl
    | (simp only [Nat.add_comm 4 d.val]; done)
    | (simp only [show 4 + (d.val - 4) = d.val by omega]; done)
    | (simp only [show 8 + (d.val - 4 - 4) = d.val by omega]; done)
    | (rename_i hx; exact absurd rfl hx)

theorem ref150 (h : Fin 8) (d : Fin 64) : val_main_v150 (F := Ideal) x pos w g (ix4 p q h d)
    = head (548 + h.val * 64) (by omega) (tok x w g p q) (ch pos p q) (sh pos p q) d := by
  have h49 := ref49 x w g p q
  unfold val_main_v150 val_main_v149 val_main_v148 val_main_v147 val_main_v146 val_main_v145 val_main_v144 val_main_v143 val_main_v142 val_main_v141 val_main_v140 val_main_v139 val_main_v138 val_main_v137 val_main_v136 val_main_v135 val_main_v134 val_main_v55
  unfold head ch sh
  generalize val_main_v49 (F := Ideal) x w g = M at h49 ⊢
  generalize val_main_v16 (F := Ideal) pos = C
  generalize val_main_v17 (F := Ideal) pos = S
  pointwise [rope]
  simp only [h49]
  try simp only [Nat.add_assoc]
  split_ifs
  all_goals first
    | rfl
    | (simp only [Nat.add_comm 8 d.val]; done)
    | (simp only [show 8 + (d.val - 8) = d.val by omega]; done)
    | (simp only [show 16 + (d.val - 8 - 8) = d.val by omega]; done)
    | (rename_i hx; exact absurd rfl hx)

theorem ref167 (h : Fin 2) (d : Fin 64) : val_main_v167 (F := Ideal) x pos w g (ix4 p q h d)
    = head (1316 + h.val * 64) (by omega) (tok x w g p q) (ch pos p q) (sh pos p q) d := by
  have h49 := ref49 x w g p q
  unfold val_main_v167 val_main_v166 val_main_v165 val_main_v164 val_main_v163 val_main_v162 val_main_v161 val_main_v160 val_main_v159 val_main_v158 val_main_v157 val_main_v156 val_main_v155 val_main_v154 val_main_v153 val_main_v152 val_main_v151 val_main_v58
  unfold head ch sh
  generalize val_main_v49 (F := Ideal) x w g = M at h49 ⊢
  generalize val_main_v16 (F := Ideal) pos = C
  generalize val_main_v17 (F := Ideal) pos = S
  pointwise [rope]
  simp only [h49]
  try simp only [Nat.add_assoc]
  split_ifs
  all_goals first
    | rfl
    | (simp only [Nat.add_comm 8 d.val]; done)
    | (simp only [show 8 + (d.val - 8) = d.val by omega]; done)
    | (simp only [show 16 + (d.val - 8 - 8) = d.val by omega]; done)
    | (rename_i hx; exact absurd rfl hx)

theorem ref184 (h : Fin 2) (d : Fin 64) : val_main_v184 (F := Ideal) x pos w g (ix4 p q h d)
    = head (1572 + h.val * 64) (by omega) (tok x w g p q) (ch pos p q) (sh pos p q) d := by
  have h49 := ref49 x w g p q
  unfold val_main_v184 val_main_v183 val_main_v182 val_main_v181 val_main_v180 val_main_v179 val_main_v178 val_main_v177 val_main_v176 val_main_v175 val_main_v174 val_main_v173 val_main_v172 val_main_v171 val_main_v170 val_main_v169 val_main_v168 val_main_v60
  unfold head ch sh
  generalize val_main_v49 (F := Ideal) x w g = M at h49 ⊢
  generalize val_main_v16 (F := Ideal) pos = C
  generalize val_main_v17 (F := Ideal) pos = S
  pointwise [rope]
  simp only [h49]
  try simp only [Nat.add_assoc]
  split_ifs
  all_goals first
    | rfl
    | (simp only [Nat.add_comm 8 d.val]; done)
    | (simp only [show 8 + (d.val - 8) = d.val by omega]; done)
    | (simp only [show 16 + (d.val - 8 - 8) = d.val by omega]; done)
    | (rename_i hx; exact absurd rfl hx)

theorem ref105 (d : Fin 64) : val_main_v105 (F := Ideal) x pos w gk wk g (ix3 p q d)
    = rope 8 (by omega) (fun d => lat x w gk wk g p q ⟨d.val, by omega⟩) (ch pos p q) (sh pos p q) d := by
  have h94 := ref94 x w gk wk g p q
  unfold val_main_v105 val_main_v104 val_main_v103 val_main_v102 val_main_v101 val_main_v100 val_main_v99 val_main_v98 val_main_v97 val_main_v96 val_main_v95
  unfold ch sh
  generalize val_main_v94 (F := Ideal) x w gk wk g = M at h94 ⊢
  generalize val_main_v16 (F := Ideal) pos = C
  generalize val_main_v17 (F := Ideal) pos = S
  pointwise [rope]
  simp only [h94]
  split_ifs
  all_goals first
    | rfl
    | (simp only [Nat.add_comm 8 d.val]; done)
    | (simp only [show 8 + (d.val - 8) = d.val by omega]; done)
    | (simp only [show 16 + (d.val - 8 - 8) = d.val by omega]; done)
    | (rename_i hx; exact absurd rfl hx)

theorem ref133 (d : Fin 32) : val_main_v133 (F := Ideal) x pos w g (ix3 p q d)
    = ihead 512 (by omega) (tok x w g p q) (ci pos p q) (si pos p q) d := by
  have h49 := ref49 x w g p q
  unfold val_main_v133 val_main_v132 val_main_v131 val_main_v130 val_main_v129 val_main_v128 val_main_v127 val_main_v126 val_main_v125 val_main_v124 val_main_v53
  unfold ihead ci si
  generalize val_main_v49 (F := Ideal) x w g = M at h49 ⊢
  generalize val_main_v34 (F := Ideal) pos = C
  generalize val_main_v35 (F := Ideal) pos = S
  pointwise [rope]
  simp only [h49]
  split_ifs
  all_goals first
    | rfl
    | (simp only [Nat.add_comm 4 d.val]; done)
    | (simp only [show 4 + (d.val - 4) = d.val by omega]; done)
    | (simp only [show 8 + (d.val - 4 - 4) = d.val by omega]; done)
    | (rename_i hx; exact absurd rfl hx)

theorem ref54 (l : Fin 4) : val_main_v54 (F := Ideal) x w g (ix3 p q l) = tok x w g p q ⟨544 + l.val, by omega⟩ := by
  have h49 := ref49 x w g p q
  unfold val_main_v54
  generalize val_main_v49 (F := Ideal) x w g = M at h49 ⊢
  pointwise []
  exact h49 _

theorem ref56 (l : Fin 128) : val_main_v56 (F := Ideal) x w g (ix3 p q l) = tok x w g p q ⟨1060 + l.val, by omega⟩ := by
  have h49 := ref49 x w g p q
  unfold val_main_v56
  generalize val_main_v49 (F := Ideal) x w g = M at h49 ⊢
  pointwise []
  exact h49 _

theorem ref57 (l : Fin 128) : val_main_v57 (F := Ideal) x w g (ix3 p q l) = tok x w g p q ⟨1188 + l.val, by omega⟩ := by
  have h49 := ref49 x w g p q
  unfold val_main_v57
  generalize val_main_v49 (F := Ideal) x w g = M at h49 ⊢
  pointwise []
  exact h49 _

theorem ref59 (l : Fin 128) : val_main_v59 (F := Ideal) x w g (ix3 p q l) = tok x w g p q ⟨1444 + l.val, by omega⟩ := by
  have h49 := ref49 x w g p q
  unfold val_main_v59
  generalize val_main_v49 (F := Ideal) x w g = M at h49 ⊢
  pointwise []
  exact h49 _

theorem ref61 (l : Fin 128) : val_main_v61 (F := Ideal) x w g (ix3 p q l) = tok x w g p q ⟨1700 + l.val, by omega⟩ := by
  have h49 := ref49 x w g p q
  unfold val_main_v61
  generalize val_main_v49 (F := Ideal) x w g = M at h49 ⊢
  pointwise []
  exact h49 _

theorem ref55 (l : Fin 512) : val_main_v55 (F := Ideal) x w g (ix3 p q l) = tok x w g p q ⟨548 + l.val, by omega⟩ := by
  have h49 := ref49 x w g p q
  unfold val_main_v55
  generalize val_main_v49 (F := Ideal) x w g = M at h49 ⊢
  pointwise []
  exact h49 _

theorem ref62 (l : Fin 24) : val_main_v62 (F := Ideal) x w g (ix3 p q l) = tok x w g p q ⟨1828 + l.val, by omega⟩ := by
  have h49 := ref49 x w g p q
  unfold val_main_v62
  generalize val_main_v49 (F := Ideal) x w g = M at h49 ⊢
  pointwise []
  exact h49 _

theorem ref63 (l : Fin 256) : val_main_v63 (F := Ideal) x w g (ix3 p q l) = tok x w g p q ⟨1852 + l.val, by omega⟩ := by
  have h49 := ref49 x w g p q
  unfold val_main_v63
  generalize val_main_v49 (F := Ideal) x w g = M at h49 ⊢
  pointwise []
  exact h49 _

theorem ref106 (d : Fin 64) : val_main_v106 (F := Ideal) x w gk wk g (ix3 p q d) = va (lat x w gk wk g p q) d := by
  have h94 := ref94 x w gk wk g p q
  unfold val_main_v106
  generalize val_main_v94 (F := Ideal) x w gk wk g = M at h94 ⊢
  pointwise []
  exact h94 _

theorem ref186 (l : Fin 128) : val_main_v186 (F := Ideal) x w g (ix3 p q l) = misc (tok x w g p q) l := by
  have h54 := ref54 x w g p q
  have h62 := ref62 x w g p q
  unfold val_main_v186
  generalize val_main_v54 (F := Ideal) x w g = M at h54 ⊢
  generalize val_main_v62 (F := Ideal) x w g = N at h62 ⊢
  pointwise [val_main_v185, val_main_cst_13, misc]
  simp only [h54, h62]

variable (i : Fin 65536)

abbrev bat : Fin 32 := ⟨i.val / 2048, by omega⟩
abbrev row : Fin 2048 := ⟨i.val % 2048, Nat.mod_lt _ (by norm_num)⟩

theorem at190 (l : Fin 256) : val_main_v190 (F := Ideal) x pos w g (ix2 i l)
    = qa (tok x w g (bat i) (row i)) (ch pos (bat i) (row i)) (sh pos (bat i) (row i)) l := by
  show val_main_v189 (F := Ideal) x pos w g (ix2 i l) = _
  refine (cast_heads (a := 4) (b := 64) rfl (by norm_num) _ _ i l).trans ?_
  show val_main_v80 (F := Ideal) x pos w g _ * κ₂ = _
  rw [ref80]
  rfl

theorem at195 (l : Fin 128) : val_main_v195 (F := Ideal) x pos w gk wk g (ix2 i l)
    = ka (lat x w gk wk g (bat i) (row i)) (ch pos (bat i) (row i)) (sh pos (bat i) (row i)) l := by
  show val_main_v194 (F := Ideal) x pos w gk wk g (ix2 i l) = _
  refine (cast_heads (a := 2) (b := 64) rfl (by norm_num) _ _ i l).trans ?_
  have h := ref105 x pos w gk wk g (bat i) (row i)
  show val_main_v193 (F := Ideal) x pos w gk wk g _ = _
  unfold val_main_v193 val_main_v191 val_main_v192
  generalize val_main_v105 (F := Ideal) x pos w gk wk g = M at h ⊢
  pointwise []
  simp only [h]
  split_ifs <;> rfl

theorem at198 (a b : Fin 256) (d : Fin 64) : val_main_v198 (F := Ideal) x w gk wk g (ix3 a d b)
    = va (lat x w gk wk g ⟨a.val / 8, by omega⟩ ⟨a.val % 8 * 256 + b.val, by omega⟩) d := by
  have h : ∀ (a b : Fin 256) (d : Fin 64), val_main_v196 (F := Ideal) x w gk wk g (ix3 a b d) = _ := fun a b d =>
    (cast_chunks _ _ a b d).trans (ref106 x w gk wk g ⟨a.val / 8, by omega⟩ ⟨a.val % 8 * 256 + b.val, by omega⟩ d)
  unfold val_main_v198 val_main_v197
  generalize val_main_v196 (F := Ideal) x w gk wk g = M at h ⊢
  pointwise []
  exact h a b d

theorem at200 (l : Fin 128) : val_main_v200 (F := Ideal) x pos w g (ix2 i l)
    = qidx (tok x w g (bat i) (row i)) (ci pos (bat i) (row i)) (si pos (bat i) (row i)) l := by
  show val_main_v199 (F := Ideal) x pos w g (ix2 i l) = _
  refine (cast_heads (a := 4) (b := 32) rfl (by norm_num) _ _ i l).trans ?_
  show val_main_v123 (F := Ideal) x pos w g _ = _
  rw [ref123]
  rfl

theorem at207 (l : Fin 128) : val_main_v207 (F := Ideal) x pos w g (ix2 i l)
    = kidx (tok x w g (bat i) (row i)) (ci pos (bat i) (row i)) (si pos (bat i) (row i)) l := by
  show val_main_v206 (F := Ideal) x pos w g (ix2 i l) = _
  refine (cast_heads (a := 4) (b := 32) rfl (by norm_num) _ _ i l).trans ?_
  have h := ref133 x pos w g (bat i) (row i)
  show val_main_v205 (F := Ideal) x pos w g _ = _
  unfold val_main_v205 val_main_v201 val_main_v202 val_main_v203 val_main_v204
  generalize val_main_v133 (F := Ideal) x pos w g = M at h ⊢
  pointwise []
  simp only [h]
  split_ifs <;> rfl

theorem at211 (l : Fin 512) : val_main_v211 (F := Ideal) x w g (ix2 i l)
    = qbn (tok x w g (bat i) (row i)) l := by
  show val_main_v210 (F := Ideal) x w g (ix2 i l) = _
  refine (cast_heads (a := 8) (b := 64) rfl (by norm_num) _ _ i l).trans ?_
  have h := ref55 x w g (bat i) (row i)
  show val_main_v134 (F := Ideal) x w g _ * κ = _
  unfold val_main_v134
  generalize val_main_v55 (F := Ideal) x w g = M at h ⊢
  pointwise [qbn]
  simp only [h]

theorem at215 (l : Fin 512) : val_main_v215 (F := Ideal) x pos w g (ix2 i l)
    = qbr (tok x w g (bat i) (row i)) (ch pos (bat i) (row i)) (sh pos (bat i) (row i)) l := by
  show val_main_v214 (F := Ideal) x pos w g (ix2 i l) = _
  refine (cast_heads (a := 8) (b := 64) rfl (by norm_num) _ _ i l).trans ?_
  show val_main_v150 (F := Ideal) x pos w g _ * κ₂ = _
  rw [ref150]
  rfl

theorem at216 (l : Fin 128) : val_main_v216 (F := Ideal) x w g (ix2 i l)
    = plain (tok x w g (bat i) (row i)) 1060 (by omega) l := by
  exact (Merge.cast_row _ _ i l).trans (ref56 x w g (bat i) (row i) l)

theorem at217 (l : Fin 128) : val_main_v217 (F := Ideal) x w g (ix2 i l)
    = plain (tok x w g (bat i) (row i)) 1188 (by omega) l := by
  exact (Merge.cast_row _ _ i l).trans (ref57 x w g (bat i) (row i) l)

theorem at235 (l : Fin 256) : val_main_v235 (F := Ideal) x w g (ix2 i l)
    = plain (tok x w g (bat i) (row i)) 1852 (by omega) l := by
  exact (Merge.cast_row _ _ i l).trans (ref63 x w g (bat i) (row i) l)

theorem at234 (l : Fin 128) : val_main_v234 (F := Ideal) x w g (ix2 i l)
    = misc (tok x w g (bat i) (row i)) l := by
  exact (Merge.cast_row _ _ i l).trans (ref186 x w g (bat i) (row i) l)

theorem at222 (l : Fin 256) : val_main_v222 (F := Ideal) x pos w g (ix2 i l)
    = kslc (tok x w g (bat i) (row i)) (ch pos (bat i) (row i)) (sh pos (bat i) (row i)) l := by
  show val_main_v221 (F := Ideal) x pos w g (ix2 i l) = _
  refine (cast_twice _ _ i l).trans ?_
  have h := ref167 x pos w g (bat i) (row i)
  show val_main_v220 (F := Ideal) x pos w g _ = _
  unfold val_main_v220 val_main_v218 val_main_v219
  generalize val_main_v167 (F := Ideal) x pos w g = M at h ⊢
  pointwise []
  simp only [h]
  split_ifs <;> rfl

theorem at230 (l : Fin 256) : val_main_v230 (F := Ideal) x pos w g (ix2 i l)
    = kwin (tok x w g (bat i) (row i)) (ch pos (bat i) (row i)) (sh pos (bat i) (row i)) l := by
  show val_main_v229 (F := Ideal) x pos w g (ix2 i l) = _
  refine (cast_twice _ _ i l).trans ?_
  have h := ref184 x pos w g (bat i) (row i)
  show val_main_v228 (F := Ideal) x pos w g _ = _
  unfold val_main_v228 val_main_v226 val_main_v227
  generalize val_main_v184 (F := Ideal) x pos w g = M at h ⊢
  pointwise []
  simp only [h]
  split_ifs <;> rfl

theorem at225 (a b : Fin 256) (d : Fin 128) : val_main_v225 (F := Ideal) x w g (ix3 a d b)
    = plain (tok x w g ⟨a.val / 8, by omega⟩ ⟨a.val % 8 * 256 + b.val, by omega⟩) 1444 (by omega) d := by
  have h : ∀ (a b : Fin 256) (d : Fin 128), val_main_v223 (F := Ideal) x w g (ix3 a b d) = _ := fun a b d =>
    (cast_chunks _ _ a b d).trans (ref59 x w g ⟨a.val / 8, by omega⟩ ⟨a.val % 8 * 256 + b.val, by omega⟩ d)
  unfold val_main_v225 val_main_v224
  generalize val_main_v223 (F := Ideal) x w g = M at h ⊢
  pointwise []
  exact h a b d

theorem at233 (a b : Fin 256) (d : Fin 128) : val_main_v233 (F := Ideal) x w g (ix3 a d b)
    = plain (tok x w g ⟨a.val / 8, by omega⟩ ⟨a.val % 8 * 256 + b.val, by omega⟩) 1700 (by omega) d := by
  have h : ∀ (a b : Fin 256) (d : Fin 128), val_main_v231 (F := Ideal) x w g (ix3 a b d) = _ := fun a b d =>
    (cast_chunks _ _ a b d).trans (ref61 x w g ⟨a.val / 8, by omega⟩ ⟨a.val % 8 * 256 + b.val, by omega⟩ d)
  unfold val_main_v233 val_main_v232
  generalize val_main_v231 (F := Ideal) x w g = M at h ⊢
  pointwise []
  exact h a b d

end Cert.Proof.Proj

end
-- ==== Proof.ProjHost.lean ====
/- The arrays the projection call is launched with, read at an index: the tables of the rotation and the rearranged
   weights. -/
module

public import Idealize.ShloMosaic.Lib.StableHlo.RunRead
public import proofs.«01_k».proof.Proof.ProjTable
public import proofs.«01_k».proof.Proof.ProjRef
public import proofs.«01_k».proof.Proof.MergeRun
public import proofs.«01_k».proof.Proof.Gen.ProjIdeal.Value

@[expose] public section

noncomputable section

namespace Cert.Proof.Proj

open Idealize.ShloMosaic Idealize.ShloMosaic.TcCoe Idealize.SL.Sem
open Cert.ProjIdeal Cert.ProjIdeal.Gen Cert.ProjIdeal.Value

variable (m : (ℓ : Loc nD τ sig) → Buf (Elt Ideal) ℓ) (c : Dev nD)

/-- The buffers after each stretch of host operations but the last. -/
def B₁ : Valuation τ sig (Elt Ideal) := StableHlo.after hostOps0 (fun b => m (c, b))
def B₂ : Valuation τ sig (Elt Ideal) := StableHlo.after hostOps0_1 (B₁ m c)
def B₃ : Valuation τ sig (Elt Ideal) := StableHlo.after hostOps0_2 (B₂ m c)
def B₄ : Valuation τ sig (Elt Ideal) := StableHlo.after hostOps0_3 (B₃ m c)

theorem V_eq (b : Ref sig .tc) : V m c b = StableHlo.after hostOps0_4 (B₄ m c) (Proc.devRef .tc b) := by
  simp only [V, List.flatten_cons, List.flatten_nil, List.append_nil, Idealize.ShloMosaic.StableHlo.after_append]
  rfl

theorem B_arg2 : B₄ m c (Proc.devRef .tc main_arg2) = m ((c : Thread nD τ).loc main_arg2) := by
  have h := V_main_arg2 m c
  rw [V_eq] at h
  generalize B₄ m c = B at h ⊢
  rw [← h]
  symm
  after_results

theorem B_arg4 : B₄ m c (Proc.devRef .tc main_arg4) = m ((c : Thread nD τ).loc main_arg4) := by
  have h := V_main_arg4 m c
  rw [V_eq] at h
  generalize B₄ m c = B at h ⊢
  rw [← h]
  symm
  after_results

theorem B1_v20 : B₁ m c (Proc.devRef .tc main_v20) = iotaInDim S128 32 0 := by
  unfold B₁
  after_results

theorem B1_c : B₁ m c (Proc.devRef .tc main_c) = constantI S_ 32 64#32 := by
  unfold B₁
  after_results

/-- Lane `l` within its head, two heads to a row of 128 lanes. -/
theorem lanes (l : Fin 128) : (B₂ m c (Proc.devRef .tc main_v21) (ix1 l) : BitVec 32) = BitVec.ofNat 32 (l.val % 64) := by
  have h₁ := B1_v20 m c
  have h₂ := B1_c m c
  unfold B₂
  generalize B₁ m c = B at h₁ h₂ ⊢
  after_results_simp
  rw [h₁, h₂]
  clear h₁ h₂
  revert l
  decide +kernel

theorem B3_v77 : B₃ m c (Proc.devRef .tc main_v77) = iotaInDim S128 32 0 := by
  unfold B₃
  after_results_simp

theorem B3_c : B₃ m c (Proc.devRef .tc main_c_15) = constantI S_ 32 32#32 := by
  unfold B₃
  after_results_simp

/-- The same for four indexer heads to a row. -/
theorem lanes' (l : Fin 128) : (B₄ m c (Proc.devRef .tc main_v78) (ix1 l) : BitVec 32) = BitVec.ofNat 32 (l.val % 32) := by
  have h₁ := B3_v77 m c
  have h₂ := B3_c m c
  unfold B₄
  generalize B₃ m c = B at h₁ h₂ ⊢
  after_results_simp
  rw [h₁, h₂]
  clear h₁ h₂
  revert l
  decide +kernel

/-- The positions. -/
abbrev pos := (m ((c : Thread nD τ).loc main_arg1) : S32x2048.Idx → BitVec 32)

/-- The cosine, then the sine, then a one, for token `i`. -/
theorem src (i : Fin 65536) (x : Fin 17) : (B₁ m c (Proc.devRef .tc main_v19) (ix2 i x) : EReal)
    = if h : x.val < 8 then ch (pos m c) (bat i) (row i) ⟨x.val, h⟩
      else if h : x.val - 8 < 8 then sh (pos m c) (bat i) (row i) ⟨x.val - 8, h⟩ else 1 := by
  unfold B₁
  after_reads_simp
  pointwise []
  try after_reads_simp
  try pointwise []
  try after_reads_simp
  try pointwise []
  unfold ch sh
  pointwise [Cert.ProjRefIdeal.Read.val_main_v0, Cert.ProjRefIdeal.Read.val_main_v1, Cert.ProjRefIdeal.Read.val_main_v2, Cert.ProjRefIdeal.Read.val_main_v3, Cert.ProjRefIdeal.Read.val_main_v4, Cert.ProjRefIdeal.Read.val_main_v5, Cert.ProjRefIdeal.Read.val_main_v6, Cert.ProjRefIdeal.Read.val_main_v7, Cert.ProjRefIdeal.Read.val_main_v8, Cert.ProjRefIdeal.Read.val_main_v9, Cert.ProjRefIdeal.Read.val_main_v10, Cert.ProjRefIdeal.Read.val_main_v11, Cert.ProjRefIdeal.Read.val_main_v12, Cert.ProjRefIdeal.Read.val_main_v13, Cert.ProjRefIdeal.Read.val_main_v14, Cert.ProjRefIdeal.Read.val_main_v15, Cert.ProjRefIdeal.Read.val_main_v16, Cert.ProjRefIdeal.Read.val_main_v17, Cert.ProjRefIdeal.Read.val_main_cst, Cert.ProjRefIdeal.Read.val_main_cst_0, Cert.ProjRefIdeal.Read.val_main_cst_1, Cert.ProjRefIdeal.Read.val_main_cst_2, Cert.ProjRefIdeal.Read.val_main_cst_3]

theorem tabA (i : Fin 65536) (l : Fin 128) : (B₃ m c (Proc.devRef .tc main_v56) (ix2 i ⟨0 + l.val, by omega⟩) : EReal)
    = tA 64 (ch (pos m c) (bat i) (row i)) l.val := by
  have hl := lanes m c l
  have h19 : ∀ x, B₂ m c (Proc.devRef .tc main_v19) (ix2 i x) = B₁ m c (Proc.devRef .tc main_v19) (ix2 i x) := fun x => by
    unfold B₂
    generalize B₁ m c = B
    after_results_simp
  unfold B₃
  generalize B₂ m c = B at hl h19 ⊢
  after_reads_simp
  pointwise []
  try after_reads_simp
  try pointwise []
  try after_reads_simp
  try pointwise []
  simp only [hl, h19]
  unfold tA
  by_cases h₁ : l.val % 64 < 8
  · rw [dif_pos h₁]
    refine (one_hot _ _ ⟨l.val % 64, by omega⟩ 1 fun x => ?_).trans (by rw [mul_one, src, dif_pos h₁])
    by_cases hx : x.val < 8
    · have e₁ := either64 ⟨l.val % 64, Nat.mod_lt _ (by norm_num)⟩ ⟨x.val, hx⟩
      have e₂ := first64 ⟨l.val % 64, Nat.mod_lt _ (by norm_num)⟩ ⟨x.val, hx⟩
      have e₃ := second64 ⟨l.val % 64, Nat.mod_lt _ (by norm_num)⟩ ⟨x.val, hx⟩
      simp only [hx, dif_pos, bit, e₁, Fin.ext_iff]
      all_goals split_ifs <;> first | rfl | exact neg_zero | (exfalso; omega)
    · by_cases hy : x.val - 8 < 8
      · have e₂ := first64 ⟨l.val % 64, Nat.mod_lt _ (by norm_num)⟩ ⟨x.val - 8, hy⟩
        have e₃ := second64 ⟨l.val % 64, Nat.mod_lt _ (by norm_num)⟩ ⟨x.val - 8, hy⟩
        dsimp only at e₂ e₃
        simp only [hx, hy, dif_pos, dif_neg, not_false_eq_true, bit, e₂, e₃, Fin.ext_iff, apply_ite Neg.neg, neg_zero]
        all_goals split_ifs <;> first | rfl | exact neg_zero | (exfalso; omega)
      · have e₂ := past64 ⟨l.val % 64, Nat.mod_lt _ (by norm_num)⟩
        simp only [hx, hy, dif_neg, not_false_eq_true, bit, e₂, Fin.ext_iff]
        all_goals split_ifs <;> first | rfl | exact neg_zero | (exfalso; omega)
  · rw [dif_neg h₁]
    by_cases h₂ : l.val % 64 - 8 < 8
    · rw [dif_pos h₂]
      refine (one_hot _ _ ⟨l.val % 64 - 8, by omega⟩ 1 fun x => ?_).trans (by rw [mul_one, src, dif_pos h₂])
      by_cases hx : x.val < 8
      · have e₁ := either64 ⟨l.val % 64, Nat.mod_lt _ (by norm_num)⟩ ⟨x.val, hx⟩
        have e₂ := first64 ⟨l.val % 64, Nat.mod_lt _ (by norm_num)⟩ ⟨x.val, hx⟩
        have e₃ := second64 ⟨l.val % 64, Nat.mod_lt _ (by norm_num)⟩ ⟨x.val, hx⟩
        simp only [hx, dif_pos, bit, e₁, Fin.ext_iff]
        all_goals split_ifs <;> first | rfl | exact neg_zero | (exfalso; omega)
      · by_cases hy : x.val - 8 < 8
        · have e₂ := first64 ⟨l.val % 64, Nat.mod_lt _ (by norm_num)⟩ ⟨x.val - 8, hy⟩
          have e₃ := second64 ⟨l.val % 64, Nat.mod_lt _ (by norm_num)⟩ ⟨x.val - 8, hy⟩
          dsimp only at e₂ e₃
          simp only [hx, hy, dif_pos, dif_neg, not_false_eq_true, bit, e₂, e₃, Fin.ext_iff, apply_ite Neg.neg, neg_zero]
          all_goals split_ifs <;> first | rfl | exact neg_zero | (exfalso; omega)
        · have e₂ := past64 ⟨l.val % 64, Nat.mod_lt _ (by norm_num)⟩
          simp only [hx, hy, dif_neg, not_false_eq_true, bit, e₂, Fin.ext_iff]
          all_goals split_ifs <;> first | rfl | exact neg_zero | (exfalso; omega)
    · rw [dif_neg h₂]
      refine (one_hot _ _ ⟨16, by omega⟩ 1 fun x => ?_).trans (by rw [mul_one, src, dif_neg (by simp), dif_neg (by simp)])
      by_cases hx : x.val < 8
      · have e₁ := either64 ⟨l.val % 64, Nat.mod_lt _ (by norm_num)⟩ ⟨x.val, hx⟩
        have e₂ := first64 ⟨l.val % 64, Nat.mod_lt _ (by norm_num)⟩ ⟨x.val, hx⟩
        have e₃ := second64 ⟨l.val % 64, Nat.mod_lt _ (by norm_num)⟩ ⟨x.val, hx⟩
        simp only [hx, dif_pos, bit, e₁, Fin.ext_iff]
        all_goals split_ifs <;> first | rfl | exact neg_zero | (exfalso; omega)
      · by_cases hy : x.val - 8 < 8
        · have e₂ := first64 ⟨l.val % 64, Nat.mod_lt _ (by norm_num)⟩ ⟨x.val - 8, hy⟩
          have e₃ := second64 ⟨l.val % 64, Nat.mod_lt _ (by norm_num)⟩ ⟨x.val - 8, hy⟩
          dsimp only at e₂ e₃
          simp only [hx, hy, dif_pos, dif_neg, not_false_eq_true, bit, e₂, e₃, Fin.ext_iff, apply_ite Neg.neg, neg_zero]
          all_goals split_ifs <;> first | rfl | exact neg_zero | (exfalso; omega)
        · have e₂ := past64 ⟨l.val % 64, Nat.mod_lt _ (by norm_num)⟩
          simp only [hx, hy, dif_neg, not_false_eq_true, bit, e₂, Fin.ext_iff]
          all_goals split_ifs <;> first | rfl | exact neg_zero | (exfalso; omega)

theorem tabB (i : Fin 65536) (l : Fin 128) : (B₃ m c (Proc.devRef .tc main_v56) (ix2 i ⟨128 + l.val, by omega⟩) : EReal)
    = tB 64 (sh (pos m c) (bat i) (row i)) l.val := by
  have hl := lanes m c l
  have h19 : ∀ x, B₂ m c (Proc.devRef .tc main_v19) (ix2 i x) = B₁ m c (Proc.devRef .tc main_v19) (ix2 i x) := fun x => by
    unfold B₂
    generalize B₁ m c = B
    after_results_simp
  unfold B₃
  generalize B₂ m c = B at hl h19 ⊢
  after_reads_simp
  pointwise []
  try after_reads_simp
  try pointwise []
  try after_reads_simp
  try pointwise []
  simp only [hl, h19]
  unfold tB
  by_cases h₁ : l.val % 64 < 8
  · rw [dif_pos h₁]
    refine (one_hot _ _ ⟨8 + l.val % 64, by omega⟩ (-1) fun x => ?_).trans ?_
    · by_cases hx : x.val < 8
      · have e₁ := either64 ⟨l.val % 64, Nat.mod_lt _ (by norm_num)⟩ ⟨x.val, hx⟩
        have e₂ := first64 ⟨l.val % 64, Nat.mod_lt _ (by norm_num)⟩ ⟨x.val, hx⟩
        have e₃ := second64 ⟨l.val % 64, Nat.mod_lt _ (by norm_num)⟩ ⟨x.val, hx⟩
        simp only [hx, dif_pos, bit, e₁, Fin.ext_iff]
        all_goals split_ifs <;> first | rfl | exact neg_zero | (exfalso; omega)
      · by_cases hy : x.val - 8 < 8
        · have e₂ := first64 ⟨l.val % 64, Nat.mod_lt _ (by norm_num)⟩ ⟨x.val - 8, hy⟩
          have e₃ := second64 ⟨l.val % 64, Nat.mod_lt _ (by norm_num)⟩ ⟨x.val - 8, hy⟩
          dsimp only at e₂ e₃
          simp only [hx, hy, dif_pos, dif_neg, not_false_eq_true, bit, e₂, e₃, Fin.ext_iff, apply_ite Neg.neg, neg_zero]
          all_goals split_ifs <;> first | rfl | exact neg_zero | (exfalso; omega)
        · have e₂ := past64 ⟨l.val % 64, Nat.mod_lt _ (by norm_num)⟩
          simp only [hx, hy, dif_neg, not_false_eq_true, bit, e₂, Fin.ext_iff]
          all_goals split_ifs <;> first | rfl | exact neg_zero | (exfalso; omega)
    · rw [mul_neg, mul_one, src, dif_neg (by simp), dif_pos (by simp only; omega)]
      congr 2
      apply Fin.ext
      simp only
      omega
  · rw [dif_neg h₁]
    refine none_hot _ _ fun x => ?_
    by_cases hx : x.val < 8
    · have e₁ := either64 ⟨l.val % 64, Nat.mod_lt _ (by norm_num)⟩ ⟨x.val, hx⟩
      have e₂ := first64 ⟨l.val % 64, Nat.mod_lt _ (by norm_num)⟩ ⟨x.val, hx⟩
      have e₃ := second64 ⟨l.val % 64, Nat.mod_lt _ (by norm_num)⟩ ⟨x.val, hx⟩
      simp only [hx, dif_pos, bit, e₁, Fin.ext_iff]
      all_goals split_ifs <;> first | rfl | exact neg_zero | (exfalso; omega)
    · by_cases hy : x.val - 8 < 8
      · have e₂ := first64 ⟨l.val % 64, Nat.mod_lt _ (by norm_num)⟩ ⟨x.val - 8, hy⟩
        have e₃ := second64 ⟨l.val % 64, Nat.mod_lt _ (by norm_num)⟩ ⟨x.val - 8, hy⟩
        dsimp only at e₂ e₃
        simp only [hx, hy, dif_pos, dif_neg, not_false_eq_true, bit, e₂, e₃, Fin.ext_iff, apply_ite Neg.neg, neg_zero]
        all_goals split_ifs <;> first | rfl | exact neg_zero | (exfalso; omega)
      · have e₂ := past64 ⟨l.val % 64, Nat.mod_lt _ (by norm_num)⟩
        simp only [hx, hy, dif_neg, not_false_eq_true, bit, e₂, Fin.ext_iff]
        all_goals split_ifs <;> first | rfl | exact neg_zero | (exfalso; omega)

theorem tabC (i : Fin 65536) (l : Fin 128) : (B₃ m c (Proc.devRef .tc main_v56) (ix2 i ⟨256 + l.val, by omega⟩) : EReal)
    = tC 64 (sh (pos m c) (bat i) (row i)) l.val := by
  have hl := lanes m c l
  have h19 : ∀ x, B₂ m c (Proc.devRef .tc main_v19) (ix2 i x) = B₁ m c (Proc.devRef .tc main_v19) (ix2 i x) := fun x => by
    unfold B₂
    generalize B₁ m c = B
    after_results_simp
  unfold B₃
  generalize B₂ m c = B at hl h19 ⊢
  after_reads_simp
  pointwise []
  try after_reads_simp
  try pointwise []
  try after_reads_simp
  try pointwise []
  have n₁ : ¬ 256 + l.val < 128 := by omega
  have n₂ : ¬ 256 + l.val - 128 < 128 := by omega
  have n₃ : 256 + l.val - 128 - 128 = l.val := by omega
  simp only [hl, h19, n₁, n₂, n₃, dif_neg, not_false_eq_true, Fin.eta]
  unfold tC
  by_cases h₁ : l.val % 64 < 8
  · rw [if_pos h₁]
    refine none_hot _ _ fun x => ?_
    by_cases hx : x.val < 8
    · have e₁ := either64 ⟨l.val % 64, Nat.mod_lt _ (by norm_num)⟩ ⟨x.val, hx⟩
      have e₂ := first64 ⟨l.val % 64, Nat.mod_lt _ (by norm_num)⟩ ⟨x.val, hx⟩
      have e₃ := second64 ⟨l.val % 64, Nat.mod_lt _ (by norm_num)⟩ ⟨x.val, hx⟩
      simp only [hx, dif_pos, bit, e₁, Fin.ext_iff]
      all_goals split_ifs <;> first | rfl | exact neg_zero | (exfalso; omega)
    · by_cases hy : x.val - 8 < 8
      · have e₂ := first64 ⟨l.val % 64, Nat.mod_lt _ (by norm_num)⟩ ⟨x.val - 8, hy⟩
        have e₃ := second64 ⟨l.val % 64, Nat.mod_lt _ (by norm_num)⟩ ⟨x.val - 8, hy⟩
        dsimp only at e₂ e₃
        simp only [hx, hy, dif_pos, dif_neg, not_false_eq_true, bit, e₂, e₃, Fin.ext_iff, apply_ite Neg.neg, neg_zero]
        all_goals split_ifs <;> first | rfl | exact neg_zero | (exfalso; omega)
      · have e₂ := past64 ⟨l.val % 64, Nat.mod_lt _ (by norm_num)⟩
        simp only [hx, hy, dif_neg, not_false_eq_true, bit, e₂, Fin.ext_iff]
        all_goals split_ifs <;> first | rfl | exact neg_zero | (exfalso; omega)
  · rw [if_neg h₁]
    by_cases h₂ : l.val % 64 - 8 < 8
    · rw [dif_pos h₂]
      refine (one_hot _ _ ⟨l.val % 64, by omega⟩ 1 fun x => ?_).trans (by rw [mul_one, src, dif_neg h₁, dif_pos h₂])
      by_cases hx : x.val < 8
      · have e₁ := either64 ⟨l.val % 64, Nat.mod_lt _ (by norm_num)⟩ ⟨x.val, hx⟩
        have e₂ := first64 ⟨l.val % 64, Nat.mod_lt _ (by norm_num)⟩ ⟨x.val, hx⟩
        have e₃ := second64 ⟨l.val % 64, Nat.mod_lt _ (by norm_num)⟩ ⟨x.val, hx⟩
        simp only [hx, dif_pos, bit, e₁, Fin.ext_iff]
        all_goals split_ifs <;> first | rfl | exact neg_zero | (exfalso; omega)
      · by_cases hy : x.val - 8 < 8
        · have e₂ := first64 ⟨l.val % 64, Nat.mod_lt _ (by norm_num)⟩ ⟨x.val - 8, hy⟩
          have e₃ := second64 ⟨l.val % 64, Nat.mod_lt _ (by norm_num)⟩ ⟨x.val - 8, hy⟩
          dsimp only at e₂ e₃
          simp only [hx, hy, dif_pos, dif_neg, not_false_eq_true, bit, e₂, e₃, Fin.ext_iff, apply_ite Neg.neg, neg_zero]
          all_goals split_ifs <;> first | rfl | exact neg_zero | (exfalso; omega)
        · have e₂ := past64 ⟨l.val % 64, Nat.mod_lt _ (by norm_num)⟩
          simp only [hx, hy, dif_neg, not_false_eq_true, bit, e₂, Fin.ext_iff]
          all_goals split_ifs <;> first | rfl | exact neg_zero | (exfalso; omega)
    · rw [dif_neg h₂]
      refine none_hot _ _ fun x => ?_
      by_cases hx : x.val < 8
      · have e₁ := either64 ⟨l.val % 64, Nat.mod_lt _ (by norm_num)⟩ ⟨x.val, hx⟩
        have e₂ := first64 ⟨l.val % 64, Nat.mod_lt _ (by norm_num)⟩ ⟨x.val, hx⟩
        have e₃ := second64 ⟨l.val % 64, Nat.mod_lt _ (by norm_num)⟩ ⟨x.val, hx⟩
        simp only [hx, dif_pos, bit, e₁, Fin.ext_iff]
        all_goals split_ifs <;> first | rfl | exact neg_zero | (exfalso; omega)
      · by_cases hy : x.val - 8 < 8
        · have e₂ := first64 ⟨l.val % 64, Nat.mod_lt _ (by norm_num)⟩ ⟨x.val - 8, hy⟩
          have e₃ := second64 ⟨l.val % 64, Nat.mod_lt _ (by norm_num)⟩ ⟨x.val - 8, hy⟩
          dsimp only at e₂ e₃
          simp only [hx, hy, dif_pos, dif_neg, not_false_eq_true, bit, e₂, e₃, Fin.ext_iff, apply_ite Neg.neg, neg_zero]
          all_goals split_ifs <;> first | rfl | exact neg_zero | (exfalso; omega)
        · have e₂ := past64 ⟨l.val % 64, Nat.mod_lt _ (by norm_num)⟩
          simp only [hx, hy, dif_neg, not_false_eq_true, bit, e₂, Fin.ext_iff]
          all_goals split_ifs <;> first | rfl | exact neg_zero | (exfalso; omega)

theorem B2_arg1 : B₂ m c (Proc.devRef .tc main_arg1) = m ((c : Thread nD τ).loc main_arg1) := by
  have h := V_main_arg1 m c
  rw [V_eq] at h
  rw [← h]
  unfold B₄ B₃
  generalize B₂ m c = B
  symm
  simp only [show StableHlo.after hostOps0_4 (StableHlo.after hostOps0_3 (StableHlo.after hostOps0_2 B)) (Proc.devRef .tc main_arg1)
    = StableHlo.after hostOps0_3 (StableHlo.after hostOps0_2 B) (Proc.devRef .tc main_arg1) by
      generalize StableHlo.after hostOps0_3 (StableHlo.after hostOps0_2 B) = B'; after_results_simp]
  generalize hB : StableHlo.after hostOps0_2 B = B'
  after_results_simp
  rw [← hB]
  after_results_simp

set_option maxHeartbeats 4000000 in
/-- The same for the indexer's angles. -/
theorem src' (i : Fin 65536) (x : Fin 9) : (B₃ m c (Proc.devRef .tc main_v76) (ix2 i x) : EReal)
    = if h : x.val < 4 then ci (pos m c) (bat i) (row i) ⟨x.val, h⟩
      else if h : x.val - 4 < 4 then si (pos m c) (bat i) (row i) ⟨x.val - 4, h⟩ else 1 := by
  have hp := B2_arg1 m c
  unfold B₃
  generalize B₂ m c = B at hp ⊢
  after_reads_simp
  pointwise []
  try after_reads_simp
  try pointwise []
  try after_reads_simp
  try pointwise []
  rw [hp]
  unfold ci si
  pointwise [Cert.ProjRefIdeal.Read.val_main_v18, Cert.ProjRefIdeal.Read.val_main_v19, Cert.ProjRefIdeal.Read.val_main_v20, Cert.ProjRefIdeal.Read.val_main_v21, Cert.ProjRefIdeal.Read.val_main_v22, Cert.ProjRefIdeal.Read.val_main_v23, Cert.ProjRefIdeal.Read.val_main_v24, Cert.ProjRefIdeal.Read.val_main_v25, Cert.ProjRefIdeal.Read.val_main_v26, Cert.ProjRefIdeal.Read.val_main_v27, Cert.ProjRefIdeal.Read.val_main_v28, Cert.ProjRefIdeal.Read.val_main_v29, Cert.ProjRefIdeal.Read.val_main_v30, Cert.ProjRefIdeal.Read.val_main_v31, Cert.ProjRefIdeal.Read.val_main_v32, Cert.ProjRefIdeal.Read.val_main_v33, Cert.ProjRefIdeal.Read.val_main_v34, Cert.ProjRefIdeal.Read.val_main_v35, Cert.ProjRefIdeal.Read.val_main_cst, Cert.ProjRefIdeal.Read.val_main_cst_0, Cert.ProjRefIdeal.Read.val_main_cst_1, Cert.ProjRefIdeal.Read.val_main_cst_2, Cert.ProjRefIdeal.Read.val_main_cst_3, Cert.ProjRefIdeal.Read.val_main_cst_4, Cert.ProjRefIdeal.Read.val_main_cst_5, Cert.ProjRefIdeal.Read.val_main_cst_6, Cert.ProjRefIdeal.Read.val_main_cst_7]

theorem itabA (i : Fin 65536) (l : Fin 128) : (V m c main_v113 (ix2 i ⟨0 + l.val, by omega⟩) : EReal)
    = tA 32 (ci (pos m c) (bat i) (row i)) l.val := by
  have hl := lanes' m c l
  have h19 : ∀ x, B₄ m c (Proc.devRef .tc main_v76) (ix2 i x) = B₃ m c (Proc.devRef .tc main_v76) (ix2 i x) := fun x => by
    unfold B₄
    generalize B₃ m c = B
    after_results_simp
  rw [V_eq]
  generalize B₄ m c = B at hl h19 ⊢
  after_reads_simp
  pointwise []
  try after_reads_simp
  try pointwise []
  try after_reads_simp
  try pointwise []
  simp only [hl, h19]
  unfold tA
  by_cases h₁ : l.val % 32 < 4
  · rw [dif_pos h₁]
    refine (one_hot _ _ ⟨l.val % 32, by omega⟩ 1 fun x => ?_).trans (by rw [mul_one, src', dif_pos h₁])
    by_cases hx : x.val < 4
    · have e₁ := either32 ⟨l.val % 32, Nat.mod_lt _ (by norm_num)⟩ ⟨x.val, hx⟩
      have e₂ := first32 ⟨l.val % 32, Nat.mod_lt _ (by norm_num)⟩ ⟨x.val, hx⟩
      have e₃ := second32 ⟨l.val % 32, Nat.mod_lt _ (by norm_num)⟩ ⟨x.val, hx⟩
      simp only [hx, dif_pos, bit, e₁, Fin.ext_iff]
      all_goals split_ifs <;> first | rfl | exact neg_zero | (exfalso; omega)
    · by_cases hy : x.val - 4 < 4
      · have e₂ := first32 ⟨l.val % 32, Nat.mod_lt _ (by norm_num)⟩ ⟨x.val - 4, hy⟩
        have e₃ := second32 ⟨l.val % 32, Nat.mod_lt _ (by norm_num)⟩ ⟨x.val - 4, hy⟩
        dsimp only at e₂ e₃
        simp only [hx, hy, dif_pos, dif_neg, not_false_eq_true, bit, e₂, e₃, Fin.ext_iff, apply_ite Neg.neg, neg_zero]
        all_goals split_ifs <;> first | rfl | exact neg_zero | (exfalso; omega)
      · have e₂ := past32 ⟨l.val % 32, Nat.mod_lt _ (by norm_num)⟩
        simp only [hx, hy, dif_neg, not_false_eq_true, bit, e₂, Fin.ext_iff]
        all_goals split_ifs <;> first | rfl | exact neg_zero | (exfalso; omega)
  · rw [dif_neg h₁]
    by_cases h₂ : l.val % 32 - 4 < 4
    · rw [dif_pos h₂]
      refine (one_hot _ _ ⟨l.val % 32 - 4, by omega⟩ 1 fun x => ?_).trans (by rw [mul_one, src', dif_pos h₂])
      by_cases hx : x.val < 4
      · have e₁ := either32 ⟨l.val % 32, Nat.mod_lt _ (by norm_num)⟩ ⟨x.val, hx⟩
        have e₂ := first32 ⟨l.val % 32, Nat.mod_lt _ (by norm_num)⟩ ⟨x.val, hx⟩
        have e₃ := second32 ⟨l.val % 32, Nat.mod_lt _ (by norm_num)⟩ ⟨x.val, hx⟩
        simp only [hx, dif_pos, bit, e₁, Fin.ext_iff]
        all_goals split_ifs <;> first | rfl | exact neg_zero | (exfalso; omega)
      · by_cases hy : x.val - 4 < 4
        · have e₂ := first32 ⟨l.val % 32, Nat.mod_lt _ (by norm_num)⟩ ⟨x.val - 4, hy⟩
          have e₃ := second32 ⟨l.val % 32, Nat.mod_lt _ (by norm_num)⟩ ⟨x.val - 4, hy⟩
          dsimp only at e₂ e₃
          simp only [hx, hy, dif_pos, dif_neg, not_false_eq_true, bit, e₂, e₃, Fin.ext_iff, apply_ite Neg.neg, neg_zero]
          all_goals split_ifs <;> first | rfl | exact neg_zero | (exfalso; omega)
        · have e₂ := past32 ⟨l.val % 32, Nat.mod_lt _ (by norm_num)⟩
          simp only [hx, hy, dif_neg, not_false_eq_true, bit, e₂, Fin.ext_iff]
          all_goals split_ifs <;> first | rfl | exact neg_zero | (exfalso; omega)
    · rw [dif_neg h₂]
      refine (one_hot _ _ ⟨8, by omega⟩ 1 fun x => ?_).trans (by rw [mul_one, src', dif_neg (by simp), dif_neg (by simp)])
      by_cases hx : x.val < 4
      · have e₁ := either32 ⟨l.val % 32, Nat.mod_lt _ (by norm_num)⟩ ⟨x.val, hx⟩
        have e₂ := first32 ⟨l.val % 32, Nat.mod_lt _ (by norm_num)⟩ ⟨x.val, hx⟩
        have e₃ := second32 ⟨l.val % 32, Nat.mod_lt _ (by norm_num)⟩ ⟨x.val, hx⟩
        simp only [hx, dif_pos, bit, e₁, Fin.ext_iff]
        all_goals split_ifs <;> first | rfl | exact neg_zero | (exfalso; omega)
      · by_cases hy : x.val - 4 < 4
        · have e₂ := first32 ⟨l.val % 32, Nat.mod_lt _ (by norm_num)⟩ ⟨x.val - 4, hy⟩
          have e₃ := second32 ⟨l.val % 32, Nat.mod_lt _ (by norm_num)⟩ ⟨x.val - 4, hy⟩
          dsimp only at e₂ e₃
          simp only [hx, hy, dif_pos, dif_neg, not_false_eq_true, bit, e₂, e₃, Fin.ext_iff, apply_ite Neg.neg, neg_zero]
          all_goals split_ifs <;> first | rfl | exact neg_zero | (exfalso; omega)
        · have e₂ := past32 ⟨l.val % 32, Nat.mod_lt _ (by norm_num)⟩
          simp only [hx, hy, dif_neg, not_false_eq_true, bit, e₂, Fin.ext_iff]
          all_goals split_ifs <;> first | rfl | exact neg_zero | (exfalso; omega)

theorem itabB (i : Fin 65536) (l : Fin 128) : (V m c main_v113 (ix2 i ⟨128 + l.val, by omega⟩) : EReal)
    = tB 32 (si (pos m c) (bat i) (row i)) l.val := by
  have hl := lanes' m c l
  have h19 : ∀ x, B₄ m c (Proc.devRef .tc main_v76) (ix2 i x) = B₃ m c (Proc.devRef .tc main_v76) (ix2 i x) := fun x => by
    unfold B₄
    generalize B₃ m c = B
    after_results_simp
  rw [V_eq]
  generalize B₄ m c = B at hl h19 ⊢
  after_reads_simp
  pointwise []
  try after_reads_simp
  try pointwise []
  try after_reads_simp
  try pointwise []
  simp only [hl, h19]
  unfold tB
  by_cases h₁ : l.val % 32 < 4
  · rw [dif_pos h₁]
    refine (one_hot _ _ ⟨4 + l.val % 32, by omega⟩ (-1) fun x => ?_).trans ?_
    · by_cases hx : x.val < 4
      · have e₁ := either32 ⟨l.val % 32, Nat.mod_lt _ (by norm_num)⟩ ⟨x.val, hx⟩
        have e₂ := first32 ⟨l.val % 32, Nat.mod_lt _ (by norm_num)⟩ ⟨x.val, hx⟩
        have e₃ := second32 ⟨l.val % 32, Nat.mod_lt _ (by norm_num)⟩ ⟨x.val, hx⟩
        simp only [hx, dif_pos, bit, e₁, Fin.ext_iff]
        all_goals split_ifs <;> first | rfl | exact neg_zero | (exfalso; omega)
      · by_cases hy : x.val - 4 < 4
        · have e₂ := first32 ⟨l.val % 32, Nat.mod_lt _ (by norm_num)⟩ ⟨x.val - 4, hy⟩
          have e₃ := second32 ⟨l.val % 32, Nat.mod_lt _ (by norm_num)⟩ ⟨x.val - 4, hy⟩
          dsimp only at e₂ e₃
          simp only [hx, hy, dif_pos, dif_neg, not_false_eq_true, bit, e₂, e₃, Fin.ext_iff, apply_ite Neg.neg, neg_zero]
          all_goals split_ifs <;> first | rfl | exact neg_zero | (exfalso; omega)
        · have e₂ := past32 ⟨l.val % 32, Nat.mod_lt _ (by norm_num)⟩
          simp only [hx, hy, dif_neg, not_false_eq_true, bit, e₂, Fin.ext_iff]
          all_goals split_ifs <;> first | rfl | exact neg_zero | (exfalso; omega)
    · rw [mul_neg, mul_one, src', dif_neg (by simp), dif_pos (by simp only; omega)]
      congr 2
      apply Fin.ext
      simp only
      omega
  · rw [dif_neg h₁]
    refine none_hot _ _ fun x => ?_
    by_cases hx : x.val < 4
    · have e₁ := either32 ⟨l.val % 32, Nat.mod_lt _ (by norm_num)⟩ ⟨x.val, hx⟩
      have e₂ := first32 ⟨l.val % 32, Nat.mod_lt _ (by norm_num)⟩ ⟨x.val, hx⟩
      have e₃ := second32 ⟨l.val % 32, Nat.mod_lt _ (by norm_num)⟩ ⟨x.val, hx⟩
      simp only [hx, dif_pos, bit, e₁, Fin.ext_iff]
      all_goals split_ifs <;> first | rfl | exact neg_zero | (exfalso; omega)
    · by_cases hy : x.val - 4 < 4
      · have e₂ := first32 ⟨l.val % 32, Nat.mod_lt _ (by norm_num)⟩ ⟨x.val - 4, hy⟩
        have e₃ := second32 ⟨l.val % 32, Nat.mod_lt _ (by norm_num)⟩ ⟨x.val - 4, hy⟩
        dsimp only at e₂ e₃
        simp only [hx, hy, dif_pos, dif_neg, not_false_eq_true, bit, e₂, e₃, Fin.ext_iff, apply_ite Neg.neg, neg_zero]
        all_goals split_ifs <;> first | rfl | exact neg_zero | (exfalso; omega)
      · have e₂ := past32 ⟨l.val % 32, Nat.mod_lt _ (by norm_num)⟩
        simp only [hx, hy, dif_neg, not_false_eq_true, bit, e₂, Fin.ext_iff]
        all_goals split_ifs <;> first | rfl | exact neg_zero | (exfalso; omega)

theorem itabC (i : Fin 65536) (l : Fin 128) : (V m c main_v113 (ix2 i ⟨256 + l.val, by omega⟩) : EReal)
    = tC 32 (si (pos m c) (bat i) (row i)) l.val := by
  have hl := lanes' m c l
  have h19 : ∀ x, B₄ m c (Proc.devRef .tc main_v76) (ix2 i x) = B₃ m c (Proc.devRef .tc main_v76) (ix2 i x) := fun x => by
    unfold B₄
    generalize B₃ m c = B
    after_results_simp
  rw [V_eq]
  generalize B₄ m c = B at hl h19 ⊢
  after_reads_simp
  pointwise []
  try after_reads_simp
  try pointwise []
  try after_reads_simp
  try pointwise []
  have n₁ : ¬ 256 + l.val < 128 := by omega
  have n₂ : ¬ 256 + l.val - 128 < 128 := by omega
  have n₃ : 256 + l.val - 128 - 128 = l.val := by omega
  simp only [hl, h19, n₁, n₂, n₃, dif_neg, not_false_eq_true, Fin.eta]
  unfold tC
  by_cases h₁ : l.val % 32 < 4
  · rw [if_pos h₁]
    refine none_hot _ _ fun x => ?_
    by_cases hx : x.val < 4
    · have e₁ := either32 ⟨l.val % 32, Nat.mod_lt _ (by norm_num)⟩ ⟨x.val, hx⟩
      have e₂ := first32 ⟨l.val % 32, Nat.mod_lt _ (by norm_num)⟩ ⟨x.val, hx⟩
      have e₃ := second32 ⟨l.val % 32, Nat.mod_lt _ (by norm_num)⟩ ⟨x.val, hx⟩
      simp only [hx, dif_pos, bit, e₁, Fin.ext_iff]
      all_goals split_ifs <;> first | rfl | exact neg_zero | (exfalso; omega)
    · by_cases hy : x.val - 4 < 4
      · have e₂ := first32 ⟨l.val % 32, Nat.mod_lt _ (by norm_num)⟩ ⟨x.val - 4, hy⟩
        have e₃ := second32 ⟨l.val % 32, Nat.mod_lt _ (by norm_num)⟩ ⟨x.val - 4, hy⟩
        dsimp only at e₂ e₃
        simp only [hx, hy, dif_pos, dif_neg, not_false_eq_true, bit, e₂, e₃, Fin.ext_iff, apply_ite Neg.neg, neg_zero]
        all_goals split_ifs <;> first | rfl | exact neg_zero | (exfalso; omega)
      · have e₂ := past32 ⟨l.val % 32, Nat.mod_lt _ (by norm_num)⟩
        simp only [hx, hy, dif_neg, not_false_eq_true, bit, e₂, Fin.ext_iff]
        all_goals split_ifs <;> first | rfl | exact neg_zero | (exfalso; omega)
  · rw [if_neg h₁]
    by_cases h₂ : l.val % 32 - 4 < 4
    · rw [dif_pos h₂]
      refine (one_hot _ _ ⟨l.val % 32, by omega⟩ 1 fun x => ?_).trans (by rw [mul_one, src', dif_neg h₁, dif_pos h₂])
      by_cases hx : x.val < 4
      · have e₁ := either32 ⟨l.val % 32, Nat.mod_lt _ (by norm_num)⟩ ⟨x.val, hx⟩
        have e₂ := first32 ⟨l.val % 32, Nat.mod_lt _ (by norm_num)⟩ ⟨x.val, hx⟩
        have e₃ := second32 ⟨l.val % 32, Nat.mod_lt _ (by norm_num)⟩ ⟨x.val, hx⟩
        simp only [hx, dif_pos, bit, e₁, Fin.ext_iff]
        all_goals split_ifs <;> first | rfl | exact neg_zero | (exfalso; omega)
      · by_cases hy : x.val - 4 < 4
        · have e₂ := first32 ⟨l.val % 32, Nat.mod_lt _ (by norm_num)⟩ ⟨x.val - 4, hy⟩
          have e₃ := second32 ⟨l.val % 32, Nat.mod_lt _ (by norm_num)⟩ ⟨x.val - 4, hy⟩
          dsimp only at e₂ e₃
          simp only [hx, hy, dif_pos, dif_neg, not_false_eq_true, bit, e₂, e₃, Fin.ext_iff, apply_ite Neg.neg, neg_zero]
          all_goals split_ifs <;> first | rfl | exact neg_zero | (exfalso; omega)
        · have e₂ := past32 ⟨l.val % 32, Nat.mod_lt _ (by norm_num)⟩
          simp only [hx, hy, dif_neg, not_false_eq_true, bit, e₂, Fin.ext_iff]
          all_goals split_ifs <;> first | rfl | exact neg_zero | (exfalso; omega)
    · rw [dif_neg h₂]
      refine none_hot _ _ fun x => ?_
      by_cases hx : x.val < 4
      · have e₁ := either32 ⟨l.val % 32, Nat.mod_lt _ (by norm_num)⟩ ⟨x.val, hx⟩
        have e₂ := first32 ⟨l.val % 32, Nat.mod_lt _ (by norm_num)⟩ ⟨x.val, hx⟩
        have e₃ := second32 ⟨l.val % 32, Nat.mod_lt _ (by norm_num)⟩ ⟨x.val, hx⟩
        simp only [hx, dif_pos, bit, e₁, Fin.ext_iff]
        all_goals split_ifs <;> first | rfl | exact neg_zero | (exfalso; omega)
      · by_cases hy : x.val - 4 < 4
        · have e₂ := first32 ⟨l.val % 32, Nat.mod_lt _ (by norm_num)⟩ ⟨x.val - 4, hy⟩
          have e₃ := second32 ⟨l.val % 32, Nat.mod_lt _ (by norm_num)⟩ ⟨x.val - 4, hy⟩
          dsimp only at e₂ e₃
          simp only [hx, hy, dif_pos, dif_neg, not_false_eq_true, bit, e₂, e₃, Fin.ext_iff, apply_ite Neg.neg, neg_zero]
          all_goals split_ifs <;> first | rfl | exact neg_zero | (exfalso; omega)
        · have e₂ := past32 ⟨l.val % 32, Nat.mod_lt _ (by norm_num)⟩
          simp only [hx, hy, dif_neg, not_false_eq_true, bit, e₂, Fin.ext_iff]
          all_goals split_ifs <;> first | rfl | exact neg_zero | (exfalso; omega)

theorem V56 (i : Fin 65536) (l : Fin 384) : V m c main_v56 (ix2 i l) = B₃ m c (Proc.devRef .tc main_v56) (ix2 i l) := by
  rw [V_eq]
  have h : B₄ m c (Proc.devRef .tc main_v56) = B₃ m c (Proc.devRef .tc main_v56) := by
    unfold B₄
    generalize B₃ m c = B
    after_results_simp
  rw [← h]
  generalize B₄ m c = B
  after_results_simp

theorem V121 (k : Fin 128) (j : Fin 256) : (V m c main_v121 (ix2 k j) : EReal)
    = if h : j.val < 128 then m ((c : Thread nD τ).loc main_arg4) (ix2 k ⟨j.val % 64, by omega⟩)
      else if h : j.val - 128 < 64 then m ((c : Thread nD τ).loc main_arg4) (ix2 k ⟨64 + (j.val - 128), by omega⟩) else (0 : EReal) := by
  rw [V_eq]
  have h := B_arg4 m c
  generalize B₄ m c = B at h ⊢
  after_reads_simp
  pointwise []
  after_reads_simp
  rw [h]
  pointwise []

set_option maxHeartbeats 2000000 in
theorem U124 (k : Fin 1024) (l : Fin 256) : (StableHlo.upto hostOps0_4 (B₄ m c) 78 (Proc.devRef .tc main_v124) (ix2 k l) : EReal)
    = m ((c : Thread nD τ).loc main_arg2) (ix2 k ⟨0 + l.val, by omega⟩) := by
  have h := B_arg2 m c
  generalize B₄ m c = B at h ⊢
  after_reads_simp
  pointwise []
  try after_reads_simp
  try rw [h]
  try pointwise []

set_option maxHeartbeats 2000000 in
theorem U125 (k : Fin 1024) (l : Fin 128) : (StableHlo.upto hostOps0_4 (B₄ m c) 78 (Proc.devRef .tc main_v125) (ix2 k l) : EReal)
    = m ((c : Thread nD τ).loc main_arg2) (ix2 k ⟨256 + l.val, by omega⟩) := by
  have h := B_arg2 m c
  generalize B₄ m c = B at h ⊢
  after_reads_simp
  pointwise []
  try after_reads_simp
  try rw [h]
  try pointwise []

set_option maxHeartbeats 2000000 in
theorem U126 (k : Fin 1024) (l : Fin 128) : (StableHlo.upto hostOps0_4 (B₄ m c) 78 (Proc.devRef .tc main_v126) (ix2 k l) : EReal)
    = m ((c : Thread nD τ).loc main_arg2) (ix2 k ⟨384 + l.val, by omega⟩) := by
  have h := B_arg2 m c
  generalize B₄ m c = B at h ⊢
  after_reads_simp
  pointwise []
  try after_reads_simp
  try rw [h]
  try pointwise []

set_option maxHeartbeats 2000000 in
theorem U142 (k : Fin 1024) (l : Fin 128) : (StableHlo.upto hostOps0_4 (B₄ m c) 78 (Proc.devRef .tc main_v142) (ix2 k l) : EReal)
    = m ((c : Thread nD τ).loc main_arg2) (ix2 k ⟨512 + l.val % 32, by omega⟩) := by
  have h := B_arg2 m c
  generalize B₄ m c = B at h ⊢
  after_reads_simp
  pointwise []
  try after_reads_simp
  try rw [h]
  try pointwise []

set_option maxHeartbeats 2000000 in
theorem U129 (k : Fin 1024) (l : Fin 512) : (StableHlo.upto hostOps0_4 (B₄ m c) 78 (Proc.devRef .tc main_v129) (ix2 k l) : EReal)
    = m ((c : Thread nD τ).loc main_arg2) (ix2 k ⟨548 + l.val, by omega⟩) := by
  have h := B_arg2 m c
  generalize B₄ m c = B at h ⊢
  after_reads_simp
  pointwise []
  try after_reads_simp
  try rw [h]
  try pointwise []

set_option maxHeartbeats 2000000 in
theorem U130 (k : Fin 1024) (l : Fin 128) : (StableHlo.upto hostOps0_4 (B₄ m c) 78 (Proc.devRef .tc main_v130) (ix2 k l) : EReal)
    = m ((c : Thread nD τ).loc main_arg2) (ix2 k ⟨1060 + l.val, by omega⟩) := by
  have h := B_arg2 m c
  generalize B₄ m c = B at h ⊢
  after_reads_simp
  pointwise []
  try after_reads_simp
  try rw [h]
  try pointwise []

set_option maxHeartbeats 2000000 in
theorem U131 (k : Fin 1024) (l : Fin 128) : (StableHlo.upto hostOps0_4 (B₄ m c) 78 (Proc.devRef .tc main_v131) (ix2 k l) : EReal)
    = m ((c : Thread nD τ).loc main_arg2) (ix2 k ⟨1188 + l.val, by omega⟩) := by
  have h := B_arg2 m c
  generalize B₄ m c = B at h ⊢
  after_reads_simp
  pointwise []
  try after_reads_simp
  try rw [h]
  try pointwise []

set_option maxHeartbeats 2000000 in
theorem U145 (k : Fin 1024) (l : Fin 256) : (StableHlo.upto hostOps0_4 (B₄ m c) 78 (Proc.devRef .tc main_v145) (ix2 k l) : EReal)
    = m ((c : Thread nD τ).loc main_arg2) (ix2 k ⟨1316 + (l.val / 128 * 64 + l.val % 64), by omega⟩) := by
  have h := B_arg2 m c
  generalize B₄ m c = B at h ⊢
  after_reads_simp
  pointwise []
  try after_reads_simp
  try rw [h]
  try pointwise []

set_option maxHeartbeats 2000000 in
theorem U133 (k : Fin 1024) (l : Fin 128) : (StableHlo.upto hostOps0_4 (B₄ m c) 78 (Proc.devRef .tc main_v133) (ix2 k l) : EReal)
    = m ((c : Thread nD τ).loc main_arg2) (ix2 k ⟨1444 + l.val, by omega⟩) := by
  have h := B_arg2 m c
  generalize B₄ m c = B at h ⊢
  after_reads_simp
  pointwise []
  try after_reads_simp
  try rw [h]
  try pointwise []

set_option maxHeartbeats 2000000 in
theorem U148 (k : Fin 1024) (l : Fin 256) : (StableHlo.upto hostOps0_4 (B₄ m c) 78 (Proc.devRef .tc main_v148) (ix2 k l) : EReal)
    = m ((c : Thread nD τ).loc main_arg2) (ix2 k ⟨1572 + (l.val / 128 * 64 + l.val % 64), by omega⟩) := by
  have h := B_arg2 m c
  generalize B₄ m c = B at h ⊢
  after_reads_simp
  pointwise []
  try after_reads_simp
  try rw [h]
  try pointwise []

set_option maxHeartbeats 2000000 in
theorem U135 (k : Fin 1024) (l : Fin 128) : (StableHlo.upto hostOps0_4 (B₄ m c) 78 (Proc.devRef .tc main_v135) (ix2 k l) : EReal)
    = m ((c : Thread nD τ).loc main_arg2) (ix2 k ⟨1700 + l.val, by omega⟩) := by
  have h := B_arg2 m c
  generalize B₄ m c = B at h ⊢
  after_reads_simp
  pointwise []
  try after_reads_simp
  try rw [h]
  try pointwise []

set_option maxHeartbeats 2000000 in
theorem U139 (k : Fin 1024) (l : Fin 128) : (StableHlo.upto hostOps0_4 (B₄ m c) 78 (Proc.devRef .tc main_v139) (ix2 k l) : EReal)
    = if h₁ : l.val < 4 then m ((c : Thread nD τ).loc main_arg2) (ix2 k ⟨544 + l.val, by omega⟩)
      else if h₂ : l.val - 4 < 24 then m ((c : Thread nD τ).loc main_arg2) (ix2 k ⟨1828 + (l.val - 4), by omega⟩) else (0 : EReal) := by
  have h := B_arg2 m c
  generalize B₄ m c = B at h ⊢
  after_reads_simp
  pointwise []
  try after_reads_simp
  try rw [h]
  try pointwise []

set_option maxHeartbeats 2000000 in
theorem U137 (k : Fin 1024) (l : Fin 256) : (StableHlo.upto hostOps0_4 (B₄ m c) 78 (Proc.devRef .tc main_v137) (ix2 k l) : EReal)
    = m ((c : Thread nD τ).loc main_arg2) (ix2 k ⟨1852 + l.val, by omega⟩) := by
  have h := B_arg2 m c
  generalize B₄ m c = B at h ⊢
  after_reads_simp
  pointwise []
  try after_reads_simp
  try rw [h]
  try pointwise []

set_option maxHeartbeats 2000000 in
theorem V150_to (k : Fin 1024) (j : Fin 2560) : ∀ R : EReal, (
      if h : j.val < 256 then StableHlo.upto hostOps0_4 (B₄ m c) 78 (Proc.devRef .tc main_v124) (ix2 k ⟨j.val, by omega⟩)
      else if h : j.val - 256 < 128 then StableHlo.upto hostOps0_4 (B₄ m c) 78 (Proc.devRef .tc main_v125) (ix2 k ⟨j.val - 256, by omega⟩)
      else if h : j.val - 256 - 128 < 128 then StableHlo.upto hostOps0_4 (B₄ m c) 78 (Proc.devRef .tc main_v126) (ix2 k ⟨j.val - 256 - 128, by omega⟩)
      else if h : j.val - 256 - 128 - 128 < 128 then StableHlo.upto hostOps0_4 (B₄ m c) 78 (Proc.devRef .tc main_v142) (ix2 k ⟨j.val - 256 - 128 - 128, by omega⟩)
      else if h : j.val - 256 - 128 - 128 - 128 < 512 then StableHlo.upto hostOps0_4 (B₄ m c) 78 (Proc.devRef .tc main_v129) (ix2 k ⟨j.val - 256 - 128 - 128 - 128, by omega⟩)
      else if h : j.val - 256 - 128 - 128 - 128 - 512 < 128 then StableHlo.upto hostOps0_4 (B₄ m c) 78 (Proc.devRef .tc main_v130) (ix2 k ⟨j.val - 256 - 128 - 128 - 128 - 512, by omega⟩)
      else if h : j.val - 256 - 128 - 128 - 128 - 512 - 128 < 128 then StableHlo.upto hostOps0_4 (B₄ m c) 78 (Proc.devRef .tc main_v131) (ix2 k ⟨j.val - 256 - 128 - 128 - 128 - 512 - 128, by omega⟩)
      else if h : j.val - 256 - 128 - 128 - 128 - 512 - 128 - 128 < 256 then StableHlo.upto hostOps0_4 (B₄ m c) 78 (Proc.devRef .tc main_v145) (ix2 k ⟨j.val - 256 - 128 - 128 - 128 - 512 - 128 - 128, by omega⟩)
      else if h : j.val - 256 - 128 - 128 - 128 - 512 - 128 - 128 - 256 < 128 then StableHlo.upto hostOps0_4 (B₄ m c) 78 (Proc.devRef .tc main_v133) (ix2 k ⟨j.val - 256 - 128 - 128 - 128 - 512 - 128 - 128 - 256, by omega⟩)
      else if h : j.val - 256 - 128 - 128 - 128 - 512 - 128 - 128 - 256 - 128 < 256 then StableHlo.upto hostOps0_4 (B₄ m c) 78 (Proc.devRef .tc main_v148) (ix2 k ⟨j.val - 256 - 128 - 128 - 128 - 512 - 128 - 128 - 256 - 128, by omega⟩)
      else if h : j.val - 256 - 128 - 128 - 128 - 512 - 128 - 128 - 256 - 128 - 256 < 128 then StableHlo.upto hostOps0_4 (B₄ m c) 78 (Proc.devRef .tc main_v135) (ix2 k ⟨j.val - 256 - 128 - 128 - 128 - 512 - 128 - 128 - 256 - 128 - 256, by omega⟩)
      else if h : j.val - 256 - 128 - 128 - 128 - 512 - 128 - 128 - 256 - 128 - 256 - 128 < 128 then StableHlo.upto hostOps0_4 (B₄ m c) 78 (Proc.devRef .tc main_v139) (ix2 k ⟨j.val - 256 - 128 - 128 - 128 - 512 - 128 - 128 - 256 - 128 - 256 - 128, by omega⟩)
      else StableHlo.upto hostOps0_4 (B₄ m c) 78 (Proc.devRef .tc main_v137) (ix2 k ⟨j.val - 256 - 128 - 128 - 128 - 512 - 128 - 128 - 256 - 128 - 256 - 128 - 128, by omega⟩)) = R → (V m c main_v150 (ix2 k j) : EReal) = R := by
  intro R hR
  rw [V_eq]
  generalize B₄ m c = B at hR ⊢
  after_reads_simp
  pointwise []
  exact hR

theorem V150 (k : Fin 1024) (j : Fin 2560) : (V m c main_v150 (ix2 k j) : EReal) =
      if h : j.val < 256 then StableHlo.upto hostOps0_4 (B₄ m c) 78 (Proc.devRef .tc main_v124) (ix2 k ⟨j.val, by omega⟩)
      else if h : j.val - 256 < 128 then StableHlo.upto hostOps0_4 (B₄ m c) 78 (Proc.devRef .tc main_v125) (ix2 k ⟨j.val - 256, by omega⟩)
      else if h : j.val - 256 - 128 < 128 then StableHlo.upto hostOps0_4 (B₄ m c) 78 (Proc.devRef .tc main_v126) (ix2 k ⟨j.val - 256 - 128, by omega⟩)
      else if h : j.val - 256 - 128 - 128 < 128 then StableHlo.upto hostOps0_4 (B₄ m c) 78 (Proc.devRef .tc main_v142) (ix2 k ⟨j.val - 256 - 128 - 128, by omega⟩)
      else if h : j.val - 256 - 128 - 128 - 128 < 512 then StableHlo.upto hostOps0_4 (B₄ m c) 78 (Proc.devRef .tc main_v129) (ix2 k ⟨j.val - 256 - 128 - 128 - 128, by omega⟩)
      else if h : j.val - 256 - 128 - 128 - 128 - 512 < 128 then StableHlo.upto hostOps0_4 (B₄ m c) 78 (Proc.devRef .tc main_v130) (ix2 k ⟨j.val - 256 - 128 - 128 - 128 - 512, by omega⟩)
      else if h : j.val - 256 - 128 - 128 - 128 - 512 - 128 < 128 then StableHlo.upto hostOps0_4 (B₄ m c) 78 (Proc.devRef .tc main_v131) (ix2 k ⟨j.val - 256 - 128 - 128 - 128 - 512 - 128, by omega⟩)
      else if h : j.val - 256 - 128 - 128 - 128 - 512 - 128 - 128 < 256 then StableHlo.upto hostOps0_4 (B₄ m c) 78 (Proc.devRef .tc main_v145) (ix2 k ⟨j.val - 256 - 128 - 128 - 128 - 512 - 128 - 128, by omega⟩)
      else if h : j.val - 256 - 128 - 128 - 128 - 512 - 128 - 128 - 256 < 128 then StableHlo.upto hostOps0_4 (B₄ m c) 78 (Proc.devRef .tc main_v133) (ix2 k ⟨j.val - 256 - 128 - 128 - 128 - 512 - 128 - 128 - 256, by omega⟩)
      else if h : j.val - 256 - 128 - 128 - 128 - 512 - 128 - 128 - 256 - 128 < 256 then StableHlo.upto hostOps0_4 (B₄ m c) 78 (Proc.devRef .tc main_v148) (ix2 k ⟨j.val - 256 - 128 - 128 - 128 - 512 - 128 - 128 - 256 - 128, by omega⟩)
      else if h : j.val - 256 - 128 - 128 - 128 - 512 - 128 - 128 - 256 - 128 - 256 < 128 then StableHlo.upto hostOps0_4 (B₄ m c) 78 (Proc.devRef .tc main_v135) (ix2 k ⟨j.val - 256 - 128 - 128 - 128 - 512 - 128 - 128 - 256 - 128 - 256, by omega⟩)
      else if h : j.val - 256 - 128 - 128 - 128 - 512 - 128 - 128 - 256 - 128 - 256 - 128 < 128 then StableHlo.upto hostOps0_4 (B₄ m c) 78 (Proc.devRef .tc main_v139) (ix2 k ⟨j.val - 256 - 128 - 128 - 128 - 512 - 128 - 128 - 256 - 128 - 256 - 128, by omega⟩)
      else StableHlo.upto hostOps0_4 (B₄ m c) 78 (Proc.devRef .tc main_v137) (ix2 k ⟨j.val - 256 - 128 - 128 - 128 - 512 - 128 - 128 - 256 - 128 - 256 - 128 - 128, by omega⟩) := V150_to m c k j _ rfl

theorem W124 (k : Fin 1024) (l : Fin 256) : (V m c main_v150 (ix2 k ⟨0 + l.val, by omega⟩) : EReal)
    = m ((c : Thread nD τ).loc main_arg2) (ix2 k ⟨0 + l.val, by omega⟩) := by
  rw [V150, dif_pos (by simp only; omega)]
  exact (congrArg (fun x : Fin 256 => StableHlo.upto hostOps0_4 (B₄ m c) 78 (Proc.devRef .tc main_v124) (ix2 k x))
    (Fin.ext (by simp only; omega) : (⟨0 + l.val, by omega⟩ : Fin 256) = l)).trans (U124 m c k l)

theorem W125 (k : Fin 1024) (l : Fin 128) : (V m c main_v150 (ix2 k ⟨256 + l.val, by omega⟩) : EReal)
    = m ((c : Thread nD τ).loc main_arg2) (ix2 k ⟨256 + l.val, by omega⟩) := by
  rw [V150, dif_neg (by simp only; omega), dif_pos (by simp only; omega)]
  exact (congrArg (fun x : Fin 128 => StableHlo.upto hostOps0_4 (B₄ m c) 78 (Proc.devRef .tc main_v125) (ix2 k x))
    (Fin.ext (by simp only; omega) : (⟨256 + l.val - 256, by omega⟩ : Fin 128) = l)).trans (U125 m c k l)

theorem W126 (k : Fin 1024) (l : Fin 128) : (V m c main_v150 (ix2 k ⟨384 + l.val, by omega⟩) : EReal)
    = m ((c : Thread nD τ).loc main_arg2) (ix2 k ⟨384 + l.val, by omega⟩) := by
  rw [V150, dif_neg (by simp only; omega), dif_neg (by simp only; omega), dif_pos (by simp only; omega)]
  exact (congrArg (fun x : Fin 128 => StableHlo.upto hostOps0_4 (B₄ m c) 78 (Proc.devRef .tc main_v126) (ix2 k x))
    (Fin.ext (by simp only; omega) : (⟨384 + l.val - 256 - 128, by omega⟩ : Fin 128) = l)).trans (U126 m c k l)

theorem W142 (k : Fin 1024) (l : Fin 128) : (V m c main_v150 (ix2 k ⟨512 + l.val, by omega⟩) : EReal)
    = m ((c : Thread nD τ).loc main_arg2) (ix2 k ⟨512 + l.val % 32, by omega⟩) := by
  rw [V150, dif_neg (by simp only; omega), dif_neg (by simp only; omega), dif_neg (by simp only; omega), dif_pos (by simp only; omega)]
  exact (congrArg (fun x : Fin 128 => StableHlo.upto hostOps0_4 (B₄ m c) 78 (Proc.devRef .tc main_v142) (ix2 k x))
    (Fin.ext (by simp only; omega) : (⟨512 + l.val - 256 - 128 - 128, by omega⟩ : Fin 128) = l)).trans (U142 m c k l)

theorem W129 (k : Fin 1024) (l : Fin 512) : (V m c main_v150 (ix2 k ⟨640 + l.val, by omega⟩) : EReal)
    = m ((c : Thread nD τ).loc main_arg2) (ix2 k ⟨548 + l.val, by omega⟩) := by
  rw [V150, dif_neg (by simp only; omega), dif_neg (by simp only; omega), dif_neg (by simp only; omega), dif_neg (by simp only; omega), dif_pos (by simp only; omega)]
  exact (congrArg (fun x : Fin 512 => StableHlo.upto hostOps0_4 (B₄ m c) 78 (Proc.devRef .tc main_v129) (ix2 k x))
    (Fin.ext (by simp only; omega) : (⟨640 + l.val - 256 - 128 - 128 - 128, by omega⟩ : Fin 512) = l)).trans (U129 m c k l)

theorem W130 (k : Fin 1024) (l : Fin 128) : (V m c main_v150 (ix2 k ⟨1152 + l.val, by omega⟩) : EReal)
    = m ((c : Thread nD τ).loc main_arg2) (ix2 k ⟨1060 + l.val, by omega⟩) := by
  rw [V150, dif_neg (by simp only; omega), dif_neg (by simp only; omega), dif_neg (by simp only; omega), dif_neg (by simp only; omega), dif_neg (by simp only; omega), dif_pos (by simp only; omega)]
  exact (congrArg (fun x : Fin 128 => StableHlo.upto hostOps0_4 (B₄ m c) 78 (Proc.devRef .tc main_v130) (ix2 k x))
    (Fin.ext (by simp only; omega) : (⟨1152 + l.val - 256 - 128 - 128 - 128 - 512, by omega⟩ : Fin 128) = l)).trans (U130 m c k l)

theorem W131 (k : Fin 1024) (l : Fin 128) : (V m c main_v150 (ix2 k ⟨1280 + l.val, by omega⟩) : EReal)
    = m ((c : Thread nD τ).loc main_arg2) (ix2 k ⟨1188 + l.val, by omega⟩) := by
  rw [V150, dif_neg (by simp only; omega), dif_neg (by simp only; omega), dif_neg (by simp only; omega), dif_neg (by simp only; omega), dif_neg (by simp only; omega), dif_neg (by simp only; omega), dif_pos (by simp only; omega)]
  exact (congrArg (fun x : Fin 128 => StableHlo.upto hostOps0_4 (B₄ m c) 78 (Proc.devRef .tc main_v131) (ix2 k x))
    (Fin.ext (by simp only; omega) : (⟨1280 + l.val - 256 - 128 - 128 - 128 - 512 - 128, by omega⟩ : Fin 128) = l)).trans (U131 m c k l)

theorem W145 (k : Fin 1024) (l : Fin 256) : (V m c main_v150 (ix2 k ⟨1408 + l.val, by omega⟩) : EReal)
    = m ((c : Thread nD τ).loc main_arg2) (ix2 k ⟨1316 + (l.val / 128 * 64 + l.val % 64), by omega⟩) := by
  rw [V150, dif_neg (by simp only; omega), dif_neg (by simp only; omega), dif_neg (by simp only; omega), dif_neg (by simp only; omega), dif_neg (by simp only; omega), dif_neg (by simp only; omega), dif_neg (by simp only; omega), dif_pos (by simp only; omega)]
  exact (congrArg (fun x : Fin 256 => StableHlo.upto hostOps0_4 (B₄ m c) 78 (Proc.devRef .tc main_v145) (ix2 k x))
    (Fin.ext (by simp only; omega) : (⟨1408 + l.val - 256 - 128 - 128 - 128 - 512 - 128 - 128, by omega⟩ : Fin 256) = l)).trans (U145 m c k l)

theorem W133 (k : Fin 1024) (l : Fin 128) : (V m c main_v150 (ix2 k ⟨1664 + l.val, by omega⟩) : EReal)
    = m ((c : Thread nD τ).loc main_arg2) (ix2 k ⟨1444 + l.val, by omega⟩) := by
  rw [V150, dif_neg (by simp only; omega), dif_neg (by simp only; omega), dif_neg (by simp only; omega), dif_neg (by simp only; omega), dif_neg (by simp only; omega), dif_neg (by simp only; omega), dif_neg (by simp only; omega), dif_neg (by simp only; omega), dif_pos (by simp only; omega)]
  exact (congrArg (fun x : Fin 128 => StableHlo.upto hostOps0_4 (B₄ m c) 78 (Proc.devRef .tc main_v133) (ix2 k x))
    (Fin.ext (by simp only; omega) : (⟨1664 + l.val - 256 - 128 - 128 - 128 - 512 - 128 - 128 - 256, by omega⟩ : Fin 128) = l)).trans (U133 m c k l)

theorem W148 (k : Fin 1024) (l : Fin 256) : (V m c main_v150 (ix2 k ⟨1792 + l.val, by omega⟩) : EReal)
    = m ((c : Thread nD τ).loc main_arg2) (ix2 k ⟨1572 + (l.val / 128 * 64 + l.val % 64), by omega⟩) := by
  rw [V150, dif_neg (by simp only; omega), dif_neg (by simp only; omega), dif_neg (by simp only; omega), dif_neg (by simp only; omega), dif_neg (by simp only; omega), dif_neg (by simp only; omega), dif_neg (by simp only; omega), dif_neg (by simp only; omega), dif_neg (by simp only; omega), dif_pos (by simp only; omega)]
  exact (congrArg (fun x : Fin 256 => StableHlo.upto hostOps0_4 (B₄ m c) 78 (Proc.devRef .tc main_v148) (ix2 k x))
    (Fin.ext (by simp only; omega) : (⟨1792 + l.val - 256 - 128 - 128 - 128 - 512 - 128 - 128 - 256 - 128, by omega⟩ : Fin 256) = l)).trans (U148 m c k l)

theorem W135 (k : Fin 1024) (l : Fin 128) : (V m c main_v150 (ix2 k ⟨2048 + l.val, by omega⟩) : EReal)
    = m ((c : Thread nD τ).loc main_arg2) (ix2 k ⟨1700 + l.val, by omega⟩) := by
  rw [V150, dif_neg (by simp only; omega), dif_neg (by simp only; omega), dif_neg (by simp only; omega), dif_neg (by simp only; omega), dif_neg (by simp only; omega), dif_neg (by simp only; omega), dif_neg (by simp only; omega), dif_neg (by simp only; omega), dif_neg (by simp only; omega), dif_neg (by simp only; omega), dif_pos (by simp only; omega)]
  exact (congrArg (fun x : Fin 128 => StableHlo.upto hostOps0_4 (B₄ m c) 78 (Proc.devRef .tc main_v135) (ix2 k x))
    (Fin.ext (by simp only; omega) : (⟨2048 + l.val - 256 - 128 - 128 - 128 - 512 - 128 - 128 - 256 - 128 - 256, by omega⟩ : Fin 128) = l)).trans (U135 m c k l)

theorem W139 (k : Fin 1024) (l : Fin 128) : (V m c main_v150 (ix2 k ⟨2176 + l.val, by omega⟩) : EReal)
    = if h₁ : l.val < 4 then m ((c : Thread nD τ).loc main_arg2) (ix2 k ⟨544 + l.val, by omega⟩)
      else if h₂ : l.val - 4 < 24 then m ((c : Thread nD τ).loc main_arg2) (ix2 k ⟨1828 + (l.val - 4), by omega⟩) else (0 : EReal) := by
  rw [V150, dif_neg (by simp only; omega), dif_neg (by simp only; omega), dif_neg (by simp only; omega), dif_neg (by simp only; omega), dif_neg (by simp only; omega), dif_neg (by simp only; omega), dif_neg (by simp only; omega), dif_neg (by simp only; omega), dif_neg (by simp only; omega), dif_neg (by simp only; omega), dif_neg (by simp only; omega), dif_pos (by simp only; omega)]
  exact (congrArg (fun x : Fin 128 => StableHlo.upto hostOps0_4 (B₄ m c) 78 (Proc.devRef .tc main_v139) (ix2 k x))
    (Fin.ext (by simp only; omega) : (⟨2176 + l.val - 256 - 128 - 128 - 128 - 512 - 128 - 128 - 256 - 128 - 256 - 128, by omega⟩ : Fin 128) = l)).trans (U139 m c k l)

theorem W137 (k : Fin 1024) (l : Fin 256) : (V m c main_v150 (ix2 k ⟨2304 + l.val, by omega⟩) : EReal)
    = m ((c : Thread nD τ).loc main_arg2) (ix2 k ⟨1852 + l.val, by omega⟩) := by
  rw [V150, dif_neg (by simp only; omega), dif_neg (by simp only; omega), dif_neg (by simp only; omega), dif_neg (by simp only; omega), dif_neg (by simp only; omega), dif_neg (by simp only; omega), dif_neg (by simp only; omega), dif_neg (by simp only; omega), dif_neg (by simp only; omega), dif_neg (by simp only; omega), dif_neg (by simp only; omega), dif_neg (by simp only; omega)]
  exact (congrArg (fun x : Fin 256 => StableHlo.upto hostOps0_4 (B₄ m c) 78 (Proc.devRef .tc main_v137) (ix2 k x))
    (Fin.ext (by simp only; omega) : (⟨2304 + l.val - 256 - 128 - 128 - 128 - 512 - 128 - 128 - 256 - 128 - 256 - 128 - 128, by omega⟩ : Fin 256) = l)).trans (U137 m c k l)

theorem V151 (k : Fin 128) : V m c main_v151 (ix2 0 k) = m ((c : Thread nD τ).loc main_arg3) (ix1 k) := by
  have h := V_main_arg3 m c
  rw [V_eq] at h ⊢
  rw [← h]
  generalize B₄ m c = B
  after_reads_simp
  exact Merge.cast_one _ _ _

theorem V123 (k : Fin 1024) : V m c main_v123 (ix2 0 k) = m ((c : Thread nD τ).loc main_arg5) (ix1 k) := by
  have h := V_main_arg5 m c
  rw [V_eq] at h ⊢
  rw [← h]
  generalize B₄ m c = B
  after_reads_simp
  exact Merge.cast_one _ _ _

theorem V122 (i : Fin 65536) (k : Fin 1024) : V m c main_v122 (ix2 i k) = m ((c : Thread nD τ).loc main_arg0) (ix3 (bat i) (row i) k) := by
  have h := V_main_arg0 m c
  rw [V_eq] at h ⊢
  rw [← h]
  generalize B₄ m c = B
  after_reads_simp
  exact Merge.cast_row _ _ _ _

end Cert.Proof.Proj

end
-- ==== Proof.ProjRun.lean ====
/- The projection's fifteen result arrays as functions of its arguments. -/
module

public import proofs.«01_k».proof.Proof.ProjBlock
public import proofs.«01_k».proof.Proof.ProjHost

@[expose] public section

noncomputable section

namespace Cert.Proof.Proj

open Idealize.ShloMosaic Idealize.ShloMosaic.TcCoe Idealize.SL.Sem
open Idealize.ShloMosaic.Pipeline (Dat)

section

def R7 (x : (⟨3, ![32, 2048, 1024]⟩ : Shape).Idx → EReal)
    (pos : (⟨2, ![32, 2048]⟩ : Shape).Idx → BitVec 32)
    (w : (⟨2, ![1024, 2108]⟩ : Shape).Idx → EReal)
    (g : (⟨1, ![1024]⟩ : Shape).Idx → EReal) : (⟨2, ![65536, 256]⟩ : Shape).Idx → EReal := rows fun p q => qa (tok x w g p q) (ch pos p q) (sh pos p q)
def R8 (x : (⟨3, ![32, 2048, 1024]⟩ : Shape).Idx → EReal)
    (pos : (⟨2, ![32, 2048]⟩ : Shape).Idx → BitVec 32)
    (w : (⟨2, ![1024, 2108]⟩ : Shape).Idx → EReal)
    (gk : (⟨1, ![128]⟩ : Shape).Idx → EReal)
    (wk : (⟨2, ![128, 128]⟩ : Shape).Idx → EReal)
    (g : (⟨1, ![1024]⟩ : Shape).Idx → EReal) : (⟨2, ![65536, 128]⟩ : Shape).Idx → EReal := rows fun p q => ka (lat x w gk wk g p q) (ch pos p q) (sh pos p q)
def R9 (x : (⟨3, ![32, 2048, 1024]⟩ : Shape).Idx → EReal)
    (w : (⟨2, ![1024, 2108]⟩ : Shape).Idx → EReal)
    (gk : (⟨1, ![128]⟩ : Shape).Idx → EReal)
    (wk : (⟨2, ![128, 128]⟩ : Shape).Idx → EReal)
    (g : (⟨1, ![1024]⟩ : Shape).Idx → EReal) : (⟨3, ![256, 64, 256]⟩ : Shape).Idx → EReal := turned fun p q => va (lat x w gk wk g p q)
def R10 (x : (⟨3, ![32, 2048, 1024]⟩ : Shape).Idx → EReal)
    (pos : (⟨2, ![32, 2048]⟩ : Shape).Idx → BitVec 32)
    (w : (⟨2, ![1024, 2108]⟩ : Shape).Idx → EReal)
    (g : (⟨1, ![1024]⟩ : Shape).Idx → EReal) : (⟨2, ![65536, 128]⟩ : Shape).Idx → EReal := rows fun p q => qidx (tok x w g p q) (ci pos p q) (si pos p q)
def R11 (x : (⟨3, ![32, 2048, 1024]⟩ : Shape).Idx → EReal)
    (pos : (⟨2, ![32, 2048]⟩ : Shape).Idx → BitVec 32)
    (w : (⟨2, ![1024, 2108]⟩ : Shape).Idx → EReal)
    (g : (⟨1, ![1024]⟩ : Shape).Idx → EReal) : (⟨2, ![65536, 128]⟩ : Shape).Idx → EReal := rows fun p q => kidx (tok x w g p q) (ci pos p q) (si pos p q)
def R12 (x : (⟨3, ![32, 2048, 1024]⟩ : Shape).Idx → EReal)
    (w : (⟨2, ![1024, 2108]⟩ : Shape).Idx → EReal)
    (g : (⟨1, ![1024]⟩ : Shape).Idx → EReal) : (⟨2, ![65536, 512]⟩ : Shape).Idx → EReal := rows fun p q => qbn (tok x w g p q)
def R13 (x : (⟨3, ![32, 2048, 1024]⟩ : Shape).Idx → EReal)
    (pos : (⟨2, ![32, 2048]⟩ : Shape).Idx → BitVec 32)
    (w : (⟨2, ![1024, 2108]⟩ : Shape).Idx → EReal)
    (g : (⟨1, ![1024]⟩ : Shape).Idx → EReal) : (⟨2, ![65536, 512]⟩ : Shape).Idx → EReal := rows fun p q => qbr (tok x w g p q) (ch pos p q) (sh pos p q)
def R14 (x : (⟨3, ![32, 2048, 1024]⟩ : Shape).Idx → EReal)
    (w : (⟨2, ![1024, 2108]⟩ : Shape).Idx → EReal)
    (g : (⟨1, ![1024]⟩ : Shape).Idx → EReal) : (⟨2, ![65536, 128]⟩ : Shape).Idx → EReal := rows fun p q => plain (tok x w g p q) 1060 (by omega)
def R15 (x : (⟨3, ![32, 2048, 1024]⟩ : Shape).Idx → EReal)
    (w : (⟨2, ![1024, 2108]⟩ : Shape).Idx → EReal)
    (g : (⟨1, ![1024]⟩ : Shape).Idx → EReal) : (⟨2, ![65536, 128]⟩ : Shape).Idx → EReal := rows fun p q => plain (tok x w g p q) 1188 (by omega)
def R16 (x : (⟨3, ![32, 2048, 1024]⟩ : Shape).Idx → EReal)
    (pos : (⟨2, ![32, 2048]⟩ : Shape).Idx → BitVec 32)
    (w : (⟨2, ![1024, 2108]⟩ : Shape).Idx → EReal)
    (g : (⟨1, ![1024]⟩ : Shape).Idx → EReal) : (⟨2, ![65536, 256]⟩ : Shape).Idx → EReal := rows fun p q => kslc (tok x w g p q) (ch pos p q) (sh pos p q)
def R17 (x : (⟨3, ![32, 2048, 1024]⟩ : Shape).Idx → EReal)
    (w : (⟨2, ![1024, 2108]⟩ : Shape).Idx → EReal)
    (g : (⟨1, ![1024]⟩ : Shape).Idx → EReal) : (⟨3, ![256, 128, 256]⟩ : Shape).Idx → EReal := turned fun p q => plain (tok x w g p q) 1444 (by omega)
def R18 (x : (⟨3, ![32, 2048, 1024]⟩ : Shape).Idx → EReal)
    (pos : (⟨2, ![32, 2048]⟩ : Shape).Idx → BitVec 32)
    (w : (⟨2, ![1024, 2108]⟩ : Shape).Idx → EReal)
    (g : (⟨1, ![1024]⟩ : Shape).Idx → EReal) : (⟨2, ![65536, 256]⟩ : Shape).Idx → EReal := rows fun p q => kwin (tok x w g p q) (ch pos p q) (sh pos p q)
def R19 (x : (⟨3, ![32, 2048, 1024]⟩ : Shape).Idx → EReal)
    (w : (⟨2, ![1024, 2108]⟩ : Shape).Idx → EReal)
    (g : (⟨1, ![1024]⟩ : Shape).Idx → EReal) : (⟨3, ![256, 128, 256]⟩ : Shape).Idx → EReal := turned fun p q => plain (tok x w g p q) 1700 (by omega)
def R20 (x : (⟨3, ![32, 2048, 1024]⟩ : Shape).Idx → EReal)
    (w : (⟨2, ![1024, 2108]⟩ : Shape).Idx → EReal)
    (g : (⟨1, ![1024]⟩ : Shape).Idx → EReal) : (⟨2, ![65536, 128]⟩ : Shape).Idx → EReal := rows fun p q => misc (tok x w g p q)
def R21 (x : (⟨3, ![32, 2048, 1024]⟩ : Shape).Idx → EReal)
    (w : (⟨2, ![1024, 2108]⟩ : Shape).Idx → EReal)
    (g : (⟨1, ![1024]⟩ : Shape).Idx → EReal) : (⟨2, ![65536, 256]⟩ : Shape).Idx → EReal := rows fun p q => plain (tok x w g p q) 1852 (by omega)

open Cert.ProjRefIdeal.Read

theorem ref7 (x : (⟨3, ![32, 2048, 1024]⟩ : Shape).Idx → EReal)
    (pos : (⟨2, ![32, 2048]⟩ : Shape).Idx → BitVec 32)
    (w : (⟨2, ![1024, 2108]⟩ : Shape).Idx → EReal)
    (g : (⟨1, ![1024]⟩ : Shape).Idx → EReal) : val_main_v190 (F := Ideal) x pos w g = R7 x pos w g := by
  funext j
  obtain ⟨i, l, rfl⟩ : ∃ (i : Fin 65536) (l : Fin 256), j = ix2 i l := ⟨j 0, j 1, eq_ix2 j⟩
  exact at190 x pos w g i l

theorem ref8 (x : (⟨3, ![32, 2048, 1024]⟩ : Shape).Idx → EReal)
    (pos : (⟨2, ![32, 2048]⟩ : Shape).Idx → BitVec 32)
    (w : (⟨2, ![1024, 2108]⟩ : Shape).Idx → EReal)
    (gk : (⟨1, ![128]⟩ : Shape).Idx → EReal)
    (wk : (⟨2, ![128, 128]⟩ : Shape).Idx → EReal)
    (g : (⟨1, ![1024]⟩ : Shape).Idx → EReal) : val_main_v195 (F := Ideal) x pos w gk wk g = R8 x pos w gk wk g := by
  funext j
  obtain ⟨i, l, rfl⟩ : ∃ (i : Fin 65536) (l : Fin 128), j = ix2 i l := ⟨j 0, j 1, eq_ix2 j⟩
  exact at195 x pos w gk wk g i l

theorem ref9 (x : (⟨3, ![32, 2048, 1024]⟩ : Shape).Idx → EReal)
    (w : (⟨2, ![1024, 2108]⟩ : Shape).Idx → EReal)
    (gk : (⟨1, ![128]⟩ : Shape).Idx → EReal)
    (wk : (⟨2, ![128, 128]⟩ : Shape).Idx → EReal)
    (g : (⟨1, ![1024]⟩ : Shape).Idx → EReal) : val_main_v198 (F := Ideal) x w gk wk g = R9 x w gk wk g := by
  funext j
  obtain ⟨a, d, b, rfl⟩ : ∃ (a : Fin 256) (d : Fin 64) (b : Fin 256), j = ix3 a d b := ⟨j 0, j 1, j 2, eq_ix3 j⟩
  exact at198 x w gk wk g a b d

theorem ref10 (x : (⟨3, ![32, 2048, 1024]⟩ : Shape).Idx → EReal)
    (pos : (⟨2, ![32, 2048]⟩ : Shape).Idx → BitVec 32)
    (w : (⟨2, ![1024, 2108]⟩ : Shape).Idx → EReal)
    (g : (⟨1, ![1024]⟩ : Shape).Idx → EReal) : val_main_v200 (F := Ideal) x pos w g = R10 x pos w g := by
  funext j
  obtain ⟨i, l, rfl⟩ : ∃ (i : Fin 65536) (l : Fin 128), j = ix2 i l := ⟨j 0, j 1, eq_ix2 j⟩
  exact at200 x pos w g i l

theorem ref11 (x : (⟨3, ![32, 2048, 1024]⟩ : Shape).Idx → EReal)
    (pos : (⟨2, ![32, 2048]⟩ : Shape).Idx → BitVec 32)
    (w : (⟨2, ![1024, 2108]⟩ : Shape).Idx → EReal)
    (g : (⟨1, ![1024]⟩ : Shape).Idx → EReal) : val_main_v207 (F := Ideal) x pos w g = R11 x pos w g := by
  funext j
  obtain ⟨i, l, rfl⟩ : ∃ (i : Fin 65536) (l : Fin 128), j = ix2 i l := ⟨j 0, j 1, eq_ix2 j⟩
  exact at207 x pos w g i l

theorem ref12 (x : (⟨3, ![32, 2048, 1024]⟩ : Shape).Idx → EReal)
    (w : (⟨2, ![1024, 2108]⟩ : Shape).Idx → EReal)
    (g : (⟨1, ![1024]⟩ : Shape).Idx → EReal) : val_main_v211 (F := Ideal) x w g = R12 x w g := by
  funext j
  obtain ⟨i, l, rfl⟩ : ∃ (i : Fin 65536) (l : Fin 512), j = ix2 i l := ⟨j 0, j 1, eq_ix2 j⟩
  exact at211 x w g i l

theorem ref13 (x : (⟨3, ![32, 2048, 1024]⟩ : Shape).Idx → EReal)
    (pos : (⟨2, ![32, 2048]⟩ : Shape).Idx → BitVec 32)
    (w : (⟨2, ![1024, 2108]⟩ : Shape).Idx → EReal)
    (g : (⟨1, ![1024]⟩ : Shape).Idx → EReal) : val_main_v215 (F := Ideal) x pos w g = R13 x pos w g := by
  funext j
  obtain ⟨i, l, rfl⟩ : ∃ (i : Fin 65536) (l : Fin 512), j = ix2 i l := ⟨j 0, j 1, eq_ix2 j⟩
  exact at215 x pos w g i l

theorem ref14 (x : (⟨3, ![32, 2048, 1024]⟩ : Shape).Idx → EReal)
    (w : (⟨2, ![1024, 2108]⟩ : Shape).Idx → EReal)
    (g : (⟨1, ![1024]⟩ : Shape).Idx → EReal) : val_main_v216 (F := Ideal) x w g = R14 x w g := by
  funext j
  obtain ⟨i, l, rfl⟩ : ∃ (i : Fin 65536) (l : Fin 128), j = ix2 i l := ⟨j 0, j 1, eq_ix2 j⟩
  exact at216 x w g i l

theorem ref15 (x : (⟨3, ![32, 2048, 1024]⟩ : Shape).Idx → EReal)
    (w : (⟨2, ![1024, 2108]⟩ : Shape).Idx → EReal)
    (g : (⟨1, ![1024]⟩ : Shape).Idx → EReal) : val_main_v217 (F := Ideal) x w g = R15 x w g := by
  funext j
  obtain ⟨i, l, rfl⟩ : ∃ (i : Fin 65536) (l : Fin 128), j = ix2 i l := ⟨j 0, j 1, eq_ix2 j⟩
  exact at217 x w g i l

theorem ref16 (x : (⟨3, ![32, 2048, 1024]⟩ : Shape).Idx → EReal)
    (pos : (⟨2, ![32, 2048]⟩ : Shape).Idx → BitVec 32)
    (w : (⟨2, ![1024, 2108]⟩ : Shape).Idx → EReal)
    (g : (⟨1, ![1024]⟩ : Shape).Idx → EReal) : val_main_v222 (F := Ideal) x pos w g = R16 x pos w g := by
  funext j
  obtain ⟨i, l, rfl⟩ : ∃ (i : Fin 65536) (l : Fin 256), j = ix2 i l := ⟨j 0, j 1, eq_ix2 j⟩
  exact at222 x pos w g i l

theorem ref17 (x : (⟨3, ![32, 2048, 1024]⟩ : Shape).Idx → EReal)
    (w : (⟨2, ![1024, 2108]⟩ : Shape).Idx → EReal)
    (g : (⟨1, ![1024]⟩ : Shape).Idx → EReal) : val_main_v225 (F := Ideal) x w g = R17 x w g := by
  funext j
  obtain ⟨a, d, b, rfl⟩ : ∃ (a : Fin 256) (d : Fin 128) (b : Fin 256), j = ix3 a d b := ⟨j 0, j 1, j 2, eq_ix3 j⟩
  exact at225 x w g a b d

theorem ref18 (x : (⟨3, ![32, 2048, 1024]⟩ : Shape).Idx → EReal)
    (pos : (⟨2, ![32, 2048]⟩ : Shape).Idx → BitVec 32)
    (w : (⟨2, ![1024, 2108]⟩ : Shape).Idx → EReal)
    (g : (⟨1, ![1024]⟩ : Shape).Idx → EReal) : val_main_v230 (F := Ideal) x pos w g = R18 x pos w g := by
  funext j
  obtain ⟨i, l, rfl⟩ : ∃ (i : Fin 65536) (l : Fin 256), j = ix2 i l := ⟨j 0, j 1, eq_ix2 j⟩
  exact at230 x pos w g i l

theorem ref19 (x : (⟨3, ![32, 2048, 1024]⟩ : Shape).Idx → EReal)
    (w : (⟨2, ![1024, 2108]⟩ : Shape).Idx → EReal)
    (g : (⟨1, ![1024]⟩ : Shape).Idx → EReal) : val_main_v233 (F := Ideal) x w g = R19 x w g := by
  funext j
  obtain ⟨a, d, b, rfl⟩ : ∃ (a : Fin 256) (d : Fin 128) (b : Fin 256), j = ix3 a d b := ⟨j 0, j 1, j 2, eq_ix3 j⟩
  exact at233 x w g a b d

theorem ref20 (x : (⟨3, ![32, 2048, 1024]⟩ : Shape).Idx → EReal)
    (w : (⟨2, ![1024, 2108]⟩ : Shape).Idx → EReal)
    (g : (⟨1, ![1024]⟩ : Shape).Idx → EReal) : val_main_v234 (F := Ideal) x w g = R20 x w g := by
  funext j
  obtain ⟨i, l, rfl⟩ : ∃ (i : Fin 65536) (l : Fin 128), j = ix2 i l := ⟨j 0, j 1, eq_ix2 j⟩
  exact at234 x w g i l

theorem ref21 (x : (⟨3, ![32, 2048, 1024]⟩ : Shape).Idx → EReal)
    (w : (⟨2, ![1024, 2108]⟩ : Shape).Idx → EReal)
    (g : (⟨1, ![1024]⟩ : Shape).Idx → EReal) : val_main_v235 (F := Ideal) x w g = R21 x w g := by
  funext j
  obtain ⟨i, l, rfl⟩ : ∃ (i : Fin 65536) (l : Fin 256), j = ix2 i l := ⟨j 0, j 1, eq_ix2 j⟩
  exact at235 x w g i l

end

open Cert.ProjIdeal Cert.ProjIdeal.Gen Cert.ProjIdeal.Value

variable (m : (ℓ : Loc nD τ sig) → Buf (Elt Ideal) ℓ) (c : Dev nD)

abbrev ax := m ((c : Thread nD τ).loc main_arg0)
abbrev aw := m ((c : Thread nD τ).loc main_arg2)
abbrev agk := m ((c : Thread nD τ).loc main_arg3)
abbrev awk := m ((c : Thread nD τ).loc main_arg4)
abbrev ag := m ((c : Thread nD τ).loc main_arg5)

/-- Row `r` of block `t` among all the rows. -/
abbrev rowOf (t : Fin cfg0.N) (r : Fin 512) : Fin 65536 := ⟨t.val * 512 + r.val, by have : t.val < 128 := t.isLt; omega⟩

theorem idx_row : ∀ t : Fin cfg0.N, (win0_0.index t (0 : Fin 2) = t.val ∧ win0_0.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0)
    ∧ (win0_16.index t (0 : Fin 2) = t.val ∧ win0_16.index t (1 : Fin 2) = 0)
    ∧ (win0_18.index t (0 : Fin 2) = t.val ∧ win0_18.index t (1 : Fin 2) = 0)
    ∧ (win0_20.index t (0 : Fin 2) = t.val ∧ win0_20.index t (1 : Fin 2) = 0)
    ∧ (win0_21.index t (0 : Fin 2) = t.val ∧ win0_21.index t (1 : Fin 2) = 0) :=
  (by decide +kernel : ∀ t : Fin grid0.N, _)

theorem idx_turned : ∀ t : Fin cfg0.N, (win0_9.index t (0 : Fin 3) = t.val ∧ win0_9.index t (1 : Fin 3) = 0 ∧ win0_9.index t (2 : Fin 3) = 0)
    ∧ (win0_17.index t (0 : Fin 3) = t.val ∧ win0_17.index t (1 : Fin 3) = 0 ∧ win0_17.index t (2 : Fin 3) = 0)
    ∧ (win0_19.index t (0 : Fin 3) = t.val ∧ win0_19.index t (1 : Fin 3) = 0 ∧ win0_19.index t (2 : Fin 3) = 0) :=
  (by decide +kernel : ∀ t : Fin grid0.N, _)

theorem idx_whole : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

theorem embw0 (t : Fin cfg0.N) (r : Fin 512) (l : Fin 1024) : ((cfg0.win 0).blk t).view.emb (ix2 r l) = ix2 (rowOf t r) l := by
  have e := (idx_row t).1
  funext a; apply Fin.ext
  match a with
  | ⟨0, _⟩ => show win0_0.index t (0 : Fin 2) * 512 + 1 * r.val = t.val * 512 + r.val; omega
  | ⟨1, _⟩ => show win0_0.index t (1 : Fin 2) * 1024 + 1 * l.val = l.val; omega

theorem embw5 (t : Fin cfg0.N) (r : Fin 512) (l : Fin 384) : ((cfg0.win 5).blk t).view.emb (ix2 r l) = ix2 (rowOf t r) l := by
  have e := (idx_row t).2.1
  funext a; apply Fin.ext
  match a with
  | ⟨0, _⟩ => show win0_5.index t (0 : Fin 2) * 512 + 1 * r.val = t.val * 512 + r.val; omega
  | ⟨1, _⟩ => show win0_5.index t (1 : Fin 2) * 384 + 1 * l.val = l.val; omega

theorem embw6 (t : Fin cfg0.N) (r : Fin 512) (l : Fin 384) : ((cfg0.win 6).blk t).view.emb (ix2 r l) = ix2 (rowOf t r) l := by
  have e := (idx_row t).2.2.1
  funext a; apply Fin.ext
  match a with
  | ⟨0, _⟩ => show win0_6.index t (0 : Fin 2) * 512 + 1 * r.val = t.val * 512 + r.val; omega
  | ⟨1, _⟩ => show win0_6.index t (1 : Fin 2) * 384 + 1 * l.val = l.val; omega

theorem embw7 (t : Fin cfg0.N) (r : Fin 512) (l : Fin 256) : ((cfg0.win 7).blk t).view.emb (ix2 r l) = ix2 (rowOf t r) l := by
  have e := (idx_row t).2.2.2.1
  funext a; apply Fin.ext
  match a with
  | ⟨0, _⟩ => show win0_7.index t (0 : Fin 2) * 512 + 1 * r.val = t.val * 512 + r.val; omega
  | ⟨1, _⟩ => show win0_7.index t (1 : Fin 2) * 256 + 1 * l.val = l.val; omega

theorem embw8 (t : Fin cfg0.N) (r : Fin 512) (l : Fin 128) : ((cfg0.win 8).blk t).view.emb (ix2 r l) = ix2 (rowOf t r) l := by
  have e := (idx_row t).2.2.2.2.1
  funext a; apply Fin.ext
  match a with
  | ⟨0, _⟩ => show win0_8.index t (0 : Fin 2) * 512 + 1 * r.val = t.val * 512 + r.val; omega
  | ⟨1, _⟩ => show win0_8.index t (1 : Fin 2) * 128 + 1 * l.val = l.val; omega

theorem embw10 (t : Fin cfg0.N) (r : Fin 512) (l : Fin 128) : ((cfg0.win 10).blk t).view.emb (ix2 r l) = ix2 (rowOf t r) l := by
  have e := (idx_row t).2.2.2.2.2.1
  funext a; apply Fin.ext
  match a with
  | ⟨0, _⟩ => show win0_10.index t (0 : Fin 2) * 512 + 1 * r.val = t.val * 512 + r.val; omega
  | ⟨1, _⟩ => show win0_10.index t (1 : Fin 2) * 128 + 1 * l.val = l.val; omega

theorem embw11 (t : Fin cfg0.N) (r : Fin 512) (l : Fin 128) : ((cfg0.win 11).blk t).view.emb (ix2 r l) = ix2 (rowOf t r) l := by
  have e := (idx_row t).2.2.2.2.2.2.1
  funext a; apply Fin.ext
  match a with
  | ⟨0, _⟩ => show win0_11.index t (0 : Fin 2) * 512 + 1 * r.val = t.val * 512 + r.val; omega
  | ⟨1, _⟩ => show win0_11.index t (1 : Fin 2) * 128 + 1 * l.val = l.val; omega

theorem embw12 (t : Fin cfg0.N) (r : Fin 512) (l : Fin 512) : ((cfg0.win 12).blk t).view.emb (ix2 r l) = ix2 (rowOf t r) l := by
  have e := (idx_row t).2.2.2.2.2.2.2.1
  funext a; apply Fin.ext
  match a with
  | ⟨0, _⟩ => show win0_12.index t (0 : Fin 2) * 512 + 1 * r.val = t.val * 512 + r.val; omega
  | ⟨1, _⟩ => show win0_12.index t (1 : Fin 2) * 512 + 1 * l.val = l.val; omega

theorem embw13 (t : Fin cfg0.N) (r : Fin 512) (l : Fin 512) : ((cfg0.win 13).blk t).view.emb (ix2 r l) = ix2 (rowOf t r) l := by
  have e := (idx_row t).2.2.2.2.2.2.2.2.1
  funext a; apply Fin.ext
  match a with
  | ⟨0, _⟩ => show win0_13.index t (0 : Fin 2) * 512 + 1 * r.val = t.val * 512 + r.val; omega
  | ⟨1, _⟩ => show win0_13.index t (1 : Fin 2) * 512 + 1 * l.val = l.val; omega

theorem embw14 (t : Fin cfg0.N) (r : Fin 512) (l : Fin 128) : ((cfg0.win 14).blk t).view.emb (ix2 r l) = ix2 (rowOf t r) l := by
  have e := (idx_row t).2.2.2.2.2.2.2.2.2.1
  funext a; apply Fin.ext
  match a with
  | ⟨0, _⟩ => show win0_14.index t (0 : Fin 2) * 512 + 1 * r.val = t.val * 512 + r.val; omega
  | ⟨1, _⟩ => show win0_14.index t (1 : Fin 2) * 128 + 1 * l.val = l.val; omega

theorem embw15 (t : Fin cfg0.N) (r : Fin 512) (l : Fin 128) : ((cfg0.win 15).blk t).view.emb (ix2 r l) = ix2 (rowOf t r) l := by
  have e := (idx_row t).2.2.2.2.2.2.2.2.2.2.1
  funext a; apply Fin.ext
  match a with
  | ⟨0, _⟩ => show win0_15.index t (0 : Fin 2) * 512 + 1 * r.val = t.val * 512 + r.val; omega
  | ⟨1, _⟩ => show win0_15.index t (1 : Fin 2) * 128 + 1 * l.val = l.val; omega

theorem embw16 (t : Fin cfg0.N) (r : Fin 512) (l : Fin 256) : ((cfg0.win 16).blk t).view.emb (ix2 r l) = ix2 (rowOf t r) l := by
  have e := (idx_row t).2.2.2.2.2.2.2.2.2.2.2.1
  funext a; apply Fin.ext
  match a with
  | ⟨0, _⟩ => show win0_16.index t (0 : Fin 2) * 512 + 1 * r.val = t.val * 512 + r.val; omega
  | ⟨1, _⟩ => show win0_16.index t (1 : Fin 2) * 256 + 1 * l.val = l.val; omega

theorem embw18 (t : Fin cfg0.N) (r : Fin 512) (l : Fin 256) : ((cfg0.win 18).blk t).view.emb (ix2 r l) = ix2 (rowOf t r) l := by
  have e := (idx_row t).2.2.2.2.2.2.2.2.2.2.2.2.1
  funext a; apply Fin.ext
  match a with
  | ⟨0, _⟩ => show win0_18.index t (0 : Fin 2) * 512 + 1 * r.val = t.val * 512 + r.val; omega
  | ⟨1, _⟩ => show win0_18.index t (1 : Fin 2) * 256 + 1 * l.val = l.val; omega

theorem embw20 (t : Fin cfg0.N) (r : Fin 512) (l : Fin 128) : ((cfg0.win 20).blk t).view.emb (ix2 r l) = ix2 (rowOf t r) l := by
  have e := (idx_row t).2.2.2.2.2.2.2.2.2.2.2.2.2.1
  funext a; apply Fin.ext
  match a with
  | ⟨0, _⟩ => show win0_20.index t (0 : Fin 2) * 512 + 1 * r.val = t.val * 512 + r.val; omega
  | ⟨1, _⟩ => show win0_20.index t (1 : Fin 2) * 128 + 1 * l.val = l.val; omega

theorem embw21 (t : Fin cfg0.N) (r : Fin 512) (l : Fin 256) : ((cfg0.win 21).blk t).view.emb (ix2 r l) = ix2 (rowOf t r) l := by
  have e := (idx_row t).2.2.2.2.2.2.2.2.2.2.2.2.2.2
  funext a; apply Fin.ext
  match a with
  | ⟨0, _⟩ => show win0_21.index t (0 : Fin 2) * 512 + 1 * r.val = t.val * 512 + r.val; omega
  | ⟨1, _⟩ => show win0_21.index t (1 : Fin 2) * 256 + 1 * l.val = l.val; omega

theorem embw9 (t : Fin cfg0.N) (a : Fin 2) (d : Fin 64) (b : Fin 256) :
    ((cfg0.win 9).blk t).view.emb (ix3 a d b) = ix3 ⟨t.val * 2 + a.val, by have : t.val < 128 := t.isLt; omega⟩ d b := by
  have e := (idx_turned t).1
  funext z; apply Fin.ext
  match z with
  | ⟨0, _⟩ => show win0_9.index t (0 : Fin 3) * 2 + 1 * a.val = t.val * 2 + a.val; omega
  | ⟨1, _⟩ => show win0_9.index t (1 : Fin 3) * 64 + 1 * d.val = d.val; omega
  | ⟨2, _⟩ => show win0_9.index t (2 : Fin 3) * 256 + 1 * b.val = b.val; omega

theorem embw17 (t : Fin cfg0.N) (a : Fin 2) (d : Fin 128) (b : Fin 256) :
    ((cfg0.win 17).blk t).view.emb (ix3 a d b) = ix3 ⟨t.val * 2 + a.val, by have : t.val < 128 := t.isLt; omega⟩ d b := by
  have e := (idx_turned t).2.1
  funext z; apply Fin.ext
  match z with
  | ⟨0, _⟩ => show win0_17.index t (0 : Fin 3) * 2 + 1 * a.val = t.val * 2 + a.val; omega
  | ⟨1, _⟩ => show win0_17.index t (1 : Fin 3) * 128 + 1 * d.val = d.val; omega
  | ⟨2, _⟩ => show win0_17.index t (2 : Fin 3) * 256 + 1 * b.val = b.val; omega

theorem embw19 (t : Fin cfg0.N) (a : Fin 2) (d : Fin 128) (b : Fin 256) :
    ((cfg0.win 19).blk t).view.emb (ix3 a d b) = ix3 ⟨t.val * 2 + a.val, by have : t.val < 128 := t.isLt; omega⟩ d b := by
  have e := (idx_turned t).2.2
  funext z; apply Fin.ext
  match z with
  | ⟨0, _⟩ => show win0_19.index t (0 : Fin 3) * 2 + 1 * a.val = t.val * 2 + a.val; omega
  | ⟨1, _⟩ => show win0_19.index t (1 : Fin 3) * 128 + 1 * d.val = d.val; omega
  | ⟨2, _⟩ => show win0_19.index t (2 : Fin 3) * 256 + 1 * b.val = b.val; omega

theorem embw1 (t : Fin cfg0.N) (k : Fin 1) (l : Fin 1024) : ((cfg0.win 1).blk t).view.emb (ix2 k l) = ix2 k l := by
  have e := (idx_whole t).1
  funext a; apply Fin.ext
  match a with
  | ⟨0, _⟩ => show win0_1.index t (0 : Fin 2) * 1 + 1 * k.val = k.val; omega
  | ⟨1, _⟩ => show win0_1.index t (1 : Fin 2) * 1024 + 1 * l.val = l.val; omega

theorem embw2 (t : Fin cfg0.N) (k : Fin 1024) (l : Fin 2560) : ((cfg0.win 2).blk t).view.emb (ix2 k l) = ix2 k l := by
  have e := (idx_whole t).2.1
  funext a; apply Fin.ext
  match a with
  | ⟨0, _⟩ => show win0_2.index t (0 : Fin 2) * 1024 + 1 * k.val = k.val; omega
  | ⟨1, _⟩ => show win0_2.index t (1 : Fin 2) * 2560 + 1 * l.val = l.val; omega

theorem embw3 (t : Fin cfg0.N) (k : Fin 1) (l : Fin 128) : ((cfg0.win 3).blk t).view.emb (ix2 k l) = ix2 k l := by
  have e := (idx_whole t).2.2.1
  funext a; apply Fin.ext
  match a with
  | ⟨0, _⟩ => show win0_3.index t (0 : Fin 2) * 1 + 1 * k.val = k.val; omega
  | ⟨1, _⟩ => show win0_3.index t (1 : Fin 2) * 128 + 1 * l.val = l.val; omega

theorem embw4 (t : Fin cfg0.N) (k : Fin 128) (l : Fin 256) : ((cfg0.win 4).blk t).view.emb (ix2 k l) = ix2 k l := by
  have e := (idx_whole t).2.2.2
  funext a; apply Fin.ext
  match a with
  | ⟨0, _⟩ => show win0_4.index t (0 : Fin 2) * 128 + 1 * k.val = k.val; omega
  | ⟨1, _⟩ => show win0_4.index t (1 : Fin 2) * 256 + 1 * l.val = l.val; omega

theorem in0 (t : Fin cfg0.N) (k : Fin 512) (l : Fin 1024) : iblk m c 0 t (ix2 k l) = V m c main_v122 (ix2 (rowOf t k) l) := by
  show V m c main_v122 (((cfg0.win 0).blk t).view.emb (ix2 k l)) = _
  rw [embw0]

theorem in1 (t : Fin cfg0.N) (k : Fin 1) (l : Fin 1024) : iblk m c 1 t (ix2 k l) = V m c main_v123 (ix2 k l) := by
  show V m c main_v123 (((cfg0.win 1).blk t).view.emb (ix2 k l)) = _
  rw [embw1]

theorem in2 (t : Fin cfg0.N) (k : Fin 1024) (l : Fin 2560) : iblk m c 2 t (ix2 k l) = V m c main_v150 (ix2 k l) := by
  show V m c main_v150 (((cfg0.win 2).blk t).view.emb (ix2 k l)) = _
  rw [embw2]

theorem in3 (t : Fin cfg0.N) (k : Fin 1) (l : Fin 128) : iblk m c 3 t (ix2 k l) = V m c main_v151 (ix2 k l) := by
  show V m c main_v151 (((cfg0.win 3).blk t).view.emb (ix2 k l)) = _
  rw [embw3]

theorem in4 (t : Fin cfg0.N) (k : Fin 128) (l : Fin 256) : iblk m c 4 t (ix2 k l) = V m c main_v121 (ix2 k l) := by
  show V m c main_v121 (((cfg0.win 4).blk t).view.emb (ix2 k l)) = _
  rw [embw4]

theorem in5 (t : Fin cfg0.N) (k : Fin 512) (l : Fin 384) : iblk m c 5 t (ix2 k l) = V m c main_v56 (ix2 (rowOf t k) l) := by
  show V m c main_v56 (((cfg0.win 5).blk t).view.emb (ix2 k l)) = _
  rw [embw5]

theorem in6 (t : Fin cfg0.N) (k : Fin 512) (l : Fin 384) : iblk m c 6 t (ix2 k l) = V m c main_v113 (ix2 (rowOf t k) l) := by
  show V m c main_v113 (((cfg0.win 6).blk t).view.emb (ix2 k l)) = _
  rw [embw6]

/-- The weights' column `o` that a column of the rearranged weights repeats. -/
theorem column (t : Fin cfg0.N) (r : Fin 512) (j : Fin 2560) (o : Fin 2108)
    (h : ∀ k : Fin 1024, V m c main_v150 (ix2 k j) = aw m c (ix2 k o)) :
    k0_pay1 (iblk m c 0 t) (iblk m c 1 t) (iblk m c 2 t) (ix2 r j)
      = tok (ax m c) (aw m c) (ag m c) (bat (rowOf t r)) (row (rowOf t r)) o := by
  refine (pay1_apply (iblk m c 0 t) (iblk m c 1 t) (iblk m c 2 t) r j).trans ?_
  have hx : (fun k : Fin 1024 => (iblk m c 0 t (ix2 r k) : EReal)) = fun k => ax m c (ix3 (bat (rowOf t r)) (row (rowOf t r)) k) :=
    funext fun k => (in0 m c t r k).trans (V122 m c (rowOf t r) k)
  have hg : (fun k : Fin 1024 => (iblk m c 1 t (ix2 0 k) : EReal)) = fun k => ag m c (ix1 k) :=
    funext fun k => (in1 m c t 0 k).trans (V123 m c k)
  rw [hx, hg]
  exact Finset.sum_congr rfl fun k _ => congrArg (_ * ·) ((in2 m c t k j).trans (h k))

/-- A column of zeros. -/
theorem column_zero (t : Fin cfg0.N) (r : Fin 512) (j : Fin 2560) (h : ∀ k : Fin 1024, @Eq EReal (V m c main_v150 (ix2 k j)) 0) :
    @Eq EReal (k0_pay1 (iblk m c 0 t) (iblk m c 1 t) (iblk m c 2 t) (ix2 r j)) 0 := by
  refine (pay1_apply (iblk m c 0 t) (iblk m c 1 t) (iblk m c 2 t) r j).trans ?_
  exact Finset.sum_eq_zero fun k _ => (congrArg (_ * ·) ((in2 m c t k j).trans (h k))).trans (mul_zero _)

/-- A column of the keys and values. -/
theorem latent_column (t : Fin cfg0.N) (r : Fin 512) (j : Fin 256) (o : Fin 128)
    (h : ∀ k : Fin 128, V m c main_v121 (ix2 k j) = awk m c (ix2 k o)) :
    k0_pay13 (k0_pay1 (iblk m c 0 t) (iblk m c 1 t) (iblk m c 2 t)) (iblk m c 3 t) (iblk m c 4 t) (ix2 r j)
      = lat (ax m c) (aw m c) (agk m c) (awk m c) (ag m c) (bat (rowOf t r)) (row (rowOf t r)) o := by
  refine (pay13_apply _ (iblk m c 3 t) (iblk m c 4 t) r j).trans ?_
  have hx : (fun k : Fin 128 => (k0_pay1 (iblk m c 0 t) (iblk m c 1 t) (iblk m c 2 t) (ix2 r ⟨256 + k.val, by omega⟩) : EReal))
      = fun k => tok (ax m c) (aw m c) (ag m c) (bat (rowOf t r)) (row (rowOf t r)) ⟨256 + k.val, by omega⟩ :=
    funext fun k => column m c t r _ _ fun i => W125 m c i k
  have hg : (fun k : Fin 128 => (iblk m c 3 t (ix2 0 k) : EReal)) = fun k => agk m c (ix1 k) :=
    funext fun k => (in3 m c t 0 k).trans (V151 m c k)
  rw [hx, hg]
  exact Finset.sum_congr rfl fun k _ => congrArg (_ * ·) ((in4 m c t k j).trans (h k))

/-- The rows of block `t`. -/
theorem blocks (t : Fin cfg0.N) : Blocks (iblk m c 0 t) (iblk m c 1 t) (iblk m c 2 t) (iblk m c 3 t) (iblk m c 4 t) (iblk m c 5 t)
    (iblk m c 6 t) (fun r => tok (ax m c) (aw m c) (ag m c) (bat (rowOf t r)) (row (rowOf t r)))
    (fun r => lat (ax m c) (aw m c) (agk m c) (awk m c) (ag m c) (bat (rowOf t r)) (row (rowOf t r)))
    (fun r => ch (pos m c) (bat (rowOf t r)) (row (rowOf t r))) (fun r => sh (pos m c) (bat (rowOf t r)) (row (rowOf t r)))
    (fun r => ci (pos m c) (bat (rowOf t r)) (row (rowOf t r))) (fun r => si (pos m c) (bat (rowOf t r)) (row (rowOf t r))) where
  p124 r l := column m c t r _ _ fun k => W124 m c k l
  p125 r l := column m c t r _ _ fun k => W125 m c k l
  p126 r l := column m c t r _ _ fun k => W126 m c k l
  p142 r l := column m c t r _ _ fun k => W142 m c k l
  p129 r l := column m c t r _ _ fun k => W129 m c k l
  p130 r l := column m c t r _ _ fun k => W130 m c k l
  p131 r l := column m c t r _ _ fun k => W131 m c k l
  p145 r l := column m c t r _ _ fun k => W145 m c k l
  p133 r l := column m c t r _ _ fun k => W133 m c k l
  p148 r l := column m c t r _ _ fun k => W148 m c k l
  p135 r l := column m c t r _ _ fun k => W135 m c k l
  p139 r l := by
    by_cases h₁ : l.val < 4
    · rw [dif_pos h₁]
      exact column m c t r _ _ fun k => (W139 m c k l).trans (dif_pos h₁)
    · rw [dif_neg h₁]
      by_cases h₂ : l.val - 4 < 24
      · rw [dif_pos h₂]
        exact column m c t r _ _ fun k => (W139 m c k l).trans ((dif_neg h₁).trans (dif_pos h₂))
      · rw [dif_neg h₂]
        exact column_zero m c t r _ fun k => (W139 m c k l).trans ((dif_neg h₁).trans (dif_neg h₂))
  p137 r l := column m c t r _ _ fun k => W137 m c k l
  kv r l := latent_column m c t r _ _ fun k => (V121 m c k _).trans (dif_pos l.isLt)
  kv' r l := latent_column m c t r _ _ fun k => (V121 m c k _).trans ((dif_neg (by simp only; omega)).trans
    ((dif_pos (by simp only; omega)).trans (congrArg (fun x : Fin 128 => awk m c (ix2 k x)) (Fin.ext (by simp only; omega)))))
  a5A r l := (in5 m c t r _).trans ((V56 m c _ _).trans (tabA m c (rowOf t r) l))
  a6A r l := (in6 m c t r _).trans (itabA m c (rowOf t r) l)
  a5B r l := (in5 m c t r _).trans ((V56 m c _ _).trans (tabB m c (rowOf t r) l))
  a6B r l := (in6 m c t r _).trans (itabB m c (rowOf t r) l)
  a5C r l := (in5 m c t r _).trans ((V56 m c _ _).trans (tabC m c (rowOf t r) l))
  a6C r l := (in6 m c t r _).trans (itabC m c (rowOf t r) l)

theorem flushed_eq7 (t : Fin cfg0.N) : (dats m 0 c).flushed 7 t = ((cfg0.win 7).blk t).view.read (Elt Ideal) (R7 (ax m c) (pos m c) (aw m c) (ag m c)) := by
  rw [flushed7]
  funext (j : S512x256.Idx)
  obtain ⟨r, l, rfl⟩ : ∃ (r : Fin 512) (l : Fin 256), j = ix2 r l := ⟨j 0, j 1, eq_ix2 j⟩
  show out0_7 (iblk m c 0 t) (iblk m c 1 t) (iblk m c 2 t) (iblk m c 3 t) (iblk m c 4 t) (iblk m c 5 t) (iblk m c 6 t) (ix2 r l) = R7 (ax m c) (pos m c) (aw m c) (ag m c) (((cfg0.win 7).blk t).view.emb (ix2 r l))
  rw [embw7]
  exact blk7 (blocks m c t) r l

theorem covered7 (i : S65536x256.Idx) :
    ∃ t : Fin cfg0.N, (cfg0.win 7).flush t = true ∧ i ∈ ((cfg0.win 7).blk t).view.set := by
  obtain ⟨a, l, rfl⟩ : ∃ (a : Fin 65536) (l : Fin 256), i = ix2 a l := ⟨i 0, i 1, eq_ix2 i⟩
  let t : Fin cfg0.N := ⟨a.val / 512, show a.val / 512 < 128 by omega⟩
  refine ⟨t, flush0_7 t, ?_⟩
  have h := ((cfg0.win 7).blk t).view.emb_mem_set (ix2 ⟨a.val % 512, Nat.mod_lt _ (by norm_num)⟩ l)
  rw [embw7] at h
  have ha : rowOf t ⟨a.val % 512, Nat.mod_lt _ (by norm_num)⟩ = a := Fin.ext (by show a.val / 512 * 512 + a.val % 512 = a.val; omega)
  rwa [ha] at h

theorem final7 : (dats m 0 c).arrAt 7 cfg0.N = R7 (ax m c) (pos m c) (aw m c) (ag m c) :=
  (dats m 0 c).arrAt_eq_of_cover 7 _ (fun t _ => flushed_eq7 m c t) covered7

theorem flushed_eq8 (t : Fin cfg0.N) : (dats m 0 c).flushed 8 t = ((cfg0.win 8).blk t).view.read (Elt Ideal) (R8 (ax m c) (pos m c) (aw m c) (agk m c) (awk m c) (ag m c)) := by
  rw [flushed8]
  funext (j : S512x128.Idx)
  obtain ⟨r, l, rfl⟩ : ∃ (r : Fin 512) (l : Fin 128), j = ix2 r l := ⟨j 0, j 1, eq_ix2 j⟩
  show out0_8 (iblk m c 0 t) (iblk m c 1 t) (iblk m c 2 t) (iblk m c 3 t) (iblk m c 4 t) (iblk m c 5 t) (iblk m c 6 t) (ix2 r l) = R8 (ax m c) (pos m c) (aw m c) (agk m c) (awk m c) (ag m c) (((cfg0.win 8).blk t).view.emb (ix2 r l))
  rw [embw8]
  exact blk8 (blocks m c t) r l

theorem covered8 (i : S65536x128.Idx) :
    ∃ t : Fin cfg0.N, (cfg0.win 8).flush t = true ∧ i ∈ ((cfg0.win 8).blk t).view.set := by
  obtain ⟨a, l, rfl⟩ : ∃ (a : Fin 65536) (l : Fin 128), i = ix2 a l := ⟨i 0, i 1, eq_ix2 i⟩
  let t : Fin cfg0.N := ⟨a.val / 512, show a.val / 512 < 128 by omega⟩
  refine ⟨t, flush0_8 t, ?_⟩
  have h := ((cfg0.win 8).blk t).view.emb_mem_set (ix2 ⟨a.val % 512, Nat.mod_lt _ (by norm_num)⟩ l)
  rw [embw8] at h
  have ha : rowOf t ⟨a.val % 512, Nat.mod_lt _ (by norm_num)⟩ = a := Fin.ext (by show a.val / 512 * 512 + a.val % 512 = a.val; omega)
  rwa [ha] at h

theorem final8 : (dats m 0 c).arrAt 8 cfg0.N = R8 (ax m c) (pos m c) (aw m c) (agk m c) (awk m c) (ag m c) :=
  (dats m 0 c).arrAt_eq_of_cover 8 _ (fun t _ => flushed_eq8 m c t) covered8

theorem flushed_eq9 (t : Fin cfg0.N) : (dats m 0 c).flushed 9 t = ((cfg0.win 9).blk t).view.read (Elt Ideal) (R9 (ax m c) (aw m c) (agk m c) (awk m c) (ag m c)) := by
  rw [flushed9]
  funext (j : S2x64x256.Idx)
  obtain ⟨a, d, b, rfl⟩ : ∃ (a : Fin 2) (d : Fin 64) (b : Fin 256), j = ix3 a d b := ⟨j 0, j 1, j 2, eq_ix3 j⟩
  show out0_9 (iblk m c 0 t) (iblk m c 1 t) (iblk m c 2 t) (iblk m c 3 t) (iblk m c 4 t) (iblk m c 5 t) (iblk m c 6 t) (ix3 a d b) = R9 (ax m c) (aw m c) (agk m c) (awk m c) (ag m c) (((cfg0.win 9).blk t).view.emb (ix3 a d b))
  rw [embw9]
  have h₁ : bat (rowOf t ⟨a.val * 256 + b.val, by omega⟩) = (⟨(t.val * 2 + a.val) / 8, by have : t.val < 128 := t.isLt; omega⟩ : Fin 32) :=
    Fin.ext (by show (t.val * 512 + (a.val * 256 + b.val)) / 2048 = _; simp only; omega)
  have h₂ : row (rowOf t ⟨a.val * 256 + b.val, by omega⟩) = (⟨(t.val * 2 + a.val) % 8 * 256 + b.val, by omega⟩ : Fin 2048) :=
    Fin.ext (by show (t.val * 512 + (a.val * 256 + b.val)) % 2048 = _; simp only; omega)
  refine (blk9 (blocks m c t) a d b).trans ?_
  beta_reduce
  rw [h₁, h₂]
  rfl

theorem covered9 (i : S256x64x256.Idx) :
    ∃ t : Fin cfg0.N, (cfg0.win 9).flush t = true ∧ i ∈ ((cfg0.win 9).blk t).view.set := by
  obtain ⟨a, d, b, rfl⟩ : ∃ (a : Fin 256) (d : Fin 64) (b : Fin 256), i = ix3 a d b := ⟨i 0, i 1, i 2, eq_ix3 i⟩
  let t : Fin cfg0.N := ⟨a.val / 2, show a.val / 2 < 128 by omega⟩
  refine ⟨t, flush0_9 t, ?_⟩
  have h := ((cfg0.win 9).blk t).view.emb_mem_set (ix3 ⟨a.val % 2, Nat.mod_lt _ (by norm_num)⟩ d b)
  rw [embw9] at h
  have ha : (⟨a.val / 2 * 2 + a.val % 2, by omega⟩ : Fin 256) = a := Fin.ext (by simp only; omega)
  exact ha ▸ h

theorem final9 : (dats m 0 c).arrAt 9 cfg0.N = R9 (ax m c) (aw m c) (agk m c) (awk m c) (ag m c) :=
  (dats m 0 c).arrAt_eq_of_cover 9 _ (fun t _ => flushed_eq9 m c t) covered9

theorem flushed_eq10 (t : Fin cfg0.N) : (dats m 0 c).flushed 10 t = ((cfg0.win 10).blk t).view.read (Elt Ideal) (R10 (ax m c) (pos m c) (aw m c) (ag m c)) := by
  rw [flushed10]
  funext (j : S512x128.Idx)
  obtain ⟨r, l, rfl⟩ : ∃ (r : Fin 512) (l : Fin 128), j = ix2 r l := ⟨j 0, j 1, eq_ix2 j⟩
  show out0_10 (iblk m c 0 t) (iblk m c 1 t) (iblk m c 2 t) (iblk m c 3 t) (iblk m c 4 t) (iblk m c 5 t) (iblk m c 6 t) (ix2 r l) = R10 (ax m c) (pos m c) (aw m c) (ag m c) (((cfg0.win 10).blk t).view.emb (ix2 r l))
  rw [embw10]
  exact blk10 (blocks m c t) r l

theorem covered10 (i : S65536x128.Idx) :
    ∃ t : Fin cfg0.N, (cfg0.win 10).flush t = true ∧ i ∈ ((cfg0.win 10).blk t).view.set := by
  obtain ⟨a, l, rfl⟩ : ∃ (a : Fin 65536) (l : Fin 128), i = ix2 a l := ⟨i 0, i 1, eq_ix2 i⟩
  let t : Fin cfg0.N := ⟨a.val / 512, show a.val / 512 < 128 by omega⟩
  refine ⟨t, flush0_10 t, ?_⟩
  have h := ((cfg0.win 10).blk t).view.emb_mem_set (ix2 ⟨a.val % 512, Nat.mod_lt _ (by norm_num)⟩ l)
  rw [embw10] at h
  have ha : rowOf t ⟨a.val % 512, Nat.mod_lt _ (by norm_num)⟩ = a := Fin.ext (by show a.val / 512 * 512 + a.val % 512 = a.val; omega)
  rwa [ha] at h

theorem final10 : (dats m 0 c).arrAt 10 cfg0.N = R10 (ax m c) (pos m c) (aw m c) (ag m c) :=
  (dats m 0 c).arrAt_eq_of_cover 10 _ (fun t _ => flushed_eq10 m c t) covered10

theorem flushed_eq11 (t : Fin cfg0.N) : (dats m 0 c).flushed 11 t = ((cfg0.win 11).blk t).view.read (Elt Ideal) (R11 (ax m c) (pos m c) (aw m c) (ag m c)) := by
  rw [flushed11]
  funext (j : S512x128.Idx)
  obtain ⟨r, l, rfl⟩ : ∃ (r : Fin 512) (l : Fin 128), j = ix2 r l := ⟨j 0, j 1, eq_ix2 j⟩
  show out0_11 (iblk m c 0 t) (iblk m c 1 t) (iblk m c 2 t) (iblk m c 3 t) (iblk m c 4 t) (iblk m c 5 t) (iblk m c 6 t) (ix2 r l) = R11 (ax m c) (pos m c) (aw m c) (ag m c) (((cfg0.win 11).blk t).view.emb (ix2 r l))
  rw [embw11]
  exact blk11 (blocks m c t) r l

theorem covered11 (i : S65536x128.Idx) :
    ∃ t : Fin cfg0.N, (cfg0.win 11).flush t = true ∧ i ∈ ((cfg0.win 11).blk t).view.set := by
  obtain ⟨a, l, rfl⟩ : ∃ (a : Fin 65536) (l : Fin 128), i = ix2 a l := ⟨i 0, i 1, eq_ix2 i⟩
  let t : Fin cfg0.N := ⟨a.val / 512, show a.val / 512 < 128 by omega⟩
  refine ⟨t, flush0_11 t, ?_⟩
  have h := ((cfg0.win 11).blk t).view.emb_mem_set (ix2 ⟨a.val % 512, Nat.mod_lt _ (by norm_num)⟩ l)
  rw [embw11] at h
  have ha : rowOf t ⟨a.val % 512, Nat.mod_lt _ (by norm_num)⟩ = a := Fin.ext (by show a.val / 512 * 512 + a.val % 512 = a.val; omega)
  rwa [ha] at h

theorem final11 : (dats m 0 c).arrAt 11 cfg0.N = R11 (ax m c) (pos m c) (aw m c) (ag m c) :=
  (dats m 0 c).arrAt_eq_of_cover 11 _ (fun t _ => flushed_eq11 m c t) covered11

theorem flushed_eq12 (t : Fin cfg0.N) : (dats m 0 c).flushed 12 t = ((cfg0.win 12).blk t).view.read (Elt Ideal) (R12 (ax m c) (aw m c) (ag m c)) := by
  rw [flushed12]
  funext (j : S512x512.Idx)
  obtain ⟨r, l, rfl⟩ : ∃ (r : Fin 512) (l : Fin 512), j = ix2 r l := ⟨j 0, j 1, eq_ix2 j⟩
  show out0_12 (iblk m c 0 t) (iblk m c 1 t) (iblk m c 2 t) (iblk m c 3 t) (iblk m c 4 t) (iblk m c 5 t) (iblk m c 6 t) (ix2 r l) = R12 (ax m c) (aw m c) (ag m c) (((cfg0.win 12).blk t).view.emb (ix2 r l))
  rw [embw12]
  exact blk12 (blocks m c t) r l

theorem covered12 (i : S65536x512.Idx) :
    ∃ t : Fin cfg0.N, (cfg0.win 12).flush t = true ∧ i ∈ ((cfg0.win 12).blk t).view.set := by
  obtain ⟨a, l, rfl⟩ : ∃ (a : Fin 65536) (l : Fin 512), i = ix2 a l := ⟨i 0, i 1, eq_ix2 i⟩
  let t : Fin cfg0.N := ⟨a.val / 512, show a.val / 512 < 128 by omega⟩
  refine ⟨t, flush0_12 t, ?_⟩
  have h := ((cfg0.win 12).blk t).view.emb_mem_set (ix2 ⟨a.val % 512, Nat.mod_lt _ (by norm_num)⟩ l)
  rw [embw12] at h
  have ha : rowOf t ⟨a.val % 512, Nat.mod_lt _ (by norm_num)⟩ = a := Fin.ext (by show a.val / 512 * 512 + a.val % 512 = a.val; omega)
  rwa [ha] at h

theorem final12 : (dats m 0 c).arrAt 12 cfg0.N = R12 (ax m c) (aw m c) (ag m c) :=
  (dats m 0 c).arrAt_eq_of_cover 12 _ (fun t _ => flushed_eq12 m c t) covered12

theorem flushed_eq13 (t : Fin cfg0.N) : (dats m 0 c).flushed 13 t = ((cfg0.win 13).blk t).view.read (Elt Ideal) (R13 (ax m c) (pos m c) (aw m c) (ag m c)) := by
  rw [flushed13]
  funext (j : S512x512.Idx)
  obtain ⟨r, l, rfl⟩ : ∃ (r : Fin 512) (l : Fin 512), j = ix2 r l := ⟨j 0, j 1, eq_ix2 j⟩
  show out0_13 (iblk m c 0 t) (iblk m c 1 t) (iblk m c 2 t) (iblk m c 3 t) (iblk m c 4 t) (iblk m c 5 t) (iblk m c 6 t) (ix2 r l) = R13 (ax m c) (pos m c) (aw m c) (ag m c) (((cfg0.win 13).blk t).view.emb (ix2 r l))
  rw [embw13]
  exact blk13 (blocks m c t) r l

theorem covered13 (i : S65536x512.Idx) :
    ∃ t : Fin cfg0.N, (cfg0.win 13).flush t = true ∧ i ∈ ((cfg0.win 13).blk t).view.set := by
  obtain ⟨a, l, rfl⟩ : ∃ (a : Fin 65536) (l : Fin 512), i = ix2 a l := ⟨i 0, i 1, eq_ix2 i⟩
  let t : Fin cfg0.N := ⟨a.val / 512, show a.val / 512 < 128 by omega⟩
  refine ⟨t, flush0_13 t, ?_⟩
  have h := ((cfg0.win 13).blk t).view.emb_mem_set (ix2 ⟨a.val % 512, Nat.mod_lt _ (by norm_num)⟩ l)
  rw [embw13] at h
  have ha : rowOf t ⟨a.val % 512, Nat.mod_lt _ (by norm_num)⟩ = a := Fin.ext (by show a.val / 512 * 512 + a.val % 512 = a.val; omega)
  rwa [ha] at h

theorem final13 : (dats m 0 c).arrAt 13 cfg0.N = R13 (ax m c) (pos m c) (aw m c) (ag m c) :=
  (dats m 0 c).arrAt_eq_of_cover 13 _ (fun t _ => flushed_eq13 m c t) covered13

theorem flushed_eq14 (t : Fin cfg0.N) : (dats m 0 c).flushed 14 t = ((cfg0.win 14).blk t).view.read (Elt Ideal) (R14 (ax m c) (aw m c) (ag m c)) := by
  rw [flushed14]
  funext (j : S512x128.Idx)
  obtain ⟨r, l, rfl⟩ : ∃ (r : Fin 512) (l : Fin 128), j = ix2 r l := ⟨j 0, j 1, eq_ix2 j⟩
  show out0_14 (iblk m c 0 t) (iblk m c 1 t) (iblk m c 2 t) (iblk m c 3 t) (iblk m c 4 t) (iblk m c 5 t) (iblk m c 6 t) (ix2 r l) = R14 (ax m c) (aw m c) (ag m c) (((cfg0.win 14).blk t).view.emb (ix2 r l))
  rw [embw14]
  exact blk14 (blocks m c t) r l

theorem covered14 (i : S65536x128.Idx) :
    ∃ t : Fin cfg0.N, (cfg0.win 14).flush t = true ∧ i ∈ ((cfg0.win 14).blk t).view.set := by
  obtain ⟨a, l, rfl⟩ : ∃ (a : Fin 65536) (l : Fin 128), i = ix2 a l := ⟨i 0, i 1, eq_ix2 i⟩
  let t : Fin cfg0.N := ⟨a.val / 512, show a.val / 512 < 128 by omega⟩
  refine ⟨t, flush0_14 t, ?_⟩
  have h := ((cfg0.win 14).blk t).view.emb_mem_set (ix2 ⟨a.val % 512, Nat.mod_lt _ (by norm_num)⟩ l)
  rw [embw14] at h
  have ha : rowOf t ⟨a.val % 512, Nat.mod_lt _ (by norm_num)⟩ = a := Fin.ext (by show a.val / 512 * 512 + a.val % 512 = a.val; omega)
  rwa [ha] at h

theorem final14 : (dats m 0 c).arrAt 14 cfg0.N = R14 (ax m c) (aw m c) (ag m c) :=
  (dats m 0 c).arrAt_eq_of_cover 14 _ (fun t _ => flushed_eq14 m c t) covered14

theorem flushed_eq15 (t : Fin cfg0.N) : (dats m 0 c).flushed 15 t = ((cfg0.win 15).blk t).view.read (Elt Ideal) (R15 (ax m c) (aw m c) (ag m c)) := by
  rw [flushed15]
  funext (j : S512x128.Idx)
  obtain ⟨r, l, rfl⟩ : ∃ (r : Fin 512) (l : Fin 128), j = ix2 r l := ⟨j 0, j 1, eq_ix2 j⟩
  show out0_15 (iblk m c 0 t) (iblk m c 1 t) (iblk m c 2 t) (iblk m c 3 t) (iblk m c 4 t) (iblk m c 5 t) (iblk m c 6 t) (ix2 r l) = R15 (ax m c) (aw m c) (ag m c) (((cfg0.win 15).blk t).view.emb (ix2 r l))
  rw [embw15]
  exact blk15 (blocks m c t) r l

theorem covered15 (i : S65536x128.Idx) :
    ∃ t : Fin cfg0.N, (cfg0.win 15).flush t = true ∧ i ∈ ((cfg0.win 15).blk t).view.set := by
  obtain ⟨a, l, rfl⟩ : ∃ (a : Fin 65536) (l : Fin 128), i = ix2 a l := ⟨i 0, i 1, eq_ix2 i⟩
  let t : Fin cfg0.N := ⟨a.val / 512, show a.val / 512 < 128 by omega⟩
  refine ⟨t, flush0_15 t, ?_⟩
  have h := ((cfg0.win 15).blk t).view.emb_mem_set (ix2 ⟨a.val % 512, Nat.mod_lt _ (by norm_num)⟩ l)
  rw [embw15] at h
  have ha : rowOf t ⟨a.val % 512, Nat.mod_lt _ (by norm_num)⟩ = a := Fin.ext (by show a.val / 512 * 512 + a.val % 512 = a.val; omega)
  rwa [ha] at h

theorem final15 : (dats m 0 c).arrAt 15 cfg0.N = R15 (ax m c) (aw m c) (ag m c) :=
  (dats m 0 c).arrAt_eq_of_cover 15 _ (fun t _ => flushed_eq15 m c t) covered15

theorem flushed_eq16 (t : Fin cfg0.N) : (dats m 0 c).flushed 16 t = ((cfg0.win 16).blk t).view.read (Elt Ideal) (R16 (ax m c) (pos m c) (aw m c) (ag m c)) := by
  rw [flushed16]
  funext (j : S512x256.Idx)
  obtain ⟨r, l, rfl⟩ : ∃ (r : Fin 512) (l : Fin 256), j = ix2 r l := ⟨j 0, j 1, eq_ix2 j⟩
  show out0_16 (iblk m c 0 t) (iblk m c 1 t) (iblk m c 2 t) (iblk m c 3 t) (iblk m c 4 t) (iblk m c 5 t) (iblk m c 6 t) (ix2 r l) = R16 (ax m c) (pos m c) (aw m c) (ag m c) (((cfg0.win 16).blk t).view.emb (ix2 r l))
  rw [embw16]
  exact blk16 (blocks m c t) r l

theorem covered16 (i : S65536x256.Idx) :
    ∃ t : Fin cfg0.N, (cfg0.win 16).flush t = true ∧ i ∈ ((cfg0.win 16).blk t).view.set := by
  obtain ⟨a, l, rfl⟩ : ∃ (a : Fin 65536) (l : Fin 256), i = ix2 a l := ⟨i 0, i 1, eq_ix2 i⟩
  let t : Fin cfg0.N := ⟨a.val / 512, show a.val / 512 < 128 by omega⟩
  refine ⟨t, flush0_16 t, ?_⟩
  have h := ((cfg0.win 16).blk t).view.emb_mem_set (ix2 ⟨a.val % 512, Nat.mod_lt _ (by norm_num)⟩ l)
  rw [embw16] at h
  have ha : rowOf t ⟨a.val % 512, Nat.mod_lt _ (by norm_num)⟩ = a := Fin.ext (by show a.val / 512 * 512 + a.val % 512 = a.val; omega)
  rwa [ha] at h

theorem final16 : (dats m 0 c).arrAt 16 cfg0.N = R16 (ax m c) (pos m c) (aw m c) (ag m c) :=
  (dats m 0 c).arrAt_eq_of_cover 16 _ (fun t _ => flushed_eq16 m c t) covered16

theorem flushed_eq17 (t : Fin cfg0.N) : (dats m 0 c).flushed 17 t = ((cfg0.win 17).blk t).view.read (Elt Ideal) (R17 (ax m c) (aw m c) (ag m c)) := by
  rw [flushed17]
  funext (j : S2x128x256.Idx)
  obtain ⟨a, d, b, rfl⟩ : ∃ (a : Fin 2) (d : Fin 128) (b : Fin 256), j = ix3 a d b := ⟨j 0, j 1, j 2, eq_ix3 j⟩
  show out0_17 (iblk m c 0 t) (iblk m c 1 t) (iblk m c 2 t) (iblk m c 3 t) (iblk m c 4 t) (iblk m c 5 t) (iblk m c 6 t) (ix3 a d b) = R17 (ax m c) (aw m c) (ag m c) (((cfg0.win 17).blk t).view.emb (ix3 a d b))
  rw [embw17]
  have h₁ : bat (rowOf t ⟨a.val * 256 + b.val, by omega⟩) = (⟨(t.val * 2 + a.val) / 8, by have : t.val < 128 := t.isLt; omega⟩ : Fin 32) :=
    Fin.ext (by show (t.val * 512 + (a.val * 256 + b.val)) / 2048 = _; simp only; omega)
  have h₂ : row (rowOf t ⟨a.val * 256 + b.val, by omega⟩) = (⟨(t.val * 2 + a.val) % 8 * 256 + b.val, by omega⟩ : Fin 2048) :=
    Fin.ext (by show (t.val * 512 + (a.val * 256 + b.val)) % 2048 = _; simp only; omega)
  refine (blk17 (blocks m c t) a d b).trans ?_
  beta_reduce
  rw [h₁, h₂]
  rfl

theorem covered17 (i : S256x128x256.Idx) :
    ∃ t : Fin cfg0.N, (cfg0.win 17).flush t = true ∧ i ∈ ((cfg0.win 17).blk t).view.set := by
  obtain ⟨a, d, b, rfl⟩ : ∃ (a : Fin 256) (d : Fin 128) (b : Fin 256), i = ix3 a d b := ⟨i 0, i 1, i 2, eq_ix3 i⟩
  let t : Fin cfg0.N := ⟨a.val / 2, show a.val / 2 < 128 by omega⟩
  refine ⟨t, flush0_17 t, ?_⟩
  have h := ((cfg0.win 17).blk t).view.emb_mem_set (ix3 ⟨a.val % 2, Nat.mod_lt _ (by norm_num)⟩ d b)
  rw [embw17] at h
  have ha : (⟨a.val / 2 * 2 + a.val % 2, by omega⟩ : Fin 256) = a := Fin.ext (by simp only; omega)
  exact ha ▸ h

theorem final17 : (dats m 0 c).arrAt 17 cfg0.N = R17 (ax m c) (aw m c) (ag m c) :=
  (dats m 0 c).arrAt_eq_of_cover 17 _ (fun t _ => flushed_eq17 m c t) covered17

theorem flushed_eq18 (t : Fin cfg0.N) : (dats m 0 c).flushed 18 t = ((cfg0.win 18).blk t).view.read (Elt Ideal) (R18 (ax m c) (pos m c) (aw m c) (ag m c)) := by
  rw [flushed18]
  funext (j : S512x256.Idx)
  obtain ⟨r, l, rfl⟩ : ∃ (r : Fin 512) (l : Fin 256), j = ix2 r l := ⟨j 0, j 1, eq_ix2 j⟩
  show out0_18 (iblk m c 0 t) (iblk m c 1 t) (iblk m c 2 t) (iblk m c 3 t) (iblk m c 4 t) (iblk m c 5 t) (iblk m c 6 t) (ix2 r l) = R18 (ax m c) (pos m c) (aw m c) (ag m c) (((cfg0.win 18).blk t).view.emb (ix2 r l))
  rw [embw18]
  exact blk18 (blocks m c t) r l

theorem covered18 (i : S65536x256.Idx) :
    ∃ t : Fin cfg0.N, (cfg0.win 18).flush t = true ∧ i ∈ ((cfg0.win 18).blk t).view.set := by
  obtain ⟨a, l, rfl⟩ : ∃ (a : Fin 65536) (l : Fin 256), i = ix2 a l := ⟨i 0, i 1, eq_ix2 i⟩
  let t : Fin cfg0.N := ⟨a.val / 512, show a.val / 512 < 128 by omega⟩
  refine ⟨t, flush0_18 t, ?_⟩
  have h := ((cfg0.win 18).blk t).view.emb_mem_set (ix2 ⟨a.val % 512, Nat.mod_lt _ (by norm_num)⟩ l)
  rw [embw18] at h
  have ha : rowOf t ⟨a.val % 512, Nat.mod_lt _ (by norm_num)⟩ = a := Fin.ext (by show a.val / 512 * 512 + a.val % 512 = a.val; omega)
  rwa [ha] at h

theorem final18 : (dats m 0 c).arrAt 18 cfg0.N = R18 (ax m c) (pos m c) (aw m c) (ag m c) :=
  (dats m 0 c).arrAt_eq_of_cover 18 _ (fun t _ => flushed_eq18 m c t) covered18

theorem flushed_eq19 (t : Fin cfg0.N) : (dats m 0 c).flushed 19 t = ((cfg0.win 19).blk t).view.read (Elt Ideal) (R19 (ax m c) (aw m c) (ag m c)) := by
  rw [flushed19]
  funext (j : S2x128x256.Idx)
  obtain ⟨a, d, b, rfl⟩ : ∃ (a : Fin 2) (d : Fin 128) (b : Fin 256), j = ix3 a d b := ⟨j 0, j 1, j 2, eq_ix3 j⟩
  show out0_19 (iblk m c 0 t) (iblk m c 1 t) (iblk m c 2 t) (iblk m c 3 t) (iblk m c 4 t) (iblk m c 5 t) (iblk m c 6 t) (ix3 a d b) = R19 (ax m c) (aw m c) (ag m c) (((cfg0.win 19).blk t).view.emb (ix3 a d b))
  rw [embw19]
  have h₁ : bat (rowOf t ⟨a.val * 256 + b.val, by omega⟩) = (⟨(t.val * 2 + a.val) / 8, by have : t.val < 128 := t.isLt; omega⟩ : Fin 32) :=
    Fin.ext (by show (t.val * 512 + (a.val * 256 + b.val)) / 2048 = _; simp only; omega)
  have h₂ : row (rowOf t ⟨a.val * 256 + b.val, by omega⟩) = (⟨(t.val * 2 + a.val) % 8 * 256 + b.val, by omega⟩ : Fin 2048) :=
    Fin.ext (by show (t.val * 512 + (a.val * 256 + b.val)) % 2048 = _; simp only; omega)
  refine (blk19 (blocks m c t) a d b).trans ?_
  beta_reduce
  rw [h₁, h₂]
  rfl

theorem covered19 (i : S256x128x256.Idx) :
    ∃ t : Fin cfg0.N, (cfg0.win 19).flush t = true ∧ i ∈ ((cfg0.win 19).blk t).view.set := by
  obtain ⟨a, d, b, rfl⟩ : ∃ (a : Fin 256) (d : Fin 128) (b : Fin 256), i = ix3 a d b := ⟨i 0, i 1, i 2, eq_ix3 i⟩
  let t : Fin cfg0.N := ⟨a.val / 2, show a.val / 2 < 128 by omega⟩
  refine ⟨t, flush0_19 t, ?_⟩
  have h := ((cfg0.win 19).blk t).view.emb_mem_set (ix3 ⟨a.val % 2, Nat.mod_lt _ (by norm_num)⟩ d b)
  rw [embw19] at h
  have ha : (⟨a.val / 2 * 2 + a.val % 2, by omega⟩ : Fin 256) = a := Fin.ext (by simp only; omega)
  exact ha ▸ h

theorem final19 : (dats m 0 c).arrAt 19 cfg0.N = R19 (ax m c) (aw m c) (ag m c) :=
  (dats m 0 c).arrAt_eq_of_cover 19 _ (fun t _ => flushed_eq19 m c t) covered19

theorem flushed_eq20 (t : Fin cfg0.N) : (dats m 0 c).flushed 20 t = ((cfg0.win 20).blk t).view.read (Elt Ideal) (R20 (ax m c) (aw m c) (ag m c)) := by
  rw [flushed20]
  funext (j : S512x128.Idx)
  obtain ⟨r, l, rfl⟩ : ∃ (r : Fin 512) (l : Fin 128), j = ix2 r l := ⟨j 0, j 1, eq_ix2 j⟩
  show out0_20 (iblk m c 0 t) (iblk m c 1 t) (iblk m c 2 t) (iblk m c 3 t) (iblk m c 4 t) (iblk m c 5 t) (iblk m c 6 t) (ix2 r l) = R20 (ax m c) (aw m c) (ag m c) (((cfg0.win 20).blk t).view.emb (ix2 r l))
  rw [embw20]
  exact blk20 (blocks m c t) r l

theorem covered20 (i : S65536x128.Idx) :
    ∃ t : Fin cfg0.N, (cfg0.win 20).flush t = true ∧ i ∈ ((cfg0.win 20).blk t).view.set := by
  obtain ⟨a, l, rfl⟩ : ∃ (a : Fin 65536) (l : Fin 128), i = ix2 a l := ⟨i 0, i 1, eq_ix2 i⟩
  let t : Fin cfg0.N := ⟨a.val / 512, show a.val / 512 < 128 by omega⟩
  refine ⟨t, flush0_20 t, ?_⟩
  have h := ((cfg0.win 20).blk t).view.emb_mem_set (ix2 ⟨a.val % 512, Nat.mod_lt _ (by norm_num)⟩ l)
  rw [embw20] at h
  have ha : rowOf t ⟨a.val % 512, Nat.mod_lt _ (by norm_num)⟩ = a := Fin.ext (by show a.val / 512 * 512 + a.val % 512 = a.val; omega)
  rwa [ha] at h

theorem final20 : (dats m 0 c).arrAt 20 cfg0.N = R20 (ax m c) (aw m c) (ag m c) :=
  (dats m 0 c).arrAt_eq_of_cover 20 _ (fun t _ => flushed_eq20 m c t) covered20

theorem flushed_eq21 (t : Fin cfg0.N) : (dats m 0 c).flushed 21 t = ((cfg0.win 21).blk t).view.read (Elt Ideal) (R21 (ax m c) (aw m c) (ag m c)) := by
  rw [flushed21]
  funext (j : S512x256.Idx)
  obtain ⟨r, l, rfl⟩ : ∃ (r : Fin 512) (l : Fin 256), j = ix2 r l := ⟨j 0, j 1, eq_ix2 j⟩
  show out0_21 (iblk m c 0 t) (iblk m c 1 t) (iblk m c 2 t) (iblk m c 3 t) (iblk m c 4 t) (iblk m c 5 t) (iblk m c 6 t) (ix2 r l) = R21 (ax m c) (aw m c) (ag m c) (((cfg0.win 21).blk t).view.emb (ix2 r l))
  rw [embw21]
  exact blk21 (blocks m c t) r l

theorem covered21 (i : S65536x256.Idx) :
    ∃ t : Fin cfg0.N, (cfg0.win 21).flush t = true ∧ i ∈ ((cfg0.win 21).blk t).view.set := by
  obtain ⟨a, l, rfl⟩ : ∃ (a : Fin 65536) (l : Fin 256), i = ix2 a l := ⟨i 0, i 1, eq_ix2 i⟩
  let t : Fin cfg0.N := ⟨a.val / 512, show a.val / 512 < 128 by omega⟩
  refine ⟨t, flush0_21 t, ?_⟩
  have h := ((cfg0.win 21).blk t).view.emb_mem_set (ix2 ⟨a.val % 512, Nat.mod_lt _ (by norm_num)⟩ l)
  rw [embw21] at h
  have ha : rowOf t ⟨a.val % 512, Nat.mod_lt _ (by norm_num)⟩ = a := Fin.ext (by show a.val / 512 * 512 + a.val % 512 = a.val; omega)
  rwa [ha] at h

theorem final21 : (dats m 0 c).arrAt 21 cfg0.N = R21 (ax m c) (aw m c) (ag m c) :=
  (dats m 0 c).arrAt_eq_of_cover 21 _ (fun t _ => flushed_eq21 m c t) covered21

end Cert.Proof.Proj

end
-- ==== Proof.ProjClaim.lean ====
/- The input projection: the kernel and the reference end with equal results over the extended reals. -/
module

public import proofs.«01_k».proof.Defs
public import proofs.«01_k».proof.Proof.ProjRun

@[expose] public section

noncomputable section

namespace Cert.Proof.Proj

open Idealize.ShloMosaic Idealize.ShloMosaic.TcCoe Idealize.SL.Sem

set_option maxHeartbeats 4000000 in
theorem claim : Cert.algebraic_ProjIdeal_ProjRefIdeal (hProjIdeal := Cert.ProjIdeal.Gen.facts)
    (hProjRefIdeal := Cert.ProjRefIdeal.Gen.facts) := by
  intro m ρ m' ρ' _ hag
  refine ⟨fun c => R7 (ax m c) (pos m c) (aw m c) (ag m c),
    fun c => R8 (ax m c) (pos m c) (aw m c) (agk m c) (awk m c) (ag m c),
    fun c => R9 (ax m c) (aw m c) (agk m c) (awk m c) (ag m c),
    fun c => R10 (ax m c) (pos m c) (aw m c) (ag m c),
    fun c => R11 (ax m c) (pos m c) (aw m c) (ag m c),
    fun c => R12 (ax m c) (aw m c) (ag m c),
    fun c => R13 (ax m c) (pos m c) (aw m c) (ag m c),
    fun c => R14 (ax m c) (aw m c) (ag m c),
    fun c => R15 (ax m c) (aw m c) (ag m c),
    fun c => R16 (ax m c) (pos m c) (aw m c) (ag m c),
    fun c => R17 (ax m c) (aw m c) (ag m c),
    fun c => R18 (ax m c) (pos m c) (aw m c) (ag m c),
    fun c => R19 (ax m c) (aw m c) (ag m c),
    fun c => R20 (ax m c) (aw m c) (ag m c),
    fun c => R21 (ax m c) (aw m c) (ag m c), ?_, ?_⟩
  · refine (θ_run _ _ _).mono (fun r h c => ?_) (ProjIdeal.Value.run_blocks m ρ)
    obtain ⟨e0, e1, e2, e3, e4, e5, e6, e7, e8, e9, e10, e11, e12, e13, e14, e⟩ := h c
    exact ⟨e0.trans (final7 m c), e1.trans (final8 m c), e2.trans (final9 m c), e3.trans (final10 m c), e4.trans (final11 m c), e5.trans (final12 m c), e6.trans (final13 m c), e7.trans (final14 m c), e8.trans (final15 m c), e9.trans (final16 m c), e10.trans (final17 m c), e11.trans (final18 m c), e12.trans (final19 m c), e13.trans (final20 m c), e14.trans (final21 m c), e⟩
  · refine (θ_run _ _ _).mono (fun r h c => ?_) (ProjRefIdeal.Value.run m' ρ')
    obtain ⟨h0, h1, h2, h3, h4, h5⟩ := hag c
    obtain ⟨e0, e1, e2, e3, e4, e5, e6, e7, e8, e9, e10, e11, e12, e13, e14, e⟩ := h c
    unfold ax pos aw agk awk ag
    refine ⟨e0.trans ?_, e1.trans ?_, e2.trans ?_, e3.trans ?_, e4.trans ?_, e5.trans ?_, e6.trans ?_, e7.trans ?_, e8.trans ?_, e9.trans ?_, e10.trans ?_, e11.trans ?_, e12.trans ?_, e13.trans ?_, e14.trans ?_, e⟩
    · rw [ProjRefIdeal.Read.val_main_v190_eq]
      refine (ref7 _ _ _ _).trans ?_
      show R7 (m' ((c.tc : Thread ProjRefIdeal.nD ProjRefIdeal.τ).loc ProjRefIdeal.main_arg0)) (m' ((c.tc : Thread ProjRefIdeal.nD ProjRefIdeal.τ).loc ProjRefIdeal.main_arg1)) (m' ((c.tc : Thread ProjRefIdeal.nD ProjRefIdeal.τ).loc ProjRefIdeal.main_arg2)) (m' ((c.tc : Thread ProjRefIdeal.nD ProjRefIdeal.τ).loc ProjRefIdeal.main_arg5)) = R7 (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2)) (m ((c.tc : Thread ProjIdeal.nD ProjIdeal.τ).loc ProjIdeal.main_arg5))
      rw [← h0, ← h1, ← h2, ← h5]
    · rw [ProjRefIdeal.Read.val_main_v195_eq]
      refine (ref8 _ _ _ _ _ _).trans ?_
      show R8 (m' ((c.tc : Thread ProjRefIdeal.nD ProjRefIdeal.τ).loc ProjRefIdeal.main_arg0)) (m' ((c.tc : Thread ProjRefIdeal.nD ProjRefIdeal.τ).loc ProjRefIdeal.main_arg1)) (m' ((c.tc : Thread ProjRefIdeal.nD ProjRefIdeal.τ).loc ProjRefIdeal.main_arg2)) (m' ((c.tc : Thread ProjRefIdeal.nD ProjRefIdeal.τ).loc ProjRefIdeal.main_arg3)) (m' ((c.tc : Thread ProjRefIdeal.nD ProjRefIdeal.τ).loc ProjRefIdeal.main_arg4)) (m' ((c.tc : Thread ProjRefIdeal.nD ProjRefIdeal.τ).loc ProjRefIdeal.main_arg5)) = R8 (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2)) (m ((c.tc : Thread ProjIdeal.nD ProjIdeal.τ).loc ProjIdeal.main_arg3)) (m ((c.tc : Thread ProjIdeal.nD ProjIdeal.τ).loc ProjIdeal.main_arg4)) (m ((c.tc : Thread ProjIdeal.nD ProjIdeal.τ).loc ProjIdeal.main_arg5))
      rw [← h0, ← h1, ← h2, ← h3, ← h4, ← h5]
    · rw [ProjRefIdeal.Read.val_main_v198_eq]
      refine (ref9 _ _ _ _ _).trans ?_
      show R9 (m' ((c.tc : Thread ProjRefIdeal.nD ProjRefIdeal.τ).loc ProjRefIdeal.main_arg0)) (m' ((c.tc : Thread ProjRefIdeal.nD ProjRefIdeal.τ).loc ProjRefIdeal.main_arg2)) (m' ((c.tc : Thread ProjRefIdeal.nD ProjRefIdeal.τ).loc ProjRefIdeal.main_arg3)) (m' ((c.tc : Thread ProjRefIdeal.nD ProjRefIdeal.τ).loc ProjRefIdeal.main_arg4)) (m' ((c.tc : Thread ProjRefIdeal.nD ProjRefIdeal.τ).loc ProjRefIdeal.main_arg5)) = R9 (m ((c.tc : Thread ProjIdeal.nD ProjIdeal.τ).loc ProjIdeal.main_arg0)) (m ((c.tc : Thread ProjIdeal.nD ProjIdeal.τ).loc ProjIdeal.main_arg2)) (m ((c.tc : Thread ProjIdeal.nD ProjIdeal.τ).loc ProjIdeal.main_arg3)) (m ((c.tc : Thread ProjIdeal.nD ProjIdeal.τ).loc ProjIdeal.main_arg4)) (m ((c.tc : Thread ProjIdeal.nD ProjIdeal.τ).loc ProjIdeal.main_arg5))
      rw [← h0, ← h2, ← h3, ← h4, ← h5]
    · rw [ProjRefIdeal.Read.val_main_v200_eq]
      refine (ref10 _ _ _ _).trans ?_
      show R10 (m' ((c.tc : Thread ProjRefIdeal.nD ProjRefIdeal.τ).loc ProjRefIdeal.main_arg0)) (m' ((c.tc : Thread ProjRefIdeal.nD ProjRefIdeal.τ).loc ProjRefIdeal.main_arg1)) (m' ((c.tc : Thread ProjRefIdeal.nD ProjRefIdeal.τ).loc ProjRefIdeal.main_arg2)) (m' ((c.tc : Thread ProjRefIdeal.nD ProjRefIdeal.τ).loc ProjRefIdeal.main_arg5)) = R10 (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2)) (m ((c.tc : Thread ProjIdeal.nD ProjIdeal.τ).loc ProjIdeal.main_arg5))
      rw [← h0, ← h1, ← h2, ← h5]
    · rw [ProjRefIdeal.Read.val_main_v207_eq]
      refine (ref11 _ _ _ _).trans ?_
      show R11 (m' ((c.tc : Thread ProjRefIdeal.nD ProjRefIdeal.τ).loc ProjRefIdeal.main_arg0)) (m' ((c.tc : Thread ProjRefIdeal.nD ProjRefIdeal.τ).loc ProjRefIdeal.main_arg1)) (m' ((c.tc : Thread ProjRefIdeal.nD ProjRefIdeal.τ).loc ProjRefIdeal.main_arg2)) (m' ((c.tc : Thread ProjRefIdeal.nD ProjRefIdeal.τ).loc ProjRefIdeal.main_arg5)) = R11 (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2)) (m ((c.tc : Thread ProjIdeal.nD ProjIdeal.τ).loc ProjIdeal.main_arg5))
      rw [← h0, ← h1, ← h2, ← h5]
    · rw [ProjRefIdeal.Read.val_main_v211_eq]
      refine (ref12 _ _ _).trans ?_
      show R12 (m' ((c.tc : Thread ProjRefIdeal.nD ProjRefIdeal.τ).loc ProjRefIdeal.main_arg0)) (m' ((c.tc : Thread ProjRefIdeal.nD ProjRefIdeal.τ).loc ProjRefIdeal.main_arg2)) (m' ((c.tc : Thread ProjRefIdeal.nD ProjRefIdeal.τ).loc ProjRefIdeal.main_arg5)) = R12 (m ((c.tc : Thread ProjIdeal.nD ProjIdeal.τ).loc ProjIdeal.main_arg0)) (m ((c.tc : Thread ProjIdeal.nD ProjIdeal.τ).loc ProjIdeal.main_arg2)) (m ((c.tc : Thread ProjIdeal.nD ProjIdeal.τ).loc ProjIdeal.main_arg5))
      rw [← h0, ← h2, ← h5]
    · rw [ProjRefIdeal.Read.val_main_v215_eq]
      refine (ref13 _ _ _ _).trans ?_
      show R13 (m' ((c.tc : Thread ProjRefIdeal.nD ProjRefIdeal.τ).loc ProjRefIdeal.main_arg0)) (m' ((c.tc : Thread ProjRefIdeal.nD ProjRefIdeal.τ).loc ProjRefIdeal.main_arg1)) (m' ((c.tc : Thread ProjRefIdeal.nD ProjRefIdeal.τ).loc ProjRefIdeal.main_arg2)) (m' ((c.tc : Thread ProjRefIdeal.nD ProjRefIdeal.τ).loc ProjRefIdeal.main_arg5)) = R13 (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2)) (m ((c.tc : Thread ProjIdeal.nD ProjIdeal.τ).loc ProjIdeal.main_arg5))
      rw [← h0, ← h1, ← h2, ← h5]
    · rw [ProjRefIdeal.Read.val_main_v216_eq]
      refine (ref14 _ _ _).trans ?_
      show R14 (m' ((c.tc : Thread ProjRefIdeal.nD ProjRefIdeal.τ).loc ProjRefIdeal.main_arg0)) (m' ((c.tc : Thread ProjRefIdeal.nD ProjRefIdeal.τ).loc ProjRefIdeal.main_arg2)) (m' ((c.tc : Thread ProjRefIdeal.nD ProjRefIdeal.τ).loc ProjRefIdeal.main_arg5)) = R14 (m ((c.tc : Thread ProjIdeal.nD ProjIdeal.τ).loc ProjIdeal.main_arg0)) (m ((c.tc : Thread ProjIdeal.nD ProjIdeal.τ).loc ProjIdeal.main_arg2)) (m ((c.tc : Thread ProjIdeal.nD ProjIdeal.τ).loc ProjIdeal.main_arg5))
      rw [← h0, ← h2, ← h5]
    · rw [ProjRefIdeal.Read.val_main_v217_eq]
      refine (ref15 _ _ _).trans ?_
      show R15 (m' ((c.tc : Thread ProjRefIdeal.nD ProjRefIdeal.τ).loc ProjRefIdeal.main_arg0)) (m' ((c.tc : Thread ProjRefIdeal.nD ProjRefIdeal.τ).loc ProjRefIdeal.main_arg2)) (m' ((c.tc : Thread ProjRefIdeal.nD ProjRefIdeal.τ).loc ProjRefIdeal.main_arg5)) = R15 (m ((c.tc : Thread ProjIdeal.nD ProjIdeal.τ).loc ProjIdeal.main_arg0)) (m ((c.tc : Thread ProjIdeal.nD ProjIdeal.τ).loc ProjIdeal.main_arg2)) (m ((c.tc : Thread ProjIdeal.nD ProjIdeal.τ).loc ProjIdeal.main_arg5))
      rw [← h0, ← h2, ← h5]
    · rw [ProjRefIdeal.Read.val_main_v222_eq]
      refine (ref16 _ _ _ _).trans ?_
      show R16 (m' ((c.tc : Thread ProjRefIdeal.nD ProjRefIdeal.τ).loc ProjRefIdeal.main_arg0)) (m' ((c.tc : Thread ProjRefIdeal.nD ProjRefIdeal.τ).loc ProjRefIdeal.main_arg1)) (m' ((c.tc : Thread ProjRefIdeal.nD ProjRefIdeal.τ).loc ProjRefIdeal.main_arg2)) (m' ((c.tc : Thread ProjRefIdeal.nD ProjRefIdeal.τ).loc ProjRefIdeal.main_arg5)) = R16 (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2)) (m ((c.tc : Thread ProjIdeal.nD ProjIdeal.τ).loc ProjIdeal.main_arg5))
      rw [← h0, ← h1, ← h2, ← h5]
    · rw [ProjRefIdeal.Read.val_main_v225_eq]
      refine (ref17 _ _ _).trans ?_
      show R17 (m' ((c.tc : Thread ProjRefIdeal.nD ProjRefIdeal.τ).loc ProjRefIdeal.main_arg0)) (m' ((c.tc : Thread ProjRefIdeal.nD ProjRefIdeal.τ).loc ProjRefIdeal.main_arg2)) (m' ((c.tc : Thread ProjRefIdeal.nD ProjRefIdeal.τ).loc ProjRefIdeal.main_arg5)) = R17 (m ((c.tc : Thread ProjIdeal.nD ProjIdeal.τ).loc ProjIdeal.main_arg0)) (m ((c.tc : Thread ProjIdeal.nD ProjIdeal.τ).loc ProjIdeal.main_arg2)) (m ((c.tc : Thread ProjIdeal.nD ProjIdeal.τ).loc ProjIdeal.main_arg5))
      rw [← h0, ← h2, ← h5]
    · rw [ProjRefIdeal.Read.val_main_v230_eq]
      refine (ref18 _ _ _ _).trans ?_
      show R18 (m' ((c.tc : Thread ProjRefIdeal.nD ProjRefIdeal.τ).loc ProjRefIdeal.main_arg0)) (m' ((c.tc : Thread ProjRefIdeal.nD ProjRefIdeal.τ).loc ProjRefIdeal.main_arg1)) (m' ((c.tc : Thread ProjRefIdeal.nD ProjRefIdeal.τ).loc ProjRefIdeal.main_arg2)) (m' ((c.tc : Thread ProjRefIdeal.nD ProjRefIdeal.τ).loc ProjRefIdeal.main_arg5)) = R18 (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2)) (m ((c.tc : Thread ProjIdeal.nD ProjIdeal.τ).loc ProjIdeal.main_arg5))
      rw [← h0, ← h1, ← h2, ← h5]
    · rw [ProjRefIdeal.Read.val_main_v233_eq]
      refine (ref19 _ _ _).trans ?_
      show R19 (m' ((c.tc : Thread ProjRefIdeal.nD ProjRefIdeal.τ).loc ProjRefIdeal.main_arg0)) (m' ((c.tc : Thread ProjRefIdeal.nD ProjRefIdeal.τ).loc ProjRefIdeal.main_arg2)) (m' ((c.tc : Thread ProjRefIdeal.nD ProjRefIdeal.τ).loc ProjRefIdeal.main_arg5)) = R19 (m ((c.tc : Thread ProjIdeal.nD ProjIdeal.τ).loc ProjIdeal.main_arg0)) (m ((c.tc : Thread ProjIdeal.nD ProjIdeal.τ).loc ProjIdeal.main_arg2)) (m ((c.tc : Thread ProjIdeal.nD ProjIdeal.τ).loc ProjIdeal.main_arg5))
      rw [← h0, ← h2, ← h5]
    · rw [ProjRefIdeal.Read.val_main_v234_eq]
      refine (ref20 _ _ _).trans ?_
      show R20 (m' ((c.tc : Thread ProjRefIdeal.nD ProjRefIdeal.τ).loc ProjRefIdeal.main_arg0)) (m' ((c.tc : Thread ProjRefIdeal.nD ProjRefIdeal.τ).loc ProjRefIdeal.main_arg2)) (m' ((c.tc : Thread ProjRefIdeal.nD ProjRefIdeal.τ).loc ProjRefIdeal.main_arg5)) = R20 (m ((c.tc : Thread ProjIdeal.nD ProjIdeal.τ).loc ProjIdeal.main_arg0)) (m ((c.tc : Thread ProjIdeal.nD ProjIdeal.τ).loc ProjIdeal.main_arg2)) (m ((c.tc : Thread ProjIdeal.nD ProjIdeal.τ).loc ProjIdeal.main_arg5))
      rw [← h0, ← h2, ← h5]
    · rw [ProjRefIdeal.Read.val_main_v235_eq]
      refine (ref21 _ _ _).trans ?_
      show R21 (m' ((c.tc : Thread ProjRefIdeal.nD ProjRefIdeal.τ).loc ProjRefIdeal.main_arg0)) (m' ((c.tc : Thread ProjRefIdeal.nD ProjRefIdeal.τ).loc ProjRefIdeal.main_arg2)) (m' ((c.tc : Thread ProjRefIdeal.nD ProjRefIdeal.τ).loc ProjRefIdeal.main_arg5)) = R21 (m ((c.tc : Thread ProjIdeal.nD ProjIdeal.τ).loc ProjIdeal.main_arg0)) (m ((c.tc : Thread ProjIdeal.nD ProjIdeal.τ).loc ProjIdeal.main_arg2)) (m ((c.tc : Thread ProjIdeal.nD ProjIdeal.τ).loc ProjIdeal.main_arg5))
      rw [← h0, ← h2, ← h5]

end Cert.Proof.Proj

end
-- ==== Proof.Scatter.lean ====
/- A rectangle written into a larger array at a start given by an index vector, read at an index. -/
module

public import Idealize.ShloMosaic.Lib.Routing.OpsOne
public import Idealize.ShloMosaic.Lib.Pointwise

@[expose] public section

noncomputable section

namespace Cert.Proof

open Idealize.ShloMosaic Idealize.ShloMosaic.Routing

variable {α : Type} {R C A B w : ℕ} (d : ScatterDims (shape2 R C) (shape1 2) (shape2 A B))
  (hu : d.updateWindowDims = [0, 1]) (hi : d.insertedWindowDims = []) (hs : d.scatterDimsToOperandDims = [0, 1]) (hv : d.indexVectorDim = 0)

include hu hi in
theorem window_rect (k : (shape2 A B).Idx) (a : Fin 2) : d.window k a = ((k a : Fin _) : ℕ) := by
  have hk : d.sKept = [0, 1] := by
    show (shape2 R C).kept d.insertedWindowDims = _
    rw [hi]
    rfl
  unfold ScatterDims.window
  rw [dif_pos (by rw [hk]; fin_cases a <;> simp)]
  refine congrArg (fun t => ((k t : Fin _) : ℕ)) ?_
  simp only [hk, hu]
  fin_cases a <;> rfl

include hu hi hs hv in
theorem lands_rect (idx : IVec (shape1 2) w) (k : (shape2 A B).Idx) (r : Fin R) (c : Fin C) :
    d.resultIdx? k idx = some (ix2 r c) ↔ (idx (ix1 (0 : Fin 2))).toInt + ((k 0 : Fin _).val : Int) = r.val
      ∧ (idx (ix1 (1 : Fin 2))).toInt + ((k 1 : Fin _).val : Int) = c.val := by
  rw [resultIdx?_eq_some]
  have e : ∀ a : Fin 2, d.start k idx a + (d.window k a : Int) = (idx (ix1 a)).toInt + ((k a : Fin _).val : Int) := fun a => by
    rw [window_rect d hu hi]
    exact congrArg (· + _) (start_pair d hs hv idx k a)
  constructor
  · exact fun h => ⟨(e 0).symm.trans (h 0), (e 1).symm.trans (h 1)⟩
  · rintro ⟨h0, h1⟩ a
    match a with
    | ⟨0, _⟩ => exact (e 0).trans h0
    | ⟨1, _⟩ => exact (e 1).trans h1

include hu hi hs hv in
/-- An `A × B` rectangle written at `(p, q)`: its element inside, the operand's outside. -/
theorem scatter_rect (x : (shape2 R C).Idx → α) (idx : IVec (shape1 2) w) (upd : (shape2 A B).Idx → α) (p q : ℕ)
    (hp : (idx (ix1 (0 : Fin 2))).toInt = p) (hq : (idx (ix1 (1 : Fin 2))).toInt = q) (r : Fin R) (c : Fin C) :
    Host.scatter d (fun _ b => b) x idx upd (ix2 r c)
      = if h : (p ≤ r.val ∧ r.val - p < A) ∧ (q ≤ c.val ∧ c.val - q < B) then upd (ix2 ⟨r.val - p, h.1.2⟩ ⟨c.val - q, h.2.2⟩) else x (ix2 r c) := by
  split_ifs with h
  · refine scatter_set_hit d x idx upd _ _ (fun k hk => congrArg upd ?_) (ix2 ⟨r.val - p, h.1.2⟩ ⟨c.val - q, h.2.2⟩)
      ((lands_rect d hu hi hs hv idx _ r c).2 ⟨?_, ?_⟩)
    · obtain ⟨h0, h1⟩ := (lands_rect d hu hi hs hv idx k r c).1 hk
      rw [hp] at h0
      rw [hq] at h1
      rw [eq_ix2 k]
      refine congrArg₂ ix2 (Fin.ext ?_) (Fin.ext ?_)
      · show (k 0 : Fin _).val = r.val - p
        omega
      · show (k 1 : Fin _).val = c.val - q
        omega
    · rw [hp]
      show (p : Int) + ((r.val - p : ℕ) : Int) = r.val
      omega
    · rw [hq]
      show (q : Int) + ((c.val - q : ℕ) : Int) = c.val
      omega
  · refine scatter_set_miss d x idx upd _ fun k hk => h ?_
    obtain ⟨h0, h1⟩ := (lands_rect d hu hi hs hv idx k r c).1 hk
    rw [hp] at h0
    rw [hq] at h1
    have e0 : (k 0 : Fin _).val < A := (k 0).isLt
    have e1 : (k 1 : Fin _).val < B := (k 1).isLt
    omega

end Cert.Proof

end
-- ==== Proof.PoolRow.lean ====
/- The pooling at one lane: sums over a window of the last rows, by doubling and as a difference of running sums, and the
   centred window mean. -/
module

public import Mathlib.Data.EReal.Operations
public import Mathlib.Algebra.BigOperators.Intervals
public import Mathlib.Algebra.BigOperators.Fin
public import Mathlib.Tactic.Ring
public import Mathlib.Tactic.IntervalCases
public import Idealize.ShloMosaic.Lib.Pointwise

@[expose] public section

noncomputable section

namespace Cert.Proof.Pool

open Idealize.ShloMosaic
open scoped BigOperators

/-- The sum of the last `w` rows of `u` up to row `i`, rows before the first counting as zero. -/
def win (w : ℕ) (u : ℕ → EReal) (i : ℕ) : EReal := ∑ k ∈ Finset.range w, if k ≤ i then u (i - k) else 0

/-- The sum of the rows of `u` before row `n`. -/
def run (u : ℕ → EReal) (n : ℕ) : EReal := ∑ k ∈ Finset.range n, u k

theorem win_one (u : ℕ → EReal) (i : ℕ) : win 1 u i = u i := by simp [win]

theorem win_double (w : ℕ) (u : ℕ → EReal) (i : ℕ) : win w u i + (if w ≤ i then win w u (i - w) else 0) = win (w + w) u i := by
  unfold win
  rw [Finset.sum_range_add]
  congr 1
  split_ifs with h
  · refine Finset.sum_congr rfl fun k _ => ?_
    by_cases hk : k ≤ i - w
    · rw [if_pos hk, if_pos (by omega), show i - w - k = i - (w + k) by omega]
    · rw [if_neg hk, if_neg (by omega)]
  · exact (Finset.sum_eq_zero fun k _ => if_neg (by omega)).symm

/-- A running sum of real rows less the one `w` rows before is the sum over the window. -/
theorem run_sub (w : ℕ) (u : ℕ → EReal) (r : ℕ → ℝ) (hr : ∀ i, u i = (r i : EReal)) (i : ℕ) :
    run u (i + 1) - run u (i + 1 - w) = win w u i := by
  have hrun : ∀ n, run u n = ((∑ k ∈ Finset.range n, r k : ℝ) : EReal) := fun n => by
    unfold run
    induction n with
    | zero => simp
    | succ n ih => rw [Finset.sum_range_succ, Finset.sum_range_succ, ih, hr, EReal.coe_add]
  have hwin : ∀ n, win n u i = ((∑ k ∈ Finset.range n, if k ≤ i then r (i - k) else 0 : ℝ) : EReal) := fun n => by
    unfold win
    induction n with
    | zero => simp
    | succ n ih =>
      rw [Finset.sum_range_succ, Finset.sum_range_succ, ih, EReal.coe_add]
      split_ifs
      · rw [hr]
      · rfl
  rw [hrun, hrun, hwin, ← EReal.coe_sub]
  congr 1
  induction w with
  | zero => simp
  | succ w ih =>
    rw [Finset.sum_range_succ (fun k => if k ≤ i then r (i - k) else 0), ← ih]
    split_ifs with h
    · rw [show i + 1 - (w + 1) = i - w by omega, show i + 1 - w = (i - w) + 1 by omega, Finset.sum_range_succ r (i - w)]
      ring
    · rw [show i + 1 - w = 0 by omega, show i + 1 - (w + 1) = 0 by omega]
      ring

/-- The windows of the four groups of lanes, as numbers of rows. -/
abbrev cap (g : ℕ) : EReal :=
  if g = 0 then Ideal.ofBits .f32 0x40000000#32 else if g = 1 then Ideal.ofBits .f32 0x40800000#32
  else if g = 2 then Ideal.ofBits .f32 0x41000000#32 else Ideal.ofBits .f32 0x41800000#32

/-- The mean of group `g`'s window of rows up to row `i`, over the rows there are, less the row itself. -/
def mean (g : ℕ) (u : ℕ → EReal) (i : ℕ) : EReal :=
  Ideal.div (win (2 ^ (g + 1)) u i) (min (((i : ℝ) + 1 : ℝ) : EReal) (cap g)) - u i

/-- Lane `64 g + d` of the pooled row `i`: the group's means times column `d` of its weights. -/
def pooled (g : ℕ) (u : Fin 64 → ℕ → EReal) (w : Fin 64 → EReal) (i : ℕ) : EReal := ∑ c : Fin 64, mean g (u c) i * w c

/-- A sum over 256 lanes of which one group of 64 counts. -/
theorem sum_group (g : Fin 4) (f : Fin 256 → EReal) (h : ∀ k : Fin 256, k.val / 64 ≠ g.val → f k = 0) :
    ∑ k : Fin 256, f k = ∑ c : Fin 64, f ⟨64 * g.val + c.val, by omega⟩ := by
  rw [← Equiv.sum_comp (finProdFinEquiv (m := 4) (n := 64)) f, Fintype.sum_prod_type, Finset.sum_eq_single g]
  · exact Finset.sum_congr rfl fun c _ => congrArg f (Fin.ext (by show c.val + 64 * g.val = 64 * g.val + c.val; omega))
  · exact fun b _ hb => Finset.sum_eq_zero fun c _ => h _ (by
      show (c.val + 64 * b.val) / 64 ≠ g.val
      exact fun e => hb (Fin.ext (by omega)))
  · exact fun hg => absurd (Finset.mem_univ g) hg

end Cert.Proof.Pool

end
-- ==== Proof.PoolBody.lean ====
/- The block the pooling call's body leaves, lane by lane. -/
module

public import proofs.«01_k».proof.Proof.PoolRow
public import proofs.«01_k».proof.Proof.MergeRun
public import proofs.«01_k».proof.Proof.Gen.PoolIdeal.Value

@[expose] public section

noncomputable section

namespace Cert.Proof.Pool

open Idealize.ShloMosaic Idealize.ShloMosaic.TcCoe Idealize.SL.Sem
open Cert.PoolIdeal Cert.PoolIdeal.Gen Cert.PoolIdeal.Value

theorem pay3 (l : Fin 256) : (k0_pay3 (ix2 0 l) : BitVec 32) = BitVec.ofNat 32 (l.val / 64) := by
  revert l
  pointwise [k0_pay3]
  decide +kernel

/-- Lane `l` of a block, by rows; the rows past the block count as zero. -/
def lane (x : FVec Ideal S2048x256 .f32) (l : Fin 256) (i : ℕ) : EReal := if h : i < 2048 then x (ix2 ⟨i, h⟩ l) else 0

theorem lane_val (x : FVec Ideal S2048x256 .f32) (l : Fin 256) (r : Fin 2048) : lane x l r.val = x (ix2 r l) := by
  unfold lane
  rw [dif_pos r.isLt]

theorem sge_select (k : ℕ) (hk : k = 1 ∨ k = 2 ∨ k = 4 ∨ k = 8) (r : Fin 2048) (a b : EReal) :
    Scalar.select (IntOp.cmpi CmpIPredicate.sge (BitVec.ofNat 32 r.val) (BitVec.ofNat 32 k)) a b = if k ≤ r.val then a else b := by
  have h1 : ∀ r : Fin 2048, IntOp.cmpi CmpIPredicate.sge (BitVec.ofNat 32 r.val) (BitVec.ofNat 32 1) = if 1 ≤ r.val then 1#1 else 0#1 := by decide +kernel
  have h2 : ∀ r : Fin 2048, IntOp.cmpi CmpIPredicate.sge (BitVec.ofNat 32 r.val) (BitVec.ofNat 32 2) = if 2 ≤ r.val then 1#1 else 0#1 := by decide +kernel
  have h4 : ∀ r : Fin 2048, IntOp.cmpi CmpIPredicate.sge (BitVec.ofNat 32 r.val) (BitVec.ofNat 32 4) = if 4 ≤ r.val then 1#1 else 0#1 := by decide +kernel
  have h8 : ∀ r : Fin 2048, IntOp.cmpi CmpIPredicate.sge (BitVec.ofNat 32 r.val) (BitVec.ofNat 32 8) = if 8 ≤ r.val then 1#1 else 0#1 := by decide +kernel
  rcases hk with rfl | rfl | rfl | rfl
  · rw [h1]; split_ifs <;> rfl
  · rw [h2]; split_ifs <;> rfl
  · rw [h4]; split_ifs <;> rfl
  · rw [h8]; split_ifs <;> rfl

theorem eq_select (k : Fin 4) (l : Fin 256) (a b : EReal) :
    Scalar.select (IntOp.cmpi CmpIPredicate.eq (BitVec.ofNat 32 (l.val / 64)) (BitVec.ofNat 32 k.val)) a b = if l.val / 64 = k.val then a else b := by
  have h : ∀ k : Fin 4, ∀ l : Fin 256, IntOp.cmpi CmpIPredicate.eq (BitVec.ofNat 32 (l.val / 64)) (BitVec.ofNat 32 k.val)
      = if l.val / 64 = k.val then 1#1 else 0#1 := by decide +kernel
  rw [h]; split_ifs <;> rfl

theorem count (r : Fin 2048) :
    (FloatOps.sitofp FTy.f32 (IntOp.addi (BitVec.ofNat 32 r.val) 1#32) : Ideal .f32) = (((r.val : ℝ) + 1 : ℝ) : EReal) := by
  have h : ∀ r : Fin 2048, (IntOp.addi (BitVec.ofNat 32 r.val) 1#32).toInt = (r.val : ℤ) + 1 := by decide +kernel
  show (((IntOp.addi (BitVec.ofNat 32 r.val) 1#32).toInt : ℝ) : EReal) = _
  rw [h]
  norm_cast

theorem double_row (w : ℕ) (hw : w < 2048) (u : ℕ → EReal) (f : Fin 2048 → EReal) (hf : ∀ r, f r = win w u r.val) (r : Fin 2048) (s : Fin 2048)
    (hs : s.val = (r.val + 2048 - w) % 2048) : f r + (if w ≤ r.val then f s else 0) = win (w + w) u r.val := by
  rw [← win_double, hf, hf]
  congr 1
  split_ifs with h
  · rw [hs, show (r.val + 2048 - w) % 2048 = r.val - w by omega]
  · rfl

abbrev rows : IVec S2048x1 32 := iota .tc S2048x1 32 [0] iota_S2048x1_d0_w32

theorem pay5 (x : FVec Ideal S2048x256 .f32) (r : Fin 2048) (l : Fin 256) : k0_pay5 (F := Ideal) x (ix2 r l) = win 2 (lane x l) r.val := by
  pointwise [k0_pay5, k0_pay2]
  rw [sge_select 1 (by simp)]
  exact double_row 1 (by norm_num) (lane x l) (fun r => x (ix2 r l)) (fun r => by rw [win_one, lane_val]) r _ rfl

theorem pay7 (x v : FVec Ideal S2048x256 .f32) (l : Fin 256) (hv : ∀ r : Fin 2048, v (ix2 r l) = win 2 (lane x l) r.val) (r : Fin 2048) :
    k0_pay7 (F := Ideal) rows v (ix2 r l) = win 4 (lane x l) r.val := by
  pointwise [k0_pay7, rows]
  rw [sge_select 2 (by simp)]
  exact double_row 2 (by norm_num) (lane x l) (fun r => v (ix2 r l)) hv r _ rfl

theorem pay8 (x v : FVec Ideal S2048x256 .f32) (l : Fin 256) (hv : ∀ r : Fin 2048, v (ix2 r l) = win 2 (lane x l) r.val) (r : Fin 2048) :
    k0_pay8 (F := Ideal) rows v (ix2 r l) = win 8 (lane x l) r.val := by
  have h := pay7 x v l hv
  unfold k0_pay8
  generalize k0_pay7 (F := Ideal) rows v = v' at h ⊢
  pointwise [rows]
  rw [sge_select 4 (by simp)]
  exact double_row 4 (by norm_num) (lane x l) (fun r => v' (ix2 r l)) h r _ rfl

theorem pay11 (x v : FVec Ideal S2048x256 .f32) (l : Fin 256) (hv : ∀ r : Fin 2048, v (ix2 r l) = win 2 (lane x l) r.val) (r : Fin 2048) :
    k0_pay8 (F := Ideal) rows v (ix2 r l) + Scalar.select (k0_pay12 rows (ix2 r l)) (k0_pay11 (F := Ideal) rows v (ix2 r l)) (k0_pay13 (F := Ideal) (ix2 r l))
      = win 16 (lane x l) r.val := by
  have h := pay8 x v l hv
  unfold k0_pay11
  generalize k0_pay8 (F := Ideal) rows v = v' at h ⊢
  pointwise [k0_pay12, k0_pay13, rows]
  rw [sge_select 8 (by simp)]
  exact double_row 8 (by norm_num) (lane x l) (fun r => v' (ix2 r l)) h r _ rfl

/-- The sum the body keeps of a lane: its group's window. -/
theorem pay9 (x : FVec Ideal S2048x256 .f32) (r : Fin 2048) (l : Fin 256) (hg : l.val / 64 ≠ 3)
    (h5 : ∀ r : Fin 2048, k0_pay5 (F := Ideal) x (ix2 r l) = win 2 (lane x l) r.val) :
    k0_pay9 (F := Ideal) rows k0_pay3 (k0_pay5 (F := Ideal) x) (k0_pay6 (F := Ideal) x) (ix2 r l) = win (2 ^ (l.val / 64 + 1)) (lane x l) r.val := by
  have h7 := pay7 x (k0_pay5 (F := Ideal) x) l h5 r
  have h8 := pay8 x (k0_pay5 (F := Ideal) x) l h5 r
  have h5 := h5 r
  have h3 := pay3 l
  have e0 := fun a b => eq_select 0 l a b
  have e1 := fun a b => eq_select 1 l a b
  have e2 := fun a b => eq_select 2 l a b
  unfold k0_pay9 k0_pay6
  generalize k0_pay8 (F := Ideal) rows (k0_pay5 (F := Ideal) x) = A at h8 ⊢
  generalize k0_pay7 (F := Ideal) rows (k0_pay5 (F := Ideal) x) = B at h7 ⊢
  generalize k0_pay5 (F := Ideal) x = C at h5 ⊢
  generalize k0_pay3 = D at h3 ⊢
  pointwise []
  rw [h3]
  refine (e2 _ _).trans ?_
  split_ifs with g2
  · rw [h8, g2]; rfl
  refine (e1 _ _).trans ?_
  split_ifs with g1
  · rw [h7, g1]; rfl
  refine (e0 _ _).trans ?_
  split_ifs with g0
  · rw [h5, g0]; rfl
  have hl := l.isLt
  have q0 : ¬ l.val / 64 = 0 := g0
  have q1 : ¬ l.val / 64 = 1 := g1
  have q2 : ¬ l.val / 64 = 2 := g2
  omega

/-- The number of rows of a lane's window, as the body selects it. -/
theorem pay10 (l : Fin 256) :
    Scalar.select (IntOp.cmpi CmpIPredicate.eq (k0_pay3 (ix2 0 l)) 3#32) (Ideal.ofBits FTy.f32 0x41800000#32)
      (k0_pay10 (F := Ideal) k0_pay3 (k0_pay4 (F := Ideal)) 0#32 (ix2 0 l)) = cap (l.val / 64) := by
  have h3 := pay3 l
  have e0 := fun a b => eq_select 0 l a b
  have e1 := fun a b => eq_select 1 l a b
  have e2 := fun a b => eq_select 2 l a b
  have e3 := fun a b => eq_select 3 l a b
  generalize k0_pay3 = D at h3 ⊢
  pointwise [k0_pay10, k0_pay4]
  rw [h3]
  refine (e3 _ _).trans ?_
  split_ifs with g3
  · have q : l.val / 64 = 3 := g3
    rw [q]; rfl
  refine (e2 _ _).trans ?_
  split_ifs with g2
  · have q : l.val / 64 = 2 := g2
    rw [q]; rfl
  refine (e1 _ _).trans ?_
  split_ifs with g1
  · have q : l.val / 64 = 1 := g1
    rw [q]; rfl
  refine (e0 _ _).trans ?_
  split_ifs with g0
  · have q : l.val / 64 = 0 := g0
    rw [q]; rfl
  have hl := l.isLt
  have q0 : ¬ l.val / 64 = 0 := g0
  have q1 : ¬ l.val / 64 = 1 := g1
  have q2 : ¬ l.val / 64 = 2 := g2
  have q3 : ¬ l.val / 64 = 3 := g3
  omega

theorem pay1 (v1 : FVec Ideal S2048x256 .f32) (v27 : IVec S1x256 32) (v71 v76 : FVec Ideal S2048x256 .f32) (v80 : FVec Ideal S1x256 .f32)
    (v83 : FVec Ideal S2048x256 .f32) (v85 : IVec S2048x256 1) (v86 : FVec Ideal S2048x256 .f32) (v107 : Vec Ideal S256x256 .bf16) (r : Fin 2048) (l : Fin 256) :
    k0_pay1 (F := Ideal) v1 rows v27 v71 v76 v80 v83 v85 v86 v107 (ix2 r l) = ∑ k : Fin 256,
      (Ideal.div (Scalar.select (IntOp.cmpi CmpIPredicate.eq (v27 (ix2 0 k)) 3#32)
              (v71 (ix2 r k) + Scalar.select (v85 (ix2 r k)) (v83 (ix2 r k)) (v86 (ix2 r k))) (v76 (ix2 r k)))
            (min ((((r.val : ℝ) + 1 : ℝ)) : EReal)
              (Scalar.select (IntOp.cmpi CmpIPredicate.eq (v27 (ix2 0 k)) 3#32) (Ideal.ofBits FTy.f32 0x41800000#32)
                (v80 (ix2 0 k)))) - v1 (ix2 r k)) * v107 (ix2 k l) := by
  have hc := count r
  pointwise [k0_pay1, rows]
  simp only [hc]

theorem z2 : (![0, 0] : Fin 2 → Nat) = fun _ => 0 := funext fun a => by fin_cases a <;> rfl

/-- Row `r`, lane `l` of the block: the centred window means of the 256 lanes times column `l` of the weights. -/
theorem block (x0 : Vec Ideal S2048x256 .f32) (x1 : Vec Ideal S256x256 .bf16) (r : Fin 2048) (l : Fin 256) :
    out0_2 (F := Ideal) x0 x1 (ix2 r l) = ∑ k : Fin 256, mean (k.val / 64) (lane x0 k) r.val * x1 (ix2 k l) := by
  have h5 := fun k (r : Fin 2048) => pay5 x0 r k
  unfold_out out0_2
  rw [View.canon_unit_zero z2, View.ld_unit_zero z2, View.ld_unit_zero z2]
  refine (pay1 _ _ _ _ _ _ _ _ _ r l).trans (Finset.sum_congr rfl fun k _ => congrArg (· * x1 (ix2 k l)) ?_)
  rw [pay10 k]
  unfold mean
  congr 2
  · have h11 := pay11 x0 (k0_pay5 (F := Ideal) x0) k (h5 k) r
    have h3 := pay3 k
    refine ((congrArg (fun t => Scalar.select (IntOp.cmpi CmpIPredicate.eq t 3#32) _ _) h3).trans (eq_select 3 k _ _)).trans ?_
    split_ifs with g
    · have q : k.val / 64 = 3 := g
      rw [q]; exact h11
    · exact pay9 x0 r k g (h5 k)
  · rw [lane_val]
    pointwise [k0_pay2]

end Cert.Proof.Pool

end
-- ==== Proof.PoolHost.lean ====
/- The arrays the pooling call is launched with, read at an index: the rows of the argument and the block-diagonal weights. -/
module

public import Idealize.ShloMosaic.Lib.StableHlo.RunRead
public import proofs.«01_k».proof.Proof.Scatter
public import proofs.«01_k».proof.Proof.PoolBody

@[expose] public section

noncomputable section

namespace Cert.Proof.Pool

open Idealize.ShloMosaic Idealize.ShloMosaic.TcCoe Idealize.SL.Sem
open Cert.PoolIdeal Cert.PoolIdeal.Gen Cert.PoolIdeal.Value

variable (m : (ℓ : Loc nD τ sig) → Buf (Elt Ideal) ℓ) (c : Dev nD)

theorem V_v0 (t : Fin 65536) (l : Fin 256) : @Eq EReal (V m c main_v0 (ix2 t l))
    (m ((c : Thread nD τ).loc main_arg0) (ix3 ⟨t.val / 2048, by omega⟩ ⟨t.val % 2048, by omega⟩ l)) := by
  unfold V
  after_reads_simp
  pointwise []

theorem V_v6 (a : Fin 2) : (V m c main_v6 (ix1 a) : BitVec 32) = 0#32 := by
  unfold V
  after_reads_simp
  pointwise []
  try after_reads_simp
  pointwise []
  try (split_ifs <;> (try after_reads_simp) <;> pointwise [])

theorem V_v3 (k l : Fin 64) : @Eq EReal (V m c main_v3 (ix2 k l)) (m ((c : Thread nD τ).loc main_arg1) (ix3 0 k l)) := by
  unfold V
  after_reads_simp
  pointwise []

theorem V_v7 : V m c main_v7 = Host.scatter scatter_S256x256_S2_S64x64_01_n_01_0 (fun _ b => b) (V m c main_v1) (V m c main_v6) (V m c main_v3) := by
  unfold V
  after_reads_simp
  rfl

theorem V_v12 (a : Fin 2) : (V m c main_v12 (ix1 a) : BitVec 32) = 64#32 := by
  unfold V
  after_reads_simp
  pointwise []
  try after_reads_simp
  pointwise []
  try (split_ifs <;> (try after_reads_simp) <;> pointwise [])

theorem V_v9 (k l : Fin 64) : @Eq EReal (V m c main_v9 (ix2 k l)) (m ((c : Thread nD τ).loc main_arg1) (ix3 1 k l)) := by
  unfold V
  after_reads_simp
  pointwise []

theorem V_v13 : V m c main_v13 = Host.scatter scatter_S256x256_S2_S64x64_01_n_01_0 (fun _ b => b) (V m c main_v7) (V m c main_v12) (V m c main_v9) := by
  unfold V
  after_reads_simp
  rfl

theorem V_v18 (a : Fin 2) : (V m c main_v18 (ix1 a) : BitVec 32) = 128#32 := by
  unfold V
  after_reads_simp
  pointwise []
  try after_reads_simp
  pointwise []
  try (split_ifs <;> (try after_reads_simp) <;> pointwise [])

theorem V_v15 (k l : Fin 64) : @Eq EReal (V m c main_v15 (ix2 k l)) (m ((c : Thread nD τ).loc main_arg1) (ix3 2 k l)) := by
  unfold V
  after_reads_simp
  pointwise []

theorem V_v19 : V m c main_v19 = Host.scatter scatter_S256x256_S2_S64x64_01_n_01_0 (fun _ b => b) (V m c main_v13) (V m c main_v18) (V m c main_v15) := by
  unfold V
  after_reads_simp
  rfl

theorem V_v24 (a : Fin 2) : (V m c main_v24 (ix1 a) : BitVec 32) = 192#32 := by
  unfold V
  after_reads_simp
  pointwise []
  try after_reads_simp
  pointwise []
  try (split_ifs <;> (try after_reads_simp) <;> pointwise [])

theorem V_v21 (k l : Fin 64) : @Eq EReal (V m c main_v21 (ix2 k l)) (m ((c : Thread nD τ).loc main_arg1) (ix3 3 k l)) := by
  unfold V
  after_reads_simp
  pointwise []

theorem V_v25 : V m c main_v25 = Host.scatter scatter_S256x256_S2_S64x64_01_n_01_0 (fun _ b => b) (V m c main_v19) (V m c main_v24) (V m c main_v21) := by
  unfold V
  after_reads_simp
  rfl

theorem V_v1 (k l : Fin 256) : @Eq EReal (V m c main_v1 (ix2 k l)) 0 := by
  unfold V
  after_reads_simp
  pointwise []

theorem V_v26_eq (k l : Fin 256) : @Eq EReal (V m c main_v26 (ix2 k l)) (V m c main_v25 (ix2 k l)) := by
  unfold V
  after_reads_simp
  pointwise []

theorem same {k l : Fin 256} (a : Vec Ideal S4x64x64 .f32) (g : Fin 4) (x y : Fin 64) (hk : k.val = 64 * g.val + x.val) (hl : l.val = 64 * g.val + y.val) :
    (a (ix3 g x y) : EReal)
      = if k.val / 64 = l.val / 64 then a (ix3 ⟨k.val / 64, by omega⟩ ⟨k.val % 64, by omega⟩ ⟨l.val % 64, by omega⟩) else 0 := by
  rw [if_pos (by omega)]
  refine congrArg a ?_
  obtain ⟨g, hg⟩ := g
  obtain ⟨x, hx⟩ := x
  obtain ⟨y, hy⟩ := y
  simp only at hk hl
  obtain rfl : g = k.val / 64 := by omega
  obtain rfl : x = k.val % 64 := by omega
  obtain rfl : y = l.val % 64 := by omega
  rfl

/-- The weights the call is launched with: each group's square on the diagonal, zero elsewhere. -/
theorem V_v26 (k l : Fin 256) : @Eq EReal (V m c main_v26 (ix2 k l))
    (if k.val / 64 = l.val / 64 then m ((c : Thread nD τ).loc main_arg1) (ix3 ⟨k.val / 64, by omega⟩ ⟨k.val % 64, by omega⟩ ⟨l.val % 64, by omega⟩) else 0) := by
  refine (V_v26_eq m c k l).trans ?_
  refine (congrFun (V_v25 m c) (ix2 k l)).trans ((scatter_rect _ rfl rfl rfl rfl _ _ _ 192 192 (by rw [V_v24]; rfl) (by rw [V_v24]; rfl) k l).trans ?_)
  by_cases h3 : (192 ≤ k.val ∧ k.val - 192 < 64) ∧ (192 ≤ l.val ∧ l.val - 192 < 64)
  · refine (dif_pos h3).trans ?_
    exact (V_v21 m c _ _).trans (same _ 3 _ _ (by show _ = 64 * 3 + (_ - 192); omega) (by show _ = 64 * 3 + (_ - 192); omega))
  refine (dif_neg h3).trans ?_
  refine (congrFun (V_v19 m c) (ix2 k l)).trans ((scatter_rect _ rfl rfl rfl rfl _ _ _ 128 128 (by rw [V_v18]; rfl) (by rw [V_v18]; rfl) k l).trans ?_)
  by_cases h2 : (128 ≤ k.val ∧ k.val - 128 < 64) ∧ (128 ≤ l.val ∧ l.val - 128 < 64)
  · refine (dif_pos h2).trans ?_
    exact (V_v15 m c _ _).trans (same _ 2 _ _ (by show _ = 64 * 2 + (_ - 128); omega) (by show _ = 64 * 2 + (_ - 128); omega))
  refine (dif_neg h2).trans ?_
  refine (congrFun (V_v13 m c) (ix2 k l)).trans ((scatter_rect _ rfl rfl rfl rfl _ _ _ 64 64 (by rw [V_v12]; rfl) (by rw [V_v12]; rfl) k l).trans ?_)
  by_cases h1 : (64 ≤ k.val ∧ k.val - 64 < 64) ∧ (64 ≤ l.val ∧ l.val - 64 < 64)
  · refine (dif_pos h1).trans ?_
    exact (V_v9 m c _ _).trans (same _ 1 _ _ (by show _ = 64 * 1 + (_ - 64); omega) (by show _ = 64 * 1 + (_ - 64); omega))
  refine (dif_neg h1).trans ?_
  refine (congrFun (V_v7 m c) (ix2 k l)).trans ((scatter_rect _ rfl rfl rfl rfl _ _ _ 0 0 (by rw [V_v6]; rfl) (by rw [V_v6]; rfl) k l).trans ?_)
  by_cases h0 : (0 ≤ k.val ∧ k.val - 0 < 64) ∧ (0 ≤ l.val ∧ l.val - 0 < 64)
  · refine (dif_pos h0).trans ?_
    exact (V_v3 m c _ _).trans (same _ 0 _ _ (by show _ = 64 * 0 + (_ - 0); omega) (by show _ = 64 * 0 + (_ - 0); omega))
  refine (dif_neg h0).trans ?_
  refine (V_v1 m c k l).trans (if_neg fun e => ?_).symm
  omega

end Cert.Proof.Pool

end
-- ==== Proof.PoolSum.lean ====
/- A running sum along the second axis, and rows shifted down with zeros above, as the reference states them. -/
module

public import proofs.«01_k».proof.Proof.PoolRow
public import Idealize.ShloMosaic.Lib.KernelVsHost

@[expose] public section

noncomputable section

namespace Cert.Proof.Pool

open Idealize.ShloMosaic
open scoped BigOperators

theorem foldl_add {ι : Type} (f : ι → EReal) : ∀ (l : List ι) (v : EReal), l.foldl (fun r n => r + f n) v = v + (l.map f).sum
  | [], v => by simp
  | n :: l, v => by
    rw [List.foldl_cons, foldl_add f l, List.map_cons, List.sum_cons, add_assoc]

/-- The positions of a window that is long along the second axis only. -/
def positions (n : ℕ) : Fin n ≃ (⟨4, ![1, n, 1, 1]⟩ : Shape).Idx where
  toFun k := ix4 (0 : Fin 1) k (0 : Fin 1) (0 : Fin 1)
  invFun i := i 1
  left_inv _ := rfl
  right_inv i := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

/-- The sum over the window of as many rows as there are that ends at row `s` is the sum of the rows up to it. -/
theorem sum_window (N P : ℕ) (hN : P + 1 = N) (f : ℕ → EReal) (s : ℕ) (hs : s < N) (F : Fin N → EReal)
    (h : ∀ k : Fin N, F k = if P ≤ s + k.val then f (s + k.val - P) else 0) : ∑ k : Fin N, F k = run f (s + 1) := by
  rw [Finset.sum_congr rfl fun k _ => h k, Fin.sum_univ_eq_sum_range (fun k => if P ≤ s + k then f (s + k - P) else 0) N,
    show N = (P - s) + (s + 1) by omega, Finset.sum_range_add, Finset.sum_eq_zero, zero_add]
  · unfold run
    refine Finset.sum_congr rfl fun j _ => ?_
    rw [if_pos (by omega), show s + (P - s + j) - P = j by omega]
  · exact fun k hk => if_neg (by have := Finset.mem_range.1 hk; omega)

/-- The running sum, as a sum over a window of all the rows padded above. -/
theorem running {A N P C D : ℕ} (hN : P + 1 = N) (x : (⟨4, ![A, N, C, D]⟩ : Shape).Idx → EReal) (init : (⟨0, ![]⟩ : Shape).Idx → EReal)
    (h0 : init ValueIdx.ix0 = 0)
    (h : (⟨4, ![A, N, C, D]⟩ : Shape).ReduceWindows ![1, N, 1, 1] ![1, 1, 1, 1] ![0, P, 0, 0] ![0, 0, 0, 0] ⟨4, ![A, N, C, D]⟩)
    (hu : 0 < (⟨0, ![]⟩ : Shape).numel) (b : Fin A) (s : Fin N) (g : Fin C) (d : Fin D) :
    Host.reduceWindowAdd (F := Ideal) (φ := .f32) ![1, N, 1, 1] ![1, 1, 1, 1] ![0, P, 0, 0] ![0, 0, 0, 0] x init h hu (ix4 b s g d)
      = run (fun i => if hi : i < N then x (ix4 b ⟨i, hi⟩ g d) else 0) (s.val + 1) := by
  have hz : init (Shape.Idx.first hu) = 0 := (congrArg init (funext fun a => a.elim0)).trans h0
  unfold Host.reduceWindowAdd
  rw [hz, Ideal.hostReduceWindowAdd_def]
  unfold Ideal.hostReduceWindowAdd Host.reduceWindow
  refine (foldl_add _ _ _).trans ?_
  rw [zero_add, ← Fin.sum_univ_def, ← Equiv.sum_comp ((positions N).trans (Shape.rowMajor ⟨4, ![1, N, 1, 1]⟩))]
  refine sum_window N P hN _ s.val s.isLt _ fun k => ?_
  simp only [Equiv.trans_apply, Equiv.symm_apply_apply]
  by_cases hk : P ≤ s.val + k.val
  · rw [if_pos hk, dif_pos (?_ : ∀ _, _), dif_pos (show s.val + k.val - P < N by omega)]
    · refine congrArg x (funext fun a => Fin.ext ?_)
      match a with
      | ⟨0, _⟩ => show b.val * 1 + 0 - 0 = b.val; omega
      | ⟨1, _⟩ => show s.val * 1 + k.val - P = s.val + k.val - P; omega
      | ⟨2, _⟩ => show g.val * 1 + 0 - 0 = g.val; omega
      | ⟨3, _⟩ => show d.val * 1 + 0 - 0 = d.val; omega
    · intro a
      match a with
      | ⟨0, _⟩ => exact ⟨Nat.zero_le _, by show b.val * 1 + 0 - 0 < A; omega⟩
      | ⟨1, _⟩ => exact ⟨by show P ≤ s.val * 1 + k.val; omega, by show s.val * 1 + k.val - P < N; omega⟩
      | ⟨2, _⟩ => exact ⟨Nat.zero_le _, by show g.val * 1 + 0 - 0 < C; omega⟩
      | ⟨3, _⟩ => exact ⟨Nat.zero_le _, by show d.val * 1 + 0 - 0 < D; omega⟩
  · rw [if_neg hk, dif_neg]
    intro H
    have h1 : P ≤ s.val * 1 + k.val := (H (1 : Fin 4)).1
    omega

/-- Rows moved down by `w`, the first `w` rows the padding's value. -/
theorem shifted {A B n w D : ℕ} (x : (⟨3, ![A, n, D]⟩ : Shape).Idx → EReal) (v : (⟨0, ![]⟩ : Shape).Idx → EReal)
    (h : (⟨3, ![A, n, D]⟩ : Shape).Pads ![0, w, 0] ![0, 0, 0] ![0, 0, 0] ⟨3, ![A, B, D]⟩) (hu : 0 < (⟨0, ![]⟩ : Shape).numel)
    (hn : n + w = B) (b : Fin A) (s : Fin B) (d : Fin D) :
    pad ⟨3, ![A, B, D]⟩ ![0, w, 0] ![0, 0, 0] ![0, 0, 0] x v h hu (ix3 b s d) = if hs : w ≤ s.val then x (ix3 b ⟨s.val - w, by omega⟩ d) else v ValueIdx.ix0 := by
  split_ifs with hs
  · refine pad_apply_of_inside _ _ _ x v h hu _ _ fun a => ?_
    match a with
    | ⟨0, _⟩ => show b.val = 0 + b.val * (0 + 1); omega
    | ⟨1, _⟩ => show s.val = w + (s.val - w) * (0 + 1); omega
    | ⟨2, _⟩ => show d.val = 0 + d.val * (0 + 1); omega
  · refine (pad_apply_of_not_inside _ _ _ x v h hu _ (1 : Fin 3) fun H => ?_).trans (congrArg v (funext fun a => a.elim0))
    have h1 : w ≤ s.val := H.1
    exact hs h1

end Cert.Proof.Pool

end
-- ==== Proof.PoolRef.lean ====
/- The reference's pooling at one row and lane: running sums, their differences, the centred means and the grouped product. -/
module

public import proofs.«01_k».proof.Proof.PoolSum
public import proofs.«01_k».proof.Proof.MergeRun
public import proofs.«01_k».proof.Proof.Gen.PoolRefIdeal.Run
public import proofs.«01_k».proof.Proof.Gen.PoolRefIdeal.Read

@[expose] public section

noncomputable section

namespace Cert.Proof.Pool

open Idealize.ShloMosaic Cert.PoolRefIdeal Cert.PoolRefIdeal.Read
open scoped BigOperators

/-- Lane `l` of sequence `b`, by rows; the rows past the sequence count as zero. -/
def rowsOf (u : Vec Ideal S32x2048x256 .f32) (b : Fin 32) (l : Fin 256) (i : ℕ) : EReal := if h : i < 2048 then u (ix3 b ⟨i, h⟩ l) else 0

/-- The pooled rows, one sequence after the other. -/
def RP (u : Vec Ideal S32x2048x256 .f32) (w : Vec Ideal S4x64x64 .f32) (t : Fin 65536) (l : Fin 256) : EReal :=
  ∑ c : Fin 64, mean (l.val / 64) (rowsOf u ⟨t.val / 2048, by omega⟩ ⟨64 * (l.val / 64) + c.val, by omega⟩) (t.val % 2048)
    * w (ix3 ⟨l.val / 64, by omega⟩ c ⟨l.val % 64, by omega⟩)

variable (u : Vec Ideal S32x2048x256 .f32) (w : Vec Ideal S4x64x64 .f32)

theorem ref0 (b : Fin 32) (s : Fin 2048) (g : Fin 4) (d : Fin 64) : val_main_v0 (F := Ideal) u (ix4 b s g d) = u (ix3 b s ⟨64 * g.val + d.val, by omega⟩) := by
  pointwise [val_main_v0]
  try exact congrArg u (congrArg (ix3 b s) (Fin.ext (by simp only; omega)))

theorem ref1 (b : Fin 32) (s : Fin 2048) (g : Fin 4) (d : Fin 64) :
    val_main_v1 (F := Ideal) u (ix4 b s g d) = run (rowsOf u b ⟨64 * g.val + d.val, by omega⟩) (s.val + 1) := by
  unfold val_main_v1
  refine (running (by norm_num) _ _ ?_ _ _ b s g d).trans (congrArg (fun f => run f (s.val + 1)) (funext fun i => ?_))
  · pointwise [val_main_call0_call0_v0, val_main_call0_call0_cst]
  · unfold rowsOf
    simp only [ref0]

theorem ref0' (b : Fin 32) (s : Fin 2048) (g : Fin 4) (d : Fin 64) :
    val_main_v0 (F := Ideal) u (ix4 b s g d) = rowsOf u b ⟨64 * g.val + d.val, by omega⟩ s.val := by
  rw [ref0]
  unfold rowsOf
  rw [dif_pos s.isLt]

theorem one_add (s : Fin 2048) : 1 + (FloatOps.sitofp FTy.f32 (BitVec.ofNat 32 s.val) : Ideal .f32) = (((s.val : ℝ) + 1 : ℝ) : EReal) := by
  have h : ∀ r : Fin 2048, (BitVec.ofNat 32 r.val).toInt = (r.val : ℤ) := by decide +kernel
  show 1 + (((BitVec.ofNat 32 s.val).toInt : ℝ) : EReal) = _
  rw [h, add_comm, EReal.coe_add]
  norm_cast

theorem zero_word : (FloatOps.sitofp FTy.f32 0#32 : Ideal .f32) = 0 := by
  show (((0#32 : BitVec 32).toInt : ℝ) : EReal) = 0
  simp

theorem cum6 (b : Fin 32) (s : Fin 2048) (d : Fin 64) :
    val_main_v6 (F := Ideal) u (ix3 b s d) = run (rowsOf u b ⟨64 * 0 + d.val, by omega⟩) (s.val + 1) := by
  have h : _ = run (rowsOf u b ⟨64 * 0 + d.val, by omega⟩) (s.val + 1) := ref1 u b s 0 d
  unfold val_main_v6 val_main_v5
  generalize val_main_v1 (F := Ideal) u = M at h ⊢
  generalize rowsOf u b ⟨64 * 0 + d.val, by omega⟩ = R at h ⊢
  pointwise []
  exact h

theorem prev8 (b : Fin 32) (s : Fin 2048) (d : Fin 64) :
    val_main_v8 (F := Ideal) u (ix3 b s d) = run (rowsOf u b ⟨64 * 0 + d.val, by omega⟩) (s.val + 1 - 2) := by
  have h := fun s => cum6 u b s d
  unfold val_main_v8 val_main_v7
  refine (shifted _ _ _ _ (by norm_num) b s d).trans ?_
  generalize val_main_v6 (F := Ideal) u = M at h ⊢
  generalize rowsOf u b ⟨64 * 0 + d.val, by omega⟩ = R at h ⊢
  split_ifs with hs
  · pointwise []
    refine (h _).trans (congrArg (run _) ?_)
    simp only
    omega
  · rw [show s.val + 1 - 2 = 0 by omega]
    pointwise [val_main_call1_v0, val_main_c]
    rw [zero_word]
    simp [run]

theorem mean17 (b : Fin 32) (s : Fin 2048) (d : Fin 64) (r : ℕ → ℝ) (hr : ∀ i, rowsOf u b ⟨64 * 0 + d.val, by omega⟩ i = (r i : EReal)) :
    val_main_v17 (F := Ideal) u (ix3 b s d) = mean 0 (rowsOf u b ⟨64 * 0 + d.val, by omega⟩) s.val := by
  have h₁ := cum6 u b s d
  have h₂ := prev8 u b s d
  have h₃ : _ = rowsOf u b ⟨64 * 0 + d.val, by omega⟩ s.val := ref0' u b s 0 d
  have h₄ := one_add s
  unfold val_main_v17 val_main_v14 val_main_v9 val_main_v16 val_main_v15
  generalize val_main_v6 (F := Ideal) u = A at h₁ ⊢
  generalize val_main_v8 (F := Ideal) u = B at h₂ ⊢
  generalize val_main_v0 (F := Ideal) u = C at h₃ ⊢
  generalize rowsOf u b ⟨64 * 0 + d.val, by omega⟩ = R at h₁ h₂ h₃ hr ⊢
  pointwise [val_main_v13, val_main_v12, val_main_v11, val_main_v10, val_main_v4, val_main_v3, val_main_v2, val_main_cst, val_main_cst_0]
  unfold mean
  rw [h₁, h₂, run_sub 2 _ r hr, h₄]
  exact congrArg₂ (· - ·) rfl h₃

theorem cum19 (b : Fin 32) (s : Fin 2048) (d : Fin 64) :
    val_main_v19 (F := Ideal) u (ix3 b s d) = run (rowsOf u b ⟨64 * 1 + d.val, by omega⟩) (s.val + 1) := by
  have h : _ = run (rowsOf u b ⟨64 * 1 + d.val, by omega⟩) (s.val + 1) := ref1 u b s 1 d
  unfold val_main_v19 val_main_v18
  generalize val_main_v1 (F := Ideal) u = M at h ⊢
  generalize rowsOf u b ⟨64 * 1 + d.val, by omega⟩ = R at h ⊢
  pointwise []
  exact h

theorem prev21 (b : Fin 32) (s : Fin 2048) (d : Fin 64) :
    val_main_v21 (F := Ideal) u (ix3 b s d) = run (rowsOf u b ⟨64 * 1 + d.val, by omega⟩) (s.val + 1 - 4) := by
  have h := fun s => cum19 u b s d
  unfold val_main_v21 val_main_v20
  refine (shifted _ _ _ _ (by norm_num) b s d).trans ?_
  generalize val_main_v19 (F := Ideal) u = M at h ⊢
  generalize rowsOf u b ⟨64 * 1 + d.val, by omega⟩ = R at h ⊢
  split_ifs with hs
  · pointwise []
    refine (h _).trans (congrArg (run _) ?_)
    simp only
    omega
  · rw [show s.val + 1 - 4 = 0 by omega]
    pointwise [val_main_call2_v0, val_main_c_1]
    rw [zero_word]
    simp [run]

theorem mean30 (b : Fin 32) (s : Fin 2048) (d : Fin 64) (r : ℕ → ℝ) (hr : ∀ i, rowsOf u b ⟨64 * 1 + d.val, by omega⟩ i = (r i : EReal)) :
    val_main_v30 (F := Ideal) u (ix3 b s d) = mean 1 (rowsOf u b ⟨64 * 1 + d.val, by omega⟩) s.val := by
  have h₁ := cum19 u b s d
  have h₂ := prev21 u b s d
  have h₃ : _ = rowsOf u b ⟨64 * 1 + d.val, by omega⟩ s.val := ref0' u b s 1 d
  have h₄ := one_add s
  unfold val_main_v30 val_main_v27 val_main_v22 val_main_v29 val_main_v28
  generalize val_main_v19 (F := Ideal) u = A at h₁ ⊢
  generalize val_main_v21 (F := Ideal) u = B at h₂ ⊢
  generalize val_main_v0 (F := Ideal) u = C at h₃ ⊢
  generalize rowsOf u b ⟨64 * 1 + d.val, by omega⟩ = R at h₁ h₂ h₃ hr ⊢
  pointwise [val_main_v26, val_main_v25, val_main_v24, val_main_v23, val_main_v4, val_main_v3, val_main_v2, val_main_cst, val_main_cst_2]
  unfold mean
  rw [h₁, h₂, run_sub 4 _ r hr, h₄]
  exact congrArg₂ (· - ·) rfl h₃

theorem cum32 (b : Fin 32) (s : Fin 2048) (d : Fin 64) :
    val_main_v32 (F := Ideal) u (ix3 b s d) = run (rowsOf u b ⟨64 * 2 + d.val, by omega⟩) (s.val + 1) := by
  have h : _ = run (rowsOf u b ⟨64 * 2 + d.val, by omega⟩) (s.val + 1) := ref1 u b s 2 d
  unfold val_main_v32 val_main_v31
  generalize val_main_v1 (F := Ideal) u = M at h ⊢
  generalize rowsOf u b ⟨64 * 2 + d.val, by omega⟩ = R at h ⊢
  pointwise []
  exact h

theorem prev34 (b : Fin 32) (s : Fin 2048) (d : Fin 64) :
    val_main_v34 (F := Ideal) u (ix3 b s d) = run (rowsOf u b ⟨64 * 2 + d.val, by omega⟩) (s.val + 1 - 8) := by
  have h := fun s => cum32 u b s d
  unfold val_main_v34 val_main_v33
  refine (shifted _ _ _ _ (by norm_num) b s d).trans ?_
  generalize val_main_v32 (F := Ideal) u = M at h ⊢
  generalize rowsOf u b ⟨64 * 2 + d.val, by omega⟩ = R at h ⊢
  split_ifs with hs
  · pointwise []
    refine (h _).trans (congrArg (run _) ?_)
    simp only
    omega
  · rw [show s.val + 1 - 8 = 0 by omega]
    pointwise [val_main_call3_v0, val_main_c_3]
    rw [zero_word]
    simp [run]

theorem mean43 (b : Fin 32) (s : Fin 2048) (d : Fin 64) (r : ℕ → ℝ) (hr : ∀ i, rowsOf u b ⟨64 * 2 + d.val, by omega⟩ i = (r i : EReal)) :
    val_main_v43 (F := Ideal) u (ix3 b s d) = mean 2 (rowsOf u b ⟨64 * 2 + d.val, by omega⟩) s.val := by
  have h₁ := cum32 u b s d
  have h₂ := prev34 u b s d
  have h₃ : _ = rowsOf u b ⟨64 * 2 + d.val, by omega⟩ s.val := ref0' u b s 2 d
  have h₄ := one_add s
  unfold val_main_v43 val_main_v40 val_main_v35 val_main_v42 val_main_v41
  generalize val_main_v32 (F := Ideal) u = A at h₁ ⊢
  generalize val_main_v34 (F := Ideal) u = B at h₂ ⊢
  generalize val_main_v0 (F := Ideal) u = C at h₃ ⊢
  generalize rowsOf u b ⟨64 * 2 + d.val, by omega⟩ = R at h₁ h₂ h₃ hr ⊢
  pointwise [val_main_v39, val_main_v38, val_main_v37, val_main_v36, val_main_v4, val_main_v3, val_main_v2, val_main_cst, val_main_cst_4]
  unfold mean
  rw [h₁, h₂, run_sub 8 _ r hr, h₄]
  exact congrArg₂ (· - ·) rfl h₃

theorem cum45 (b : Fin 32) (s : Fin 2048) (d : Fin 64) :
    val_main_v45 (F := Ideal) u (ix3 b s d) = run (rowsOf u b ⟨64 * 3 + d.val, by omega⟩) (s.val + 1) := by
  have h : _ = run (rowsOf u b ⟨64 * 3 + d.val, by omega⟩) (s.val + 1) := ref1 u b s 3 d
  unfold val_main_v45 val_main_v44
  generalize val_main_v1 (F := Ideal) u = M at h ⊢
  generalize rowsOf u b ⟨64 * 3 + d.val, by omega⟩ = R at h ⊢
  pointwise []
  exact h

theorem prev47 (b : Fin 32) (s : Fin 2048) (d : Fin 64) :
    val_main_v47 (F := Ideal) u (ix3 b s d) = run (rowsOf u b ⟨64 * 3 + d.val, by omega⟩) (s.val + 1 - 16) := by
  have h := fun s => cum45 u b s d
  unfold val_main_v47 val_main_v46
  refine (shifted _ _ _ _ (by norm_num) b s d).trans ?_
  generalize val_main_v45 (F := Ideal) u = M at h ⊢
  generalize rowsOf u b ⟨64 * 3 + d.val, by omega⟩ = R at h ⊢
  split_ifs with hs
  · pointwise []
    refine (h _).trans (congrArg (run _) ?_)
    simp only
    omega
  · rw [show s.val + 1 - 16 = 0 by omega]
    pointwise [val_main_call4_v0, val_main_c_5]
    rw [zero_word]
    simp [run]

theorem mean56 (b : Fin 32) (s : Fin 2048) (d : Fin 64) (r : ℕ → ℝ) (hr : ∀ i, rowsOf u b ⟨64 * 3 + d.val, by omega⟩ i = (r i : EReal)) :
    val_main_v56 (F := Ideal) u (ix3 b s d) = mean 3 (rowsOf u b ⟨64 * 3 + d.val, by omega⟩) s.val := by
  have h₁ := cum45 u b s d
  have h₂ := prev47 u b s d
  have h₃ : _ = rowsOf u b ⟨64 * 3 + d.val, by omega⟩ s.val := ref0' u b s 3 d
  have h₄ := one_add s
  unfold val_main_v56 val_main_v53 val_main_v48 val_main_v55 val_main_v54
  generalize val_main_v45 (F := Ideal) u = A at h₁ ⊢
  generalize val_main_v47 (F := Ideal) u = B at h₂ ⊢
  generalize val_main_v0 (F := Ideal) u = C at h₃ ⊢
  generalize rowsOf u b ⟨64 * 3 + d.val, by omega⟩ = R at h₁ h₂ h₃ hr ⊢
  pointwise [val_main_v52, val_main_v51, val_main_v50, val_main_v49, val_main_v4, val_main_v3, val_main_v2, val_main_cst, val_main_cst_6]
  unfold mean
  rw [h₁, h₂, run_sub 16 _ r hr, h₄]
  exact congrArg₂ (· - ·) rfl h₃

theorem stack (b : Fin 32) (s : Fin 2048) (g : Fin 4) (d : Fin 64) (hr : ∀ l : Fin 256, ∃ r : ℕ → ℝ, ∀ i, rowsOf u b l i = (r i : EReal)) :
    val_main_v61 (F := Ideal) u (ix4 b s g d) = mean g.val (rowsOf u b ⟨64 * g.val + d.val, by omega⟩) s.val := by
  obtain ⟨r0, h0⟩ := hr ⟨64 * 0 + d.val, by omega⟩
  obtain ⟨r1, h1⟩ := hr ⟨64 * 1 + d.val, by omega⟩
  obtain ⟨r2, h2⟩ := hr ⟨64 * 2 + d.val, by omega⟩
  obtain ⟨r3, h3⟩ := hr ⟨64 * 3 + d.val, by omega⟩
  have m0 := mean17 u b s d r0 h0
  have m1 := mean30 u b s d r1 h1
  have m2 := mean43 u b s d r2 h2
  have m3 := mean56 u b s d r3 h3
  unfold val_main_v61 val_main_v57 val_main_v58 val_main_v59 val_main_v60
  generalize val_main_v17 (F := Ideal) u = A at m0 ⊢
  generalize val_main_v30 (F := Ideal) u = B at m1 ⊢
  generalize val_main_v43 (F := Ideal) u = C at m2 ⊢
  generalize val_main_v56 (F := Ideal) u = D at m3 ⊢
  fin_cases g
  · show _ = mean 0 (rowsOf u b ⟨64 * 0 + d.val, by omega⟩) s.val
    generalize rowsOf u b ⟨64 * 0 + d.val, by omega⟩ = R at m0 ⊢
    pointwise []
    exact m0
  · show _ = mean 1 (rowsOf u b ⟨64 * 1 + d.val, by omega⟩) s.val
    generalize rowsOf u b ⟨64 * 1 + d.val, by omega⟩ = R at m1 ⊢
    pointwise []
    exact m1
  · show _ = mean 2 (rowsOf u b ⟨64 * 2 + d.val, by omega⟩) s.val
    generalize rowsOf u b ⟨64 * 2 + d.val, by omega⟩ = R at m2 ⊢
    pointwise []
    exact m2
  · show _ = mean 3 (rowsOf u b ⟨64 * 3 + d.val, by omega⟩) s.val
    generalize rowsOf u b ⟨64 * 3 + d.val, by omega⟩ = R at m3 ⊢
    pointwise []
    exact m3

/-- The reference's result. -/
theorem refP (hr : ∀ (b : Fin 32) (l : Fin 256), ∃ r : ℕ → ℝ, ∀ i, rowsOf u b l i = (r i : EReal)) (t : Fin 65536) (l : Fin 256) :
    val_main_v64 (F := Ideal) u w (ix2 t l) = RP u w t l := by
  have h := fun b s g d => stack u b s g d (hr b)
  unfold val_main_v64 val_main_v63 val_main_v62
  generalize val_main_v61 (F := Ideal) u = M at h ⊢
  pointwise [RP]
  refine Finset.sum_congr rfl fun c _ => ?_
  exact (congrArg (w _ * ·) (h _ _ _ _)).trans (mul_comm _ _)

end Cert.Proof.Pool

end
-- ==== Proof.PoolRun.lean ====
/- The pooling call's result array as one function of its arguments: every sequence's pooled rows. -/
module

public import proofs.«01_k».proof.Proof.PoolHost
public import proofs.«01_k».proof.Proof.PoolRef

@[expose] public section

noncomputable section

namespace Cert.Proof.Pool

open Idealize.ShloMosaic Idealize.ShloMosaic.TcCoe Idealize.SL.Sem
open Cert.PoolIdeal Cert.PoolIdeal.Gen Cert.PoolIdeal.Value
open Idealize.ShloMosaic.Pipeline (Dat)
open scoped BigOperators

variable (m : (ℓ : Loc nD τ sig) → Buf (Elt Ideal) ℓ) (c : Dev nD)

/-- Row `r` of sequence `t` among all the rows. -/
abbrev rowOf (t : Fin cfg0.N) (r : Fin 2048) : Fin 65536 := ⟨t.val * 2048 + r.val, by have : t.val < 32 := t.isLt; omega⟩

theorem idx_row : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem blk0 (t : Fin cfg0.N) (r : Fin 2048) (k : Fin 256) :
    @Eq EReal (iblk m c 0 t (ix2 r k)) (m ((c : Thread nD τ).loc main_arg0) (ix3 ⟨t.val, t.isLt⟩ r k)) := by
  have e := (idx_row t).1
  have hp : ((cfg0.win 0).blk t).view.emb (ix2 r k) = ix2 (rowOf t r) k := by
    funext a; apply Fin.ext
    match a with
    | ⟨0, _⟩ => show win0_0.index t (0 : Fin 2) * 2048 + 1 * r.val = t.val * 2048 + r.val; omega
    | ⟨1, _⟩ => show win0_0.index t (1 : Fin 2) * 256 + 1 * k.val = k.val; omega
  show @Eq EReal (V m c main_v0 (((cfg0.win 0).blk t).view.emb (ix2 r k))) _
  rw [hp]
  refine (V_v0 m c (rowOf t r) k).trans ?_
  have h1 : (⟨(rowOf t r).val / 2048, by omega⟩ : Fin 32) = ⟨t.val, t.isLt⟩ :=
    Fin.ext (by show (t.val * 2048 + r.val) / 2048 = t.val; omega)
  have h2 : (⟨(rowOf t r).val % 2048, by omega⟩ : Fin 2048) = r :=
    Fin.ext (by show (t.val * 2048 + r.val) % 2048 = r.val; omega)
  exact (congrArg (fun a => m ((c : Thread nD τ).loc main_arg0) (ix3 a _ k)) h1).trans
    (congrArg (fun b => m ((c : Thread nD τ).loc main_arg0) (ix3 _ b k)) h2)

theorem blk1 (t : Fin cfg0.N) (k l : Fin 256) :
    @Eq EReal (iblk m c 1 t (ix2 k l)) (V m c main_v26 (ix2 k l)) := by
  have e := (idx_row t).2.1
  have hp : ((cfg0.win 1).blk t).view.emb (ix2 k l) = ix2 k l := by
    funext a; apply Fin.ext
    match a with
    | ⟨0, _⟩ => show win0_1.index t (0 : Fin 2) * 256 + 1 * k.val = k.val; omega
    | ⟨1, _⟩ => show win0_1.index t (1 : Fin 2) * 256 + 1 * l.val = l.val; omega
  show @Eq EReal (V m c main_v26 (((cfg0.win 1).blk t).view.emb (ix2 k l))) _
  rw [hp]

theorem lanes (t : Fin cfg0.N) (k : Fin 256) :
    lane (iblk m c 0 t) k = rowsOf (m ((c : Thread nD τ).loc main_arg0)) ⟨t.val, t.isLt⟩ k := by
  funext i
  unfold lane rowsOf
  by_cases h : i < 2048
  · rw [dif_pos h, dif_pos h]; exact blk0 m c t ⟨i, h⟩ k
  · rw [dif_neg h, dif_neg h]

/-- The pooled rows of the arguments. -/
def G : S65536x256.Idx → EReal := fun j =>
  RP (m ((c : Thread nD τ).loc main_arg0)) (m ((c : Thread nD τ).loc main_arg1)) (j 0) (j 1)

theorem times_zero (a b : EReal) (h : b = 0) : a * b = 0 := by rw [h, mul_zero]

theorem RP_at (u : Vec Ideal S32x2048x256 .f32) (w : Vec Ideal S4x64x64 .f32) (T : Fin 65536) (l : Fin 256) (s : Fin 32) (i : ℕ)
    (hs : T.val / 2048 = s.val) (hi : T.val % 2048 = i) :
    RP u w T l = ∑ d : Fin 64, mean (l.val / 64) (rowsOf u s ⟨64 * (l.val / 64) + d.val, by omega⟩) i
      * w (ix3 ⟨l.val / 64, by omega⟩ d ⟨l.val % 64, by omega⟩) := by
  subst hi
  obtain ⟨s, h⟩ := s
  obtain rfl : T.val / 2048 = s := hs
  rfl

/-- The block-diagonal product keeps the 64 lanes of the group. -/
theorem grouped (t : Fin cfg0.N) (r : Fin 2048) (l : Fin 256) :
    (∑ k : Fin 256, mean (k.val / 64) (lane (iblk m c 0 t) k) r.val * iblk m c 1 t (ix2 k l) : EReal)
      = RP (m ((c : Thread nD τ).loc main_arg0)) (m ((c : Thread nD τ).loc main_arg1)) (rowOf t r) l := by
  have hw : ∀ k : Fin 256, @Eq EReal (iblk m c 1 t (ix2 k l))
      (if k.val / 64 = l.val / 64 then m ((c : Thread nD τ).loc main_arg1) (ix3 ⟨k.val / 64, by omega⟩ ⟨k.val % 64, by omega⟩ ⟨l.val % 64, by omega⟩) else 0) :=
    fun k => (blk1 m c t k l).trans (V_v26 m c k l)
  have ht : (rowOf t r).val / 2048 = t.val := by show (t.val * 2048 + r.val) / 2048 = t.val; omega
  have hm : (rowOf t r).val % 2048 = r.val := by show (t.val * 2048 + r.val) % 2048 = r.val; omega
  refine Eq.trans ?_ (RP_at (m ((c : Thread nD τ).loc main_arg0)) (m ((c : Thread nD τ).loc main_arg1)) (rowOf t r) l ⟨t.val, t.isLt⟩ r.val ht hm).symm
  refine (sum_group ⟨l.val / 64, by omega⟩ _ fun k hk => ?_).trans (Finset.sum_congr rfl fun d _ => ?_)
  · exact times_zero _ _ ((hw k).trans (if_neg hk))
  · have hd : (64 * (l.val / 64) + d.val) / 64 = l.val / 64 := by omega
    have hd' : (64 * (l.val / 64) + d.val) % 64 = d.val := by omega
    refine congrArg₂ (· * ·) ?_ ?_
    · refine (congrArg (fun f => mean _ f r.val) (lanes m c t _)).trans ?_
      exact congrArg (fun g => mean g _ r.val) hd
    · refine (hw _).trans ((if_pos hd).trans ?_)
      have a1 : (⟨(64 * (l.val / 64) + d.val) / 64, by omega⟩ : Fin 4) = ⟨l.val / 64, by omega⟩ := Fin.ext hd
      have a2 : (⟨(64 * (l.val / 64) + d.val) % 64, by omega⟩ : Fin 64) = d := Fin.ext hd'
      exact (congrArg (fun a => m ((c : Thread nD τ).loc main_arg1) (ix3 a _ _)) a1).trans
        (congrArg (fun b => m ((c : Thread nD τ).loc main_arg1) (ix3 _ b _)) a2)

theorem emb2 (t : Fin cfg0.N) (r : Fin 2048) (l : Fin 256) :
    ((cfg0.win 2).blk t).view.emb (ix2 r l) = ix2 (rowOf t r) l := by
  have e := (idx_row t).2.2
  funext a; apply Fin.ext
  match a with
  | ⟨0, _⟩ => show win0_2.index t (0 : Fin 2) * 2048 + 1 * r.val = t.val * 2048 + r.val; omega
  | ⟨1, _⟩ => show win0_2.index t (1 : Fin 2) * 256 + 1 * l.val = l.val; omega

theorem flushed_eq (t : Fin cfg0.N) :
    (dats m 0 c).flushed 2 t = ((cfg0.win 2).blk t).view.read (Elt Ideal) (G m c) := by
  rw [flushed2]
  funext (j : S2048x256.Idx)
  obtain ⟨r, l, rfl⟩ : ∃ (r : Fin 2048) (l : Fin 256), j = ix2 r l := ⟨j 0, j 1, eq_ix2 j⟩
  show out0_2 (iblk m c 0 t) (iblk m c 1 t) (ix2 r l) = G m c (((cfg0.win 2).blk t).view.emb (ix2 r l))
  rw [emb2]
  exact (block _ _ r l).trans (grouped m c t r l)

theorem covered (i : S65536x256.Idx) :
    ∃ t : Fin cfg0.N, (cfg0.win 2).flush t = true ∧ i ∈ ((cfg0.win 2).blk t).view.set := by
  obtain ⟨a, l, rfl⟩ : ∃ (a : Fin 65536) (l : Fin 256), i = ix2 a l := ⟨i 0, i 1, eq_ix2 i⟩
  let t : Fin cfg0.N := ⟨a.val / 2048, show a.val / 2048 < 32 by omega⟩
  refine ⟨t, flush0_2 t, ?_⟩
  have h := ((cfg0.win 2).blk t).view.emb_mem_set (ix2 ⟨a.val % 2048, Nat.mod_lt _ (by norm_num)⟩ l)
  rw [emb2] at h
  have ha : rowOf t ⟨a.val % 2048, Nat.mod_lt _ (by norm_num)⟩ = a := Fin.ext (by show a.val / 2048 * 2048 + a.val % 2048 = a.val; omega)
  rwa [ha] at h

/-- After the run the result array holds the pooled rows of the arguments. -/
theorem final : (dats m 0 c).arrAt 2 cfg0.N = G m c :=
  (dats m 0 c).arrAt_eq_of_cover 2 (G m c) (fun t _ => flushed_eq m c t) covered

end Cert.Proof.Pool

end
-- ==== Proof.PoolClaim.lean ====
/- The pooling mixer: the kernel and the reference end with equal results over the extended reals, where the pooled rows are finite. -/
module

public import proofs.«01_k».proof.Defs
public import proofs.«01_k».proof.Proof.PoolRun

@[expose] public section

noncomputable section

namespace Cert.Proof.Pool

open Idealize.ShloMosaic Idealize.ShloMosaic.TcCoe Idealize.SL.Sem

/-- The precondition's one shape relation. -/
theorem pre_facts : Cert.Pre_finite_u.Facts := ⟨by decide⟩

theorem top_bits : (Ideal.ofBits FTy.f32 0x7F800000#32 : EReal) = ⊤ := by
  simp [Ideal.ofBits, Ideal.ieee]

/-- An element the precondition passes is a real number. -/
theorem real_of_pre [Cert.Pre_finite_u.Facts] (u : Vec Ideal PoolRefIdeal.S32x2048x256 .f32) (w : Vec Ideal PoolRefIdeal.S4x64x64 .f32)
    (h : Cert.Pre_finite_u.fn (F := Ideal) u w = fun _ => 1#1) (b : Fin 32) (t : Fin 2048) (l : Fin 256) :
    ∃ r : ℝ, @Eq EReal (u (ix3 b t l)) (r : EReal) := by
  have h := congrFun h (ix3 b t l)
  unfold Cert.Pre_finite_u.fn at h
  have h1 : Ideal.cmp .olt (max (u (ix3 b t l) : EReal) (-(u (ix3 b t l) : EReal))) (⊤ : EReal) = 1#1 := by
    rw [← h, ← top_bits]
    pointwise []
    rfl
  generalize (u (ix3 b t l) : EReal) = x at h1 ⊢
  have h2 : max x (-x) < ⊤ := by
    by_contra hc
    simp [Ideal.cmp, hc] at h1
  have h3 : x ≠ ⊤ := fun e => by simp [e] at h2
  have h4 : x ≠ ⊥ := fun e => by simp [e] at h2
  exact ⟨x.toReal, (EReal.coe_toReal h3 h4).symm⟩

theorem rows_real [Cert.Pre_finite_u.Facts] (u : Vec Ideal PoolRefIdeal.S32x2048x256 .f32) (w : Vec Ideal PoolRefIdeal.S4x64x64 .f32)
    (h : Cert.Pre_finite_u.fn (F := Ideal) u w = fun _ => 1#1) (b : Fin 32) (l : Fin 256) :
    ∃ r : ℕ → ℝ, ∀ i, rowsOf u b l i = (r i : EReal) := by
  have h' : ∀ i, ∃ r : ℝ, rowsOf u b l i = (r : EReal) := fun i => by
    unfold rowsOf
    by_cases hi : i < 2048
    · rw [dif_pos hi]; exact real_of_pre u w h b ⟨i, hi⟩ l
    · rw [dif_neg hi]; exact ⟨0, EReal.coe_zero.symm⟩
  exact ⟨fun i => (h' i).choose, fun i => (h' i).choose_spec⟩

theorem claim : Cert.algebraic_PoolIdeal_PoolRefIdeal_pre_finite_u (hPoolIdeal := Cert.PoolIdeal.Gen.facts)
    (hPoolRefIdeal := Cert.PoolRefIdeal.Gen.facts) (hPre_finite_u := pre_facts) := by
  intro m ρ m' ρ' hpre hag
  refine ⟨fun c => G m c, ?_, ?_⟩
  · exact (θ_run _ _ _).mono (fun r h c => ⟨(h c).1.trans (final m c), (h c).2⟩) (PoolIdeal.Value.run_blocks m ρ)
  · refine (θ_run _ _ _).mono (fun r h c => ⟨(h c).1.trans ?_, (h c).2⟩) (PoolRefIdeal.Value.run m' ρ')
    rw [PoolRefIdeal.Read.val_main_v64_eq]
    obtain ⟨h0, h1⟩ := hag c
    haveI := pre_facts
    have hr := rows_real _ _ (hpre c)
    rw [← h0] at hr
    funext j
    obtain ⟨t, l, rfl⟩ : ∃ (t : Fin 65536) (l : Fin 256), j = ix2 t l := ⟨j 0, j 1, eq_ix2 j⟩
    refine (refP _ _ hr t l).trans ?_
    show RP (m' ((c.tc : Thread PoolRefIdeal.nD PoolRefIdeal.τ).loc PoolRefIdeal.main_arg0)) (m' ((c.tc : Thread PoolRefIdeal.nD PoolRefIdeal.τ).loc PoolRefIdeal.main_arg1)) t l = G m c (ix2 t l)
    unfold G
    rw [← h0, ← h1]
    rfl

end Cert.Proof.Pool

end
-- ==== Proof.Slab.lean ====
/- A slab written into a larger array of four axes, its first axis indexed and its last two at a start, read at an index. -/
module

public import Idealize.ShloMosaic.Lib.Routing.OpsOne
public import Idealize.ShloMosaic.Lib.Pointwise

@[expose] public section

noncomputable section

namespace Cert.Proof

open Idealize.ShloMosaic Idealize.ShloMosaic.Routing

variable {α : Type} {K L R C A B w : ℕ} (d : ScatterDims ⟨4, ![K, L, R, C]⟩ (shape1 3) (shape3 L A B))
  (hu : d.updateWindowDims = [0, 1, 2]) (hi : d.insertedWindowDims = [0]) (hs : d.scatterDimsToOperandDims = [0, 2, 3]) (hv : d.indexVectorDim = 0)

include hu hi in
theorem window_slab (k : (shape3 L A B).Idx) : d.window k 0 = 0 ∧ d.window k 1 = ((k 0 : Fin _) : ℕ) ∧ d.window k 2 = ((k 1 : Fin _) : ℕ) ∧ d.window k 3 = ((k 2 : Fin _) : ℕ) := by
  have hk : d.sKept = [1, 2, 3] := by
    show (⟨4, ![K, L, R, C]⟩ : Shape).kept d.insertedWindowDims = _
    rw [hi]
    rfl
  refine ⟨?_, ?_, ?_, ?_⟩
  · unfold ScatterDims.window
    rw [dif_neg (by rw [hk]; exact (by decide : (0 : Fin 4) ∉ [(1 : Fin 4), 2, 3]))]
  all_goals
    unfold ScatterDims.window
    rw [dif_pos (by rw [hk]; simp)]
    refine congrArg (fun t => ((k t : Fin _) : ℕ)) ?_
    simp only [hk, hu]
    rfl

include hs hv in
theorem start_slab (idx : IVec (shape1 3) w) (j : (shape3 L A B).Idx) (q : Fin 4) (i : Fin 3) (hq : [(0 : Fin 4), 2, 3].idxOf q = i.val) :
    d.start j idx q = (idx (ix1 i)).toInt := by
  have hl : [(0 : Fin 4), 2, 3].idxOf q < 3 := by omega
  have hm : q ∈ d.scatterDimsToOperandDims := by rw [hs]; exact List.idxOf_lt_length_iff.1 hl
  have hsi : d.siIdx j ⟨d.scatterDimsToOperandDims.idxOf q, List.idxOf_lt_length_iff.2 hm⟩ = ix1 i := by
    funext b'
    apply Fin.ext
    match b' with
    | ⟨0, _⟩ =>
      unfold ScatterDims.siIdx
      rw [dif_pos (by rw [hv])]
      show List.idxOf q d.scatterDimsToOperandDims = i.val
      rw [hs]
      exact hq
  unfold ScatterDims.start
  rw [dif_pos hm, hsi]

include hs in
theorem start_slab_one (idx : IVec (shape1 3) w) (j : (shape3 L A B).Idx) : d.start j idx 1 = 0 := by
  unfold ScatterDims.start
  rw [dif_neg (by rw [hs]; exact (by decide : (1 : Fin 4) ∉ [(0 : Fin 4), 2, 3]))]

include hu hi hs hv in
theorem lands_slab (idx : IVec (shape1 3) w) (k : (shape3 L A B).Idx) (u : Fin K) (l : Fin L) (r : Fin R) (c : Fin C) :
    d.resultIdx? k idx = some (ix4 u l r c) ↔ (idx (ix1 (0 : Fin 3))).toInt = u.val ∧ (k 0 : Fin _).val = l.val
      ∧ (idx (ix1 (1 : Fin 3))).toInt + ((k 1 : Fin _).val : Int) = r.val ∧ (idx (ix1 (2 : Fin 3))).toInt + ((k 2 : Fin _).val : Int) = c.val := by
  rw [resultIdx?_eq_some]
  obtain ⟨w0, w1, w2, w3⟩ := window_slab d hu hi k
  have e0 : d.start k idx 0 + (d.window k 0 : Int) = (idx (ix1 (0 : Fin 3))).toInt := by
    rw [w0, start_slab d hs hv idx k 0 0 rfl]; simp
  have e1 : d.start k idx 1 + (d.window k 1 : Int) = ((k 0 : Fin _).val : Int) := by
    rw [w1, start_slab_one d hs idx k]; simp
  have e2 : d.start k idx 2 + (d.window k 2 : Int) = (idx (ix1 (1 : Fin 3))).toInt + ((k 1 : Fin _).val : Int) := by
    rw [w2, start_slab d hs hv idx k 2 1 rfl]
  have e3 : d.start k idx 3 + (d.window k 3 : Int) = (idx (ix1 (2 : Fin 3))).toInt + ((k 2 : Fin _).val : Int) := by
    rw [w3, start_slab d hs hv idx k 3 2 rfl]
  constructor
  · exact fun h => ⟨e0.symm.trans (h 0), Int.ofNat.inj (e1.symm.trans (h 1)), e2.symm.trans (h 2), e3.symm.trans (h 3)⟩
  · rintro ⟨h0, h1, h2, h3⟩ a
    match a with
    | ⟨0, _⟩ => exact e0.trans h0
    | ⟨1, _⟩ => exact e1.trans (congrArg Int.ofNat h1)
    | ⟨2, _⟩ => exact e2.trans h2
    | ⟨3, _⟩ => exact e3.trans h3

include hu hi hs hv in
/-- A slab written at `(o, ·, p, q)`: its element inside, the operand's outside. -/
theorem scatter_slab (x : (⟨4, ![K, L, R, C]⟩ : Shape).Idx → α) (idx : IVec (shape1 3) w) (upd : (shape3 L A B).Idx → α) (o p q : ℕ)
    (ho : (idx (ix1 (0 : Fin 3))).toInt = o) (hp : (idx (ix1 (1 : Fin 3))).toInt = p) (hq : (idx (ix1 (2 : Fin 3))).toInt = q) (u : Fin K) (l : Fin L) (r : Fin R) (c : Fin C) :
    Host.scatter d (fun _ b => b) x idx upd (ix4 u l r c)
      = if h : o = u.val ∧ (p ≤ r.val ∧ r.val - p < A) ∧ (q ≤ c.val ∧ c.val - q < B) then upd (ix3 l ⟨r.val - p, h.2.1.2⟩ ⟨c.val - q, h.2.2.2⟩) else x (ix4 u l r c) := by
  split_ifs with h
  · refine scatter_set_hit d x idx upd _ _ (fun k hk => congrArg upd ?_) (ix3 l ⟨r.val - p, h.2.1.2⟩ ⟨c.val - q, h.2.2.2⟩)
      ((lands_slab d hu hi hs hv idx _ u l r c).2 ⟨?_, rfl, ?_, ?_⟩)
    · obtain ⟨-, hl, h0, h1⟩ := (lands_slab d hu hi hs hv idx k u l r c).1 hk
      rw [hp] at h0
      rw [hq] at h1
      rw [eq_ix3 k]
      have a0 : (k 0 : Fin _) = l := Fin.ext hl
      have a1 : (k 1 : Fin _) = ⟨r.val - p, h.2.1.2⟩ := Fin.ext (by show (k 1 : Fin _).val = r.val - p; omega)
      have a2 : (k 2 : Fin _) = ⟨c.val - q, h.2.2.2⟩ := Fin.ext (by show (k 2 : Fin _).val = c.val - q; omega)
      rw [a0, a1, a2]
      rfl
    · rw [ho]
      exact congrArg Int.ofNat h.1
    · rw [hp]
      show (p : Int) + ((r.val - p : ℕ) : Int) = r.val
      omega
    · rw [hq]
      show (q : Int) + ((c.val - q : ℕ) : Int) = c.val
      omega
  · refine scatter_set_miss d x idx upd _ fun k hk => h ?_
    obtain ⟨h2, -, h0, h1⟩ := (lands_slab d hu hi hs hv idx k u l r c).1 hk
    rw [ho] at h2
    rw [hp] at h0
    rw [hq] at h1
    have e0 : (k 1 : Fin _).val < A := (k 1).isLt
    have e1 : (k 2 : Fin _).val < B := (k 2).isLt
    omega

end Cert.Proof

end
-- ==== Proof.CmpBody.lean ====
/- The compression call's block: each chunk's two products over its sixteen rows, joined with the next chunk's. -/
module

public import proofs.«01_k».proof.Proof.Gen.CmpIdeal.Value
public import Idealize.ShloMosaic.Lib.Pointwise
public import Idealize.ShloMosaic.Lib.Pipeline.ValueKit.Acc

@[expose] public section

noncomputable section

namespace Cert.Proof.Cmp

open Idealize.ShloMosaic Idealize.ShloMosaic.TcCoe Idealize.SL.Sem
open Cert.CmpIdeal Cert.CmpIdeal.Gen Cert.CmpIdeal.Value

open scoped BigOperators

variable (m : (ℓ : Loc nD τ sig) → Buf (Elt Ideal) ℓ) (c : Dev nD)

/-- Rows `o`, `o + 16`, … of a block. -/
def rowsAt (X : Vec Ideal S2048x128 .f32) (o : ℕ) : Vec Ideal S128x128 .f32 := fun j =>
  if h : o + 16 * (j 0 : Fin 128).val < 2048 then X (ix2 ⟨o + 16 * (j 0 : Fin 128).val, h⟩ (j 1)) else (0 : EReal)

theorem strided (M : Memref sig .tc .vmem S2048x128 .f32) (h : M.IsWhole) (X : Vec Ideal S2048x128 .f32) (o : ℕ) (inb) :
    View.readAt (Elt Ideal) M.view { off := ![o, 0], size := ![128, 128], stride := ![16, 1], inb := inb } (h.unread X)
      = rowsAt X o := by
  funext j
  have ho := inb 0
  have h0 : o + 16 * 127 < 2048 := by simpa using ho
  have hj : (j 0 : Fin 128).val < 128 := (j 0 : Fin 128).isLt
  unfold rowsAt
  refine Eq.trans ?_ (dif_pos (by omega)).symm
  rw [View.readAt_apply, h.read_unread]
  refine congrArg X (funext fun a => Fin.ext ?_)
  match a with
  | ⟨0, _⟩ => rfl
  | ⟨1, _⟩ => show 0 + 1 * (j 1 : Fin 128).val = (j 1 : Fin 128).val; omega

/-- Half `b` of the window's product at chunk `r`: its sixteen rows with their half of the positions and weights. -/
def half (X : Vec Ideal S2048x128 .f32) (P : Vec Ideal S2x32x128 .f32) (W : Vec Ideal S2x32x128x256 .bf16) (kv b : Fin 2) (r : Fin 128) (l : Fin 256) : EReal :=
  ∑ a : Fin 16, ∑ x : Fin 128, (rowsAt X a.val (ix2 r x) + P (ix3 kv ⟨16 * b.val + a.val, by omega⟩ x))
    * W (ix4 kv ⟨16 * b.val + a.val, by omega⟩ x l)

/-- The compressed chunk `r`: a chunk and the next one, zero at the last. -/
def chunk (X : Vec Ideal S2048x128 .f32) (P : Vec Ideal S2x32x128 .f32) (W : Vec Ideal S2x32x128x256 .bf16) (kv : Fin 2) (r : Fin 128) (l : Fin 256) : EReal :=
  if r.val < 127 then half X P W kv 0 r l + half X P W kv 1 ⟨(r.val + 128 - 127) % 128, Nat.mod_lt _ (by norm_num)⟩ l else 0

theorem sixteen (f : Fin 16 → EReal) : ∑ a, f a = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

theorem slt_select (r : Fin 128) (a b : EReal) :
    Scalar.select (IntOp.cmpi CmpIPredicate.slt (BitVec.ofNat 32 r.val) 127#32) a b = if r.val < 127 then a else b := by
  have h : ∀ r : Fin 128, IntOp.cmpi CmpIPredicate.slt (BitVec.ofNat 32 r.val) 127#32 = if r.val < 127 then 1#1 else 0#1 := by decide +kernel
  rw [h]; split_ifs <;> rfl

set_option maxHeartbeats 8000000 in
theorem keys (t : Fin cfg0.N) (r : Fin 128) (l : Fin 256) :
    @Eq EReal ((outsAt0 m c t).1 (ix2 r l)) (chunk (iblk m c 0 t) (iblk m c 2 t) (iblk m c 3 t) 0 r l) := by
  unfold outsAt0
  frame_out
  simp only [strided]
  generalize iblk m c 0 t = X
  generalize iblk m c 2 t = P
  generalize iblk m c 3 t = W
  generalize hR : chunk X P W 0 r l = R
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89]
  rw [slt_select, ← hR]
  unfold chunk half
  rw [sixteen, sixteen]
  rfl

/-- Two slabs written one above the other, read at an element. -/
theorem stacked (A B : Vec Ideal S1x64x128 .bf16) (i0) (i1) (g : Fin 2) (d : Fin 64) (r : Fin 128) :
    View.canon (Val := Elt Ideal) (s := S2x64x128) (e := .bf16) [⟨Rect.unit ![1, 0, 0] ![1, 64, 128] i1, B⟩, ⟨Rect.unit ![0, 0, 0] ![1, 64, 128] i0, A⟩] (ix3 g d r)
      = if g.val = 0 then A (ix3 0 d r) else B (ix3 0 d r) := by
  have e0 : (Rect.unit (s := S2x64x128) ![0, 0, 0] ![1, 64, 128] i0).emb (ix3 (0 : Fin 1) d r) = ix3 (0 : Fin 2) d r :=
    funext fun a => Fin.ext (by
      match a with
      | ⟨0, _⟩ => rfl
      | ⟨1, _⟩ => show 0 + 1 * d.val = d.val; omega
      | ⟨2, _⟩ => show 0 + 1 * r.val = r.val; omega)
  have e1 : (Rect.unit (s := S2x64x128) ![1, 0, 0] ![1, 64, 128] i1).emb (ix3 (0 : Fin 1) d r) = ix3 (1 : Fin 2) d r :=
    funext fun a => Fin.ext (by
      match a with
      | ⟨0, _⟩ => rfl
      | ⟨1, _⟩ => show 0 + 1 * d.val = d.val; omega
      | ⟨2, _⟩ => show 0 + 1 * r.val = r.val; omega)
  match g with
  | ⟨0, _⟩ =>
    refine Eq.trans ?_ (if_pos rfl).symm
    refine (View.canon_cons_of_not_mem (Val := Elt Ideal) (e := .bf16) ⟨Rect.unit (s := S2x64x128) ![1, 0, 0] ![1, 64, 128] i1, B⟩ _ ?_).trans ?_
    · intro hm
      obtain ⟨x, hx⟩ := LoadRect.exists_idx_of_mem _ hm
      have h := congrArg (fun y : S2x64x128.Idx => (y 0 : Fin 2).val) hx
      have h' : 1 + 1 * (x 0 : Fin 1).val = 0 := h
      omega
    · refine (congrArg _ e0.symm).trans ?_
      exact View.canon_cons_emb (Val := Elt Ideal) (e := .bf16) (Rect.unit (s := S2x64x128) ![0, 0, 0] ![1, 64, 128] i0) A [] (ix3 (0 : Fin 1) d r)
  | ⟨1, _⟩ =>
    refine Eq.trans ?_ (if_neg Nat.one_ne_zero).symm
    refine (congrArg _ e1.symm).trans ?_
    exact View.canon_cons_emb (Val := Elt Ideal) (e := .bf16) (Rect.unit (s := S2x64x128) ![1, 0, 0] ![1, 64, 128] i1) B _ (ix3 (0 : Fin 1) d r)

set_option maxHeartbeats 8000000 in
theorem values (t : Fin cfg0.N) (g : Fin 2) (d : Fin 64) (r : Fin 128) :
    @Eq EReal ((outsAt0 m c t).2 (ix3 g d r)) (chunk (iblk m c 1 t) (iblk m c 2 t) (iblk m c 3 t) 1 r ⟨128 * g.val + d.val, by omega⟩) := by
  unfold outsAt0
  frame_out
  simp only [strided]
  generalize iblk m c 1 t = X
  generalize iblk m c 2 t = P
  generalize iblk m c 3 t = W
  refine (stacked _ _ _ _ g d r).trans ?_
  match g with
  | ⟨0, _⟩ =>
    refine (if_pos rfl).trans ?_
    generalize hR : chunk X P W 1 r _ = R
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89]
    rw [slt_select, ← hR]
    unfold chunk half
    rw [sixteen, sixteen]
    simp only [Nat.mul_zero, Nat.zero_add]
    rfl
  | ⟨1, _⟩ =>
    refine (if_neg Nat.one_ne_zero).trans ?_
    generalize hR : chunk X P W 1 r _ = R
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89]
    rw [slt_select, ← hR]
    unfold chunk half
    rw [sixteen, sixteen]
    rfl

end Cert.Proof.Cmp

end
-- ==== Proof.CmpHost.lean ====
/- The arrays the compression call is launched with, read at an index: the rows, the positions twice side by side, and the weights by group. -/
module

public import Idealize.ShloMosaic.Lib.StableHlo.RunRead
public import proofs.«01_k».proof.Proof.Slab
public import proofs.«01_k».proof.Proof.CmpBody

@[expose] public section

noncomputable section

namespace Cert.Proof.Cmp

open Idealize.ShloMosaic Idealize.ShloMosaic.TcCoe Idealize.SL.Sem
open Cert.CmpIdeal Cert.CmpIdeal.Gen Cert.CmpIdeal.Value

variable (m : (ℓ : Loc nD τ sig) → Buf (Elt Ideal) ℓ) (c : Dev nD)

theorem V_v0 (t : Fin 65536) (l : Fin 128) : @Eq EReal (V m c main_v0 (ix2 t l))
    (m ((c : Thread nD τ).loc main_arg0) (ix3 ⟨t.val / 2048, by omega⟩ ⟨t.val % 2048, by omega⟩ l)) := by
  unfold V
  after_reads_simp
  pointwise []

theorem V_v1 (t : Fin 65536) (l : Fin 128) : @Eq EReal (V m c main_v1 (ix2 t l))
    (m ((c : Thread nD τ).loc main_arg1) (ix3 ⟨t.val / 2048, by omega⟩ ⟨t.val % 2048, by omega⟩ l)) := by
  unfold V
  after_reads_simp
  pointwise []

theorem twice (a : Vec Ideal S32x64 .f32) (l : Fin 32) (k : Fin 128) :
    @Eq EReal (if h : k.val < 64 then a (ix2 l ⟨k.val, h⟩) else a (ix2 l ⟨k.val - 64, by omega⟩)) (a (ix2 l ⟨k.val % 64, by omega⟩)) := by
  by_cases h : k.val < 64
  · refine (dif_pos h).trans (congrArg a (congrArg (ix2 l) (Fin.ext ?_)))
    show k.val = k.val % 64
    omega
  · refine (dif_neg h).trans (congrArg a (congrArg (ix2 l) (Fin.ext ?_)))
    show k.val - 64 = k.val % 64
    omega

theorem beside (a : Vec Ideal S32x64x64 .f32) (l : Fin 32) (k : Fin 64) (e : Fin 128) :
    @Eq EReal (if h : e.val < 64 then a (ix3 l k ⟨e.val, h⟩) else a (ix3 l k ⟨e.val - 64, by omega⟩)) (a (ix3 l k ⟨e.val % 64, by omega⟩)) := by
  by_cases h : e.val < 64
  · refine (dif_pos h).trans (congrArg a (congrArg (ix3 l k) (Fin.ext ?_)))
    show e.val = e.val % 64
    omega
  · refine (dif_neg h).trans (congrArg a (congrArg (ix3 l k) (Fin.ext ?_)))
    show e.val - 64 = e.val % 64
    omega

theorem V_v2 (l : Fin 32) (k : Fin 128) : @Eq EReal (V m c main_v2 (ix2 l k))
    (m ((c : Thread nD τ).loc main_arg2) (ix2 l ⟨k.val % 64, by omega⟩)) := by
  unfold V
  after_reads_simp
  pointwise []
  exact twice (m ((c : Thread nD τ).loc main_arg2)) l k

theorem V_v3 (l : Fin 32) (k : Fin 128) : @Eq EReal (V m c main_v3 (ix2 l k))
    (m ((c : Thread nD τ).loc main_arg3) (ix2 l ⟨k.val % 64, by omega⟩)) := by
  unfold V
  after_reads_simp
  pointwise []
  exact twice (m ((c : Thread nD τ).loc main_arg3)) l k

theorem V_v6 (i : Fin 2) (l : Fin 32) (k : Fin 128) : @Eq EReal (V m c main_v6 (ix3 i l k))
    (if i.val = 0 then V m c main_v2 (ix2 l k) else V m c main_v3 (ix2 l k)) := by
  have h : V m c main_v6 = concatenate S2x32x128 0 [⟨S1x32x128, broadcastInDim S1x32x128 ![1, 2] Facts₀.bcast_S32x128_S1x32x128_1_2 (V m c main_v2)⟩, ⟨S1x32x128, broadcastInDim S1x32x128 ![1, 2] Facts₀.bcast_S32x128_S1x32x128_1_2 (V m c main_v3)⟩] Facts₀.concatenates_S1x32x128_S1x32x128_S2x32x128_d0 := by
    unfold V
    after_reads_simp
    rfl
  rw [h]
  generalize V m c main_v2 = A
  generalize V m c main_v3 = B
  pointwise []
  by_cases h : i.val < 1
  · exact (dif_pos h).trans (if_pos (by omega)).symm
  · exact (dif_neg h).trans (if_neg (by omega)).symm

theorem V_v12_0 : (V m c main_v12 (ix1 (0 : Fin 3)) : BitVec 32) = 0#32 := by
  unfold V
  after_reads_simp
  pointwise []
  try after_reads_simp
  pointwise []
  try (split_ifs <;> (try after_reads_simp) <;> pointwise [])

theorem V_v12_1 : (V m c main_v12 (ix1 (1 : Fin 3)) : BitVec 32) = 0#32 := by
  unfold V
  after_reads_simp
  pointwise []
  try after_reads_simp
  pointwise []
  try (split_ifs <;> (try after_reads_simp) <;> pointwise [])

theorem V_v12_2 : (V m c main_v12 (ix1 (2 : Fin 3)) : BitVec 32) = 0#32 := by
  unfold V
  after_reads_simp
  pointwise []
  try after_reads_simp
  pointwise []
  try (split_ifs <;> (try after_reads_simp) <;> pointwise [])

theorem V_v13 : V m c main_v13 = Host.scatter scatter_S2x32x128x256_S3_S32x64x128_012_0_023_0 (fun _ b => b) (V m c main_v7) (V m c main_v12) (V m c main_v8) := by
  unfold V
  after_reads_simp
  rfl

theorem V_v8 (l : Fin 32) (k : Fin 64) (e : Fin 128) : @Eq EReal (V m c main_v8 (ix3 l k e)) (m ((c : Thread nD τ).loc main_arg4) (ix3 l k ⟨e.val % 64, by omega⟩)) := by
  unfold V
  after_reads_simp
  pointwise []
  exact beside (m ((c : Thread nD τ).loc main_arg4)) l k e

theorem V_v18_0 : (V m c main_v18 (ix1 (0 : Fin 3)) : BitVec 32) = 0#32 := by
  unfold V
  after_reads_simp
  pointwise []
  try after_reads_simp
  pointwise []
  try (split_ifs <;> (try after_reads_simp) <;> pointwise [])

theorem V_v18_1 : (V m c main_v18 (ix1 (1 : Fin 3)) : BitVec 32) = 64#32 := by
  unfold V
  after_reads_simp
  pointwise []
  try after_reads_simp
  pointwise []
  try (split_ifs <;> (try after_reads_simp) <;> pointwise [])

theorem V_v18_2 : (V m c main_v18 (ix1 (2 : Fin 3)) : BitVec 32) = 128#32 := by
  unfold V
  after_reads_simp
  pointwise []
  try after_reads_simp
  pointwise []
  try (split_ifs <;> (try after_reads_simp) <;> pointwise [])

theorem V_v19 : V m c main_v19 = Host.scatter scatter_S2x32x128x256_S3_S32x64x128_012_0_023_0 (fun _ b => b) (V m c main_v13) (V m c main_v18) (V m c main_v14) := by
  unfold V
  after_reads_simp
  rfl

theorem V_v14 (l : Fin 32) (k : Fin 64) (e : Fin 128) : @Eq EReal (V m c main_v14 (ix3 l k e)) (m ((c : Thread nD τ).loc main_arg4) (ix3 l k ⟨e.val % 64, by omega⟩)) := by
  unfold V
  after_reads_simp
  pointwise []
  exact beside (m ((c : Thread nD τ).loc main_arg4)) l k e

theorem V_v24_0 : (V m c main_v24 (ix1 (0 : Fin 3)) : BitVec 32) = 1#32 := by
  unfold V
  after_reads_simp
  pointwise []
  try after_reads_simp
  pointwise []
  try (split_ifs <;> (try after_reads_simp) <;> pointwise [])

theorem V_v24_1 : (V m c main_v24 (ix1 (1 : Fin 3)) : BitVec 32) = 0#32 := by
  unfold V
  after_reads_simp
  pointwise []
  try after_reads_simp
  pointwise []
  try (split_ifs <;> (try after_reads_simp) <;> pointwise [])

theorem V_v24_2 : (V m c main_v24 (ix1 (2 : Fin 3)) : BitVec 32) = 0#32 := by
  unfold V
  after_reads_simp
  pointwise []
  try after_reads_simp
  pointwise []
  try (split_ifs <;> (try after_reads_simp) <;> pointwise [])

theorem V_v25 : V m c main_v25 = Host.scatter scatter_S2x32x128x256_S3_S32x64x128_012_0_023_0 (fun _ b => b) (V m c main_v19) (V m c main_v24) (V m c main_v20) := by
  unfold V
  after_reads_simp
  rfl

theorem V_v20 (l : Fin 32) (k : Fin 64) (e : Fin 128) : @Eq EReal (V m c main_v20 (ix3 l k e)) (m ((c : Thread nD τ).loc main_arg5) (ix3 l k ⟨e.val % 64, by omega⟩)) := by
  unfold V
  after_reads_simp
  pointwise []
  exact beside (m ((c : Thread nD τ).loc main_arg5)) l k e

theorem V_v30_0 : (V m c main_v30 (ix1 (0 : Fin 3)) : BitVec 32) = 1#32 := by
  unfold V
  after_reads_simp
  pointwise []
  try after_reads_simp
  pointwise []
  try (split_ifs <;> (try after_reads_simp) <;> pointwise [])

theorem V_v30_1 : (V m c main_v30 (ix1 (1 : Fin 3)) : BitVec 32) = 64#32 := by
  unfold V
  after_reads_simp
  pointwise []
  try after_reads_simp
  pointwise []
  try (split_ifs <;> (try after_reads_simp) <;> pointwise [])

theorem V_v30_2 : (V m c main_v30 (ix1 (2 : Fin 3)) : BitVec 32) = 128#32 := by
  unfold V
  after_reads_simp
  pointwise []
  try after_reads_simp
  pointwise []
  try (split_ifs <;> (try after_reads_simp) <;> pointwise [])

theorem V_v31 : V m c main_v31 = Host.scatter scatter_S2x32x128x256_S3_S32x64x128_012_0_023_0 (fun _ b => b) (V m c main_v25) (V m c main_v30) (V m c main_v26) := by
  unfold V
  after_reads_simp
  rfl

theorem V_v26 (l : Fin 32) (k : Fin 64) (e : Fin 128) : @Eq EReal (V m c main_v26 (ix3 l k e)) (m ((c : Thread nD τ).loc main_arg5) (ix3 l k ⟨e.val % 64, by omega⟩)) := by
  unfold V
  after_reads_simp
  pointwise []
  exact beside (m ((c : Thread nD τ).loc main_arg5)) l k e

theorem V_v7 (i : Fin 2) (l : Fin 32) (k : Fin 128) (e : Fin 256) : @Eq EReal (V m c main_v7 (ix4 i l k e)) 0 := by
  unfold V
  after_reads_simp
  pointwise []

theorem V_v32_eq (i : Fin 2) (l : Fin 32) (k : Fin 128) (e : Fin 256) : @Eq EReal (V m c main_v32 (ix4 i l k e)) (V m c main_v31 (ix4 i l k e)) := by
  unfold V
  after_reads_simp
  pointwise []

theorem same (a : Vec Ideal S32x64x64 .f32) (l : Fin 32) (k : Fin 128) (e : Fin 256) (x : Fin 64) (y : Fin 64) (h : k.val / 64 = e.val / 128) (hx : x.val = k.val % 64) (hy : y.val = e.val % 64) :
    @Eq EReal (a (ix3 l x y)) (if k.val / 64 = e.val / 128 then a (ix3 l ⟨k.val % 64, by omega⟩ ⟨e.val % 64, by omega⟩) else 0) := by
  refine Eq.trans ?_ (if_pos h).symm
  obtain ⟨x, _⟩ := x
  obtain ⟨y, _⟩ := y
  obtain rfl : x = k.val % 64 := hx
  obtain rfl : y = e.val % 64 := hy
  rfl

/-- The weights the call is launched with: for keys and values each group's square, twice side by side, zero elsewhere. -/
theorem V_v32 (i : Fin 2) (l : Fin 32) (k : Fin 128) (e : Fin 256) : @Eq EReal (V m c main_v32 (ix4 i l k e))
    (if k.val / 64 = e.val / 128 then (if i.val = 0 then m ((c : Thread nD τ).loc main_arg4) else m ((c : Thread nD τ).loc main_arg5)) (ix3 l ⟨k.val % 64, by omega⟩ ⟨e.val % 64, by omega⟩) else 0) := by
  refine (V_v32_eq m c i l k e).trans ?_
  refine (congrFun (V_v31 m c) (ix4 i l k e)).trans ((scatter_slab _ rfl rfl rfl rfl _ _ _ 1 64 128 (by rw [V_v30_0]; rfl) (by rw [V_v30_1]; rfl) (by rw [V_v30_2]; rfl) i l k e).trans ?_)
  by_cases h3 : 1 = i.val ∧ (64 ≤ k.val ∧ k.val - 64 < 64) ∧ (128 ≤ e.val ∧ e.val - 128 < 128)
  · refine (dif_pos h3).trans ((V_v26 m c _ _ _).trans ?_)
    rw [if_neg (show ¬ i.val = 0 by omega)]
    exact same _ l k e _ _ (by omega) (by show k.val - 64 = _; omega) (by show (e.val - 128) % 64 = _; omega)
  refine (dif_neg h3).trans ?_
  refine (congrFun (V_v25 m c) (ix4 i l k e)).trans ((scatter_slab _ rfl rfl rfl rfl _ _ _ 1 0 0 (by rw [V_v24_0]; rfl) (by rw [V_v24_1]; rfl) (by rw [V_v24_2]; rfl) i l k e).trans ?_)
  by_cases h2 : 1 = i.val ∧ (0 ≤ k.val ∧ k.val - 0 < 64) ∧ (0 ≤ e.val ∧ e.val - 0 < 128)
  · refine (dif_pos h2).trans ((V_v20 m c _ _ _).trans ?_)
    rw [if_neg (show ¬ i.val = 0 by omega)]
    exact same _ l k e _ _ (by omega) (by show k.val - 0 = _; omega) (by show (e.val - 0) % 64 = _; omega)
  refine (dif_neg h2).trans ?_
  refine (congrFun (V_v19 m c) (ix4 i l k e)).trans ((scatter_slab _ rfl rfl rfl rfl _ _ _ 0 64 128 (by rw [V_v18_0]; rfl) (by rw [V_v18_1]; rfl) (by rw [V_v18_2]; rfl) i l k e).trans ?_)
  by_cases h1 : 0 = i.val ∧ (64 ≤ k.val ∧ k.val - 64 < 64) ∧ (128 ≤ e.val ∧ e.val - 128 < 128)
  · refine (dif_pos h1).trans ((V_v14 m c _ _ _).trans ?_)
    rw [if_pos (show i.val = 0 by omega)]
    exact same _ l k e _ _ (by omega) (by show k.val - 64 = _; omega) (by show (e.val - 128) % 64 = _; omega)
  refine (dif_neg h1).trans ?_
  refine (congrFun (V_v13 m c) (ix4 i l k e)).trans ((scatter_slab _ rfl rfl rfl rfl _ _ _ 0 0 0 (by rw [V_v12_0]; rfl) (by rw [V_v12_1]; rfl) (by rw [V_v12_2]; rfl) i l k e).trans ?_)
  by_cases h0 : 0 = i.val ∧ (0 ≤ k.val ∧ k.val - 0 < 64) ∧ (0 ≤ e.val ∧ e.val - 0 < 128)
  · refine (dif_pos h0).trans ((V_v8 m c _ _ _).trans ?_)
    rw [if_pos (show i.val = 0 by omega)]
    exact same _ l k e _ _ (by omega) (by show k.val - 0 = _; omega) (by show (e.val - 0) % 64 = _; omega)
  refine (dif_neg h0).trans ?_
  refine (V_v7 m c i l k e).trans (if_neg fun h => ?_).symm
  omega

end Cert.Proof.Cmp

end
-- ==== Proof.CmpRef.lean ====
/- The reference's compressed keys and values at one chunk, group and lane: one double sum over the chunk's rows and lanes. -/
module

public import Idealize.ShloMosaic.Lib.Pointwise
public import proofs.«01_k».proof.Proof.Gen.CmpRefIdeal.Run
public import proofs.«01_k».proof.Proof.Gen.CmpRefIdeal.Read

@[expose] public section

noncomputable section

namespace Cert.Proof.Cmp

open Idealize.ShloMosaic Cert.CmpRefIdeal Cert.CmpRefIdeal.Read
open scoped BigOperators

/-- Chunk `c` of sequence `b`, group `g`, lane `e`: its 32 rows, shifted by the positions, against the weights; the chunk past the last is zero. -/
def chunkOf (x : Vec Ideal S32x2048x128 .f32) (p : Vec Ideal S32x64 .f32) (w : Vec Ideal S32x64x64 .f32) (b : Fin 32) (c : Fin 128) (g : Fin 2) (e : Fin 64) : EReal :=
  if h : c.val < 127 then ∑ l : Fin 32, ∑ d : Fin 64, (x (ix3 b ⟨16 * c.val + l.val, by omega⟩ ⟨64 * g.val + d.val, by omega⟩) + p (ix2 l d)) * w (ix3 l d e) else 0

/-- The keys, one sequence after the other, each group's chunk twice side by side. -/
def KR (x : Vec Ideal S32x2048x128 .f32) (p : Vec Ideal S32x64 .f32) (w : Vec Ideal S32x64x64 .f32) : S4096x256.Idx → EReal := fun j =>
  chunkOf x p w ⟨(j 0 : Fin 4096).val / 128, by have : (j 0 : Fin 4096).val < 4096 := (j 0).isLt; omega⟩ ⟨(j 0 : Fin 4096).val % 128, by omega⟩
    ⟨(j 1 : Fin 256).val / 128, by have : (j 1 : Fin 256).val < 256 := (j 1).isLt; omega⟩ ⟨(j 1 : Fin 256).val % 64, by omega⟩

/-- The values, one sequence and group after the other, chunks along the last axis. -/
def VR (x : Vec Ideal S32x2048x128 .f32) (p : Vec Ideal S32x64 .f32) (w : Vec Ideal S32x64x64 .f32) : S64x64x128.Idx → EReal := fun j =>
  chunkOf x p w ⟨(j 0 : Fin 64).val / 2, by have : (j 0 : Fin 64).val < 64 := (j 0).isLt; omega⟩ (j 2) ⟨(j 0 : Fin 64).val % 2, by omega⟩ (j 1)

variable (x : Vec Ideal S32x2048x128 .f32) (p : Vec Ideal S32x64 .f32) (w : Vec Ideal S32x64x64 .f32)

theorem zero_word : (FloatOps.sitofp FTy.f32 0#32 : Ideal .f32) = 0 := by
  show (((0#32 : BitVec 32).toInt : ℝ) : EReal) = 0
  simp

theorem shifted (b : Fin 32) (c : Fin 127) (l : Fin 32) (g : Fin 2) (d : Fin 64) :
    @Eq EReal (if _h : l.val < 16 then x (ix3 b ⟨c.val * 16 + l.val, by omega⟩ ⟨g.val * 64 + d.val, by omega⟩)
      else x (ix3 b ⟨(1 + c.val) * 16 + (l.val - 16), by omega⟩ ⟨g.val * 64 + d.val, by omega⟩))
      (x (ix3 b ⟨16 * c.val + l.val, by omega⟩ ⟨64 * g.val + d.val, by omega⟩)) := by
  by_cases h : l.val < 16
  · refine (dif_pos h).trans (congrArg x (congrArg₂ (ix3 b) (Fin.ext ?_) (Fin.ext ?_)))
    · show c.val * 16 + l.val = 16 * c.val + l.val; omega
    · show g.val * 64 + d.val = 64 * g.val + d.val; omega
  · refine (dif_neg h).trans (congrArg x (congrArg₂ (ix3 b) (Fin.ext ?_) (Fin.ext ?_)))
    · show (1 + c.val) * 16 + (l.val - 16) = 16 * c.val + l.val; omega
    · show g.val * 64 + d.val = 64 * g.val + d.val; omega

theorem keyRow (b : Fin 32) (c : Fin 127) (l : Fin 32) (g : Fin 2) (d : Fin 64) :
    @Eq EReal (val_main_v7 (F := Ideal) x p (ix5 b c l g d)) (x (ix3 b ⟨16 * c.val + l.val, by omega⟩ ⟨64 * g.val + d.val, by omega⟩) + p (ix2 l d)) := by
  pointwise [val_main_v7, val_main_v6, val_main_v5, val_main_v4, val_main_v3, val_main_v2, val_main_v1, val_main_v0]
  exact congrArg (fun y : EReal => y + p (ix2 l d)) (shifted x b c l g d)

theorem valRow (b : Fin 32) (c : Fin 127) (l : Fin 32) (g : Fin 2) (d : Fin 64) :
    @Eq EReal (val_main_v16 (F := Ideal) x p (ix5 b c l g d)) (x (ix3 b ⟨16 * c.val + l.val, by omega⟩ ⟨64 * g.val + d.val, by omega⟩) + p (ix2 l d)) := by
  pointwise [val_main_v16, val_main_v15, val_main_v14, val_main_v13, val_main_v12, val_main_v11, val_main_v10, val_main_v9]
  exact congrArg (fun y : EReal => y + p (ix2 l d)) (shifted x b c l g d)

theorem keyProd (b : Fin 32) (c : Fin 127) (g : Fin 2) (e : Fin 64) :
    @Eq EReal (val_main_v8 (F := Ideal) x p w (ix4 b c g e)) (chunkOf x p w b ⟨c.val, by omega⟩ g e) := by
  have h := fun l d => keyRow x p b c l g d
  unfold val_main_v8 chunkOf
  generalize val_main_v7 (F := Ideal) x p = M at h ⊢
  refine Eq.trans ?_ (dif_pos c.isLt).symm
  refine Eq.trans ?_ (Finset.sum_congr rfl fun l _ => Finset.sum_congr rfl fun d _ => congrArg (fun y : EReal => y * w (ix3 l d e)) (h l d))
  rw [Finset.sum_comm]
  generalize hR : (∑ d : Fin 64, ∑ l : Fin 32, (M (ix5 b c l g d) : EReal) * w (ix3 l d e)) = R
  pointwise []
  exact hR

theorem valProd (b : Fin 32) (c : Fin 127) (g : Fin 2) (e : Fin 64) :
    @Eq EReal (val_main_v17 (F := Ideal) x p w (ix4 b c g e)) (chunkOf x p w b ⟨c.val, by omega⟩ g e) := by
  have h := fun l d => valRow x p b c l g d
  unfold val_main_v17 chunkOf
  generalize val_main_v16 (F := Ideal) x p = M at h ⊢
  refine Eq.trans ?_ (dif_pos c.isLt).symm
  refine Eq.trans ?_ (Finset.sum_congr rfl fun l _ => Finset.sum_congr rfl fun d _ => congrArg (fun y : EReal => y * w (ix3 l d e)) (h l d))
  rw [Finset.sum_comm]
  generalize hR : (∑ d : Fin 64, ∑ l : Fin 32, (M (ix5 b c l g d) : EReal) * w (ix3 l d e)) = R
  pointwise []
  exact hR

theorem past (b : Fin 32) (c : Fin 128) (g : Fin 2) (e : Fin 64) (h : ¬ c.val < 127) : chunkOf x p w b c g e = 0 := dif_neg h

theorem keyPad (b : Fin 32) (c : Fin 128) (g : Fin 2) (e : Fin 64) :
    @Eq EReal (val_main_v18 (F := Ideal) x p w (ix4 b c g e)) (chunkOf x p w b c g e) := by
  have h := fun c' => keyProd x p w b c' g e
  have h' := past x p w b c g e
  unfold val_main_v18
  generalize val_main_v8 (F := Ideal) x p w = M at h ⊢
  by_cases hc : c.val < 127
  · have h := h ⟨c.val, hc⟩
    generalize chunkOf x p w b c g e = R at h ⊢
    pointwise [val_main_call0_v0, val_main_c]
    exact (dif_pos hc).trans h
  · have h' := h' hc
    generalize chunkOf x p w b c g e = R at h' ⊢
    pointwise [val_main_call0_v0, val_main_c]
    exact ((dif_neg hc).trans zero_word).trans h'.symm

theorem valPad (b : Fin 32) (c : Fin 128) (g : Fin 2) (e : Fin 64) :
    @Eq EReal (val_main_v19 (F := Ideal) x p w (ix4 b c g e)) (chunkOf x p w b c g e) := by
  have h := fun c' => valProd x p w b c' g e
  have h' := past x p w b c g e
  unfold val_main_v19
  generalize val_main_v17 (F := Ideal) x p w = M at h ⊢
  by_cases hc : c.val < 127
  · have h := h ⟨c.val, hc⟩
    generalize chunkOf x p w b c g e = R at h ⊢
    pointwise [val_main_call1_v0, val_main_c_0]
    exact (dif_pos hc).trans h
  · have h' := h' hc
    generalize chunkOf x p w b c g e = R at h' ⊢
    pointwise [val_main_call1_v0, val_main_c_0]
    exact ((dif_neg hc).trans zero_word).trans h'.symm

theorem refK (t : Fin 4096) (j : Fin 256) : @Eq EReal (val_main_v24 (F := Ideal) x p w (ix2 t j)) (KR x p w (ix2 t j)) := by
  have h := keyPad x p w ⟨t.val / 128, by omega⟩ ⟨t.val % 128, by omega⟩ ⟨j.val / 128, by omega⟩ ⟨j.val % 64, by omega⟩
  refine Eq.trans ?_ h
  unfold val_main_v24 val_main_v23 val_main_v22 val_main_v21 val_main_v20
  generalize val_main_v18 (F := Ideal) x p w = M
  pointwise []
  split_ifs <;> rfl

theorem refV (t : Fin 64) (d : Fin 64) (c : Fin 128) : @Eq EReal (val_main_v27 (F := Ideal) x p w (ix3 t d c)) (VR x p w (ix3 t d c)) := by
  have h := valPad x p w ⟨t.val / 2, by omega⟩ c ⟨t.val % 2, by omega⟩ d
  refine Eq.trans ?_ h
  unfold val_main_v27 val_main_v26 val_main_v25
  generalize val_main_v19 (F := Ideal) x p w = M
  pointwise []

end Cert.Proof.Cmp

end
-- ==== Proof.CmpRun.lean ====
/- The compression's two result arrays as functions of its arguments. -/
module

public import proofs.«01_k».proof.Proof.CmpHost
public import proofs.«01_k».proof.Proof.CmpRef

@[expose] public section

noncomputable section

namespace Cert.Proof.Cmp

open Idealize.ShloMosaic Idealize.ShloMosaic.TcCoe Idealize.SL.Sem
open Cert.CmpIdeal Cert.CmpIdeal.Gen Cert.CmpIdeal.Value
open Idealize.ShloMosaic.Pipeline (Dat)
open scoped BigOperators

/-- A sum over 128 lanes of which one group of 64 counts. -/
theorem sum_pair (g : Fin 2) (f : Fin 128 → EReal) (h : ∀ k : Fin 128, k.val / 64 ≠ g.val → f k = 0) :
    ∑ k : Fin 128, f k = ∑ c : Fin 64, f ⟨64 * g.val + c.val, by omega⟩ := by
  rw [← Equiv.sum_comp (finProdFinEquiv (m := 2) (n := 64)) f, Fintype.sum_prod_type, Finset.sum_eq_single g]
  · exact Finset.sum_congr rfl fun c _ => congrArg f (Fin.ext (by show c.val + 64 * g.val = 64 * g.val + c.val; omega))
  · exact fun b _ hb => Finset.sum_eq_zero fun c _ => h _ (by
      show (c.val + 64 * b.val) / 64 ≠ g.val
      exact fun e => hb (Fin.ext (by omega)))
  · exact fun hg => absurd (Finset.mem_univ g) hg

theorem times_zero (a b : EReal) (h : b = 0) : a * b = 0 := by rw [h, mul_zero]

section

variable (x : (⟨3, ![32, 2048, 128]⟩ : Shape).Idx → EReal) (p : (⟨2, ![32, 64]⟩ : Shape).Idx → EReal) (w : (⟨3, ![32, 64, 64]⟩ : Shape).Idx → EReal)
  (X : Vec Ideal S2048x128 .f32) (P : Vec Ideal S2x32x128 .f32) (W : Vec Ideal S2x32x128x256 .bf16) (t : Fin 32) (i : Fin 2)
  (hX : ∀ (s : Fin 2048) (k : Fin 128), @Eq EReal (X (ix2 s k)) (x (ix3 t s k)))
  (hP : ∀ (l : Fin 32) (k : Fin 128), @Eq EReal (P (ix3 i l k)) (p (ix2 l ⟨k.val % 64, by omega⟩)))
  (hW : ∀ (l : Fin 32) (k : Fin 128) (e : Fin 256), @Eq EReal (W (ix4 i l k e)) (if k.val / 64 = e.val / 128 then w (ix3 l ⟨k.val % 64, by omega⟩ ⟨e.val % 64, by omega⟩) else 0))

include hX hP hW in
/-- One half of a chunk: the block-diagonal product keeps the 64 lanes of the group. -/
theorem half_eq (b : Fin 2) (r : Fin 128) (e : Fin 256) :
    half X P W i b r e = ∑ a : Fin 16, ∑ d : Fin 64, (x (ix3 t ⟨16 * r.val + a.val, by omega⟩ ⟨64 * (e.val / 128) + d.val, by omega⟩)
      + p (ix2 ⟨16 * b.val + a.val, by omega⟩ d)) * w (ix3 ⟨16 * b.val + a.val, by omega⟩ d ⟨e.val % 64, by omega⟩) := by
  unfold half
  refine Finset.sum_congr rfl fun a _ => (sum_pair ⟨e.val / 128, by omega⟩ _ fun k hk => ?_).trans (Finset.sum_congr rfl fun d _ => ?_)
  · exact times_zero _ _ ((hW _ k e).trans (if_neg hk))
  · have hd : (64 * (e.val / 128) + d.val) / 64 = e.val / 128 := by omega
    have a1 : (⟨(64 * (e.val / 128) + d.val) % 64, by omega⟩ : Fin 64) = d := Fin.ext (by show (64 * (e.val / 128) + d.val) % 64 = d.val; omega)
    have hr : rowsAt X a.val (ix2 r (⟨64 * (e.val / 128) + d.val, by omega⟩ : Fin 128)) = x (ix3 t ⟨16 * r.val + a.val, by omega⟩ ⟨64 * (e.val / 128) + d.val, by omega⟩) := by
      unfold rowsAt
      refine (dif_pos (show a.val + 16 * r.val < 2048 by omega)).trans ((hX _ _).trans ?_)
      have a0 : (⟨a.val + 16 * r.val, by omega⟩ : Fin 2048) = ⟨16 * r.val + a.val, by omega⟩ := Fin.ext (by show a.val + 16 * r.val = 16 * r.val + a.val; omega)
      exact congrArg (fun s => x (ix3 t s _)) a0
    refine congrArg₂ (· * ·) (congrArg₂ (· + ·) hr ((hP _ _).trans (congrArg (fun s => p (ix2 _ s)) a1))) ?_
    exact (hW _ _ e).trans ((if_pos hd).trans (congrArg (fun s => w (ix3 _ s _)) a1))

include hX hP hW in
/-- A chunk of the block is the chunk of the argument. -/
theorem chunk_eq (r : Fin 128) (e : Fin 256) :
    chunk X P W i r e = chunkOf x p w t r ⟨e.val / 128, by omega⟩ ⟨e.val % 64, by omega⟩ := by
  unfold chunk chunkOf
  by_cases h : r.val < 127
  · refine (if_pos h).trans (Eq.trans ?_ (dif_pos h).symm)
    rw [half_eq x p w X P W t i hX hP hW, half_eq x p w X P W t i hX hP hW]
    refine Eq.trans ?_ (Fin.sum_univ_add (a := 16) (b := 16) _).symm
    have hn : (r.val + 128 - 127) % 128 = r.val + 1 := by omega
    refine congrArg₂ (· + ·) (Finset.sum_congr rfl fun a _ => Finset.sum_congr rfl fun d _ => ?_) (Finset.sum_congr rfl fun a _ => Finset.sum_congr rfl fun d _ => ?_)
    · have a0 : (⟨16 * (0 : Fin 2).val + a.val, by omega⟩ : Fin 32) = Fin.castAdd 16 a := Fin.ext (by show 16 * 0 + a.val = a.val; omega)
      rw [a0]
      rfl
    · have a0 : (⟨16 * (1 : Fin 2).val + a.val, by omega⟩ : Fin 32) = Fin.natAdd 16 a := Fin.ext (by show 16 * 1 + a.val = 16 + a.val; omega)
      have a1 : (⟨16 * ((r.val + 128 - 127) % 128) + a.val, by omega⟩ : Fin 2048) = ⟨16 * r.val + (Fin.natAdd 16 a : Fin 32).val, by show 16 * r.val + (16 + a.val) < 2048; omega⟩ :=
        Fin.ext (by show 16 * ((r.val + 128 - 127) % 128) + a.val = 16 * r.val + (16 + a.val); omega)
      rw [a0]
      exact congrArg (fun s => (x (ix3 t s _) + p (ix2 _ d)) * w (ix3 _ d _)) a1
  · rw [if_neg h, dif_neg h]

end

variable (m : (ℓ : Loc nD τ sig) → Buf (Elt Ideal) ℓ) (c : Dev nD)

theorem idx_blocks : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 4) = 0 ∧ win0_3.index t (1 : Fin 4) = 0 ∧ win0_3.index t (2 : Fin 4) = 0 ∧ win0_3.index t (3 : Fin 4) = 0)
    ∧ (win0_4.index t (0 : Fin 2) = t.val ∧ win0_4.index t (1 : Fin 2) = 0)
    ∧ (win0_5.index t (0 : Fin 3) = t.val ∧ win0_5.index t (1 : Fin 3) = 0 ∧ win0_5.index t (2 : Fin 3) = 0) :=
  (by decide +kernel : ∀ t : Fin grid0.N, _)

/-- Row `r` of sequence `t` among all the rows. -/
abbrev rowOf (t : Fin cfg0.N) (r : Fin 2048) : Fin 65536 := ⟨t.val * 2048 + r.val, by have : t.val < 32 := t.isLt; omega⟩

theorem row_div (t : Fin cfg0.N) (r : Fin 2048) : (⟨(rowOf t r).val / 2048, by omega⟩ : Fin 32) = ⟨t.val, t.isLt⟩ :=
  Fin.ext (by show (t.val * 2048 + r.val) / 2048 = t.val; omega)

theorem row_mod (t : Fin cfg0.N) (r : Fin 2048) : (⟨(rowOf t r).val % 2048, by omega⟩ : Fin 2048) = r :=
  Fin.ext (by show (t.val * 2048 + r.val) % 2048 = r.val; omega)

theorem blk0 (t : Fin cfg0.N) (r : Fin 2048) (k : Fin 128) :
    @Eq EReal (iblk m c 0 t (ix2 r k)) (m ((c : Thread nD τ).loc main_arg0) (ix3 ⟨t.val, t.isLt⟩ r k)) := by
  have e := (idx_blocks t).1
  have hp : ((cfg0.win 0).blk t).view.emb (ix2 r k) = ix2 (rowOf t r) k := by
    funext a; apply Fin.ext
    match a with
    | ⟨0, _⟩ => show win0_0.index t (0 : Fin 2) * 2048 + 1 * r.val = t.val * 2048 + r.val; omega
    | ⟨1, _⟩ => show win0_0.index t (1 : Fin 2) * 128 + 1 * k.val = k.val; omega
  show @Eq EReal (V m c main_v0 (((cfg0.win 0).blk t).view.emb (ix2 r k))) _
  rw [hp]
  refine (V_v0 m c (rowOf t r) k).trans ?_
  exact (congrArg (fun a => m ((c : Thread nD τ).loc main_arg0) (ix3 a _ k)) (row_div t r)).trans
    (congrArg (fun b => m ((c : Thread nD τ).loc main_arg0) (ix3 _ b k)) (row_mod t r))

theorem blk1 (t : Fin cfg0.N) (r : Fin 2048) (k : Fin 128) :
    @Eq EReal (iblk m c 1 t (ix2 r k)) (m ((c : Thread nD τ).loc main_arg1) (ix3 ⟨t.val, t.isLt⟩ r k)) := by
  have e := (idx_blocks t).2.1
  have hp : ((cfg0.win 1).blk t).view.emb (ix2 r k) = ix2 (rowOf t r) k := by
    funext a; apply Fin.ext
    match a with
    | ⟨0, _⟩ => show win0_1.index t (0 : Fin 2) * 2048 + 1 * r.val = t.val * 2048 + r.val; omega
    | ⟨1, _⟩ => show win0_1.index t (1 : Fin 2) * 128 + 1 * k.val = k.val; omega
  show @Eq EReal (V m c main_v1 (((cfg0.win 1).blk t).view.emb (ix2 r k))) _
  rw [hp]
  refine (V_v1 m c (rowOf t r) k).trans ?_
  exact (congrArg (fun a => m ((c : Thread nD τ).loc main_arg1) (ix3 a _ k)) (row_div t r)).trans
    (congrArg (fun b => m ((c : Thread nD τ).loc main_arg1) (ix3 _ b k)) (row_mod t r))

theorem blk2 (t : Fin cfg0.N) (i : Fin 2) (l : Fin 32) (k : Fin 128) :
    @Eq EReal (iblk m c 2 t (ix3 i l k)) (V m c main_v6 (ix3 i l k)) := by
  have e := (idx_blocks t).2.2.1
  have hp : ((cfg0.win 2).blk t).view.emb (ix3 i l k) = ix3 i l k := by
    funext a; apply Fin.ext
    match a with
    | ⟨0, _⟩ => show win0_2.index t (0 : Fin 3) * 2 + 1 * i.val = i.val; omega
    | ⟨1, _⟩ => show win0_2.index t (1 : Fin 3) * 32 + 1 * l.val = l.val; omega
    | ⟨2, _⟩ => show win0_2.index t (2 : Fin 3) * 128 + 1 * k.val = k.val; omega
  show @Eq EReal (V m c main_v6 (((cfg0.win 2).blk t).view.emb (ix3 i l k))) _
  rw [hp]

theorem blk3 (t : Fin cfg0.N) (i : Fin 2) (l : Fin 32) (k : Fin 128) (j : Fin 256) :
    @Eq EReal (iblk m c 3 t (ix4 i l k j)) (V m c main_v32 (ix4 i l k j)) := by
  have e := (idx_blocks t).2.2.2.1
  have hp : ((cfg0.win 3).blk t).view.emb (ix4 i l k j) = ix4 i l k j := by
    funext a; apply Fin.ext
    match a with
    | ⟨0, _⟩ => show win0_3.index t (0 : Fin 4) * 2 + 1 * i.val = i.val; omega
    | ⟨1, _⟩ => show win0_3.index t (1 : Fin 4) * 32 + 1 * l.val = l.val; omega
    | ⟨2, _⟩ => show win0_3.index t (2 : Fin 4) * 128 + 1 * k.val = k.val; omega
    | ⟨3, _⟩ => show win0_3.index t (3 : Fin 4) * 256 + 1 * j.val = j.val; omega
  show @Eq EReal (V m c main_v32 (((cfg0.win 3).blk t).view.emb (ix4 i l k j))) _
  rw [hp]

/-- Row `r` of sequence `t` among the compressed keys' rows. -/
abbrev keyOf (t : Fin cfg0.N) (r : Fin 128) : Fin 4096 := ⟨t.val * 128 + r.val, by have : t.val < 32 := t.isLt; omega⟩

/-- Group `g` of sequence `t` among the compressed values' slabs. -/
abbrev slabOf (t : Fin cfg0.N) (g : Fin 2) : Fin 64 := ⟨t.val * 2 + g.val, by have : t.val < 32 := t.isLt; omega⟩

theorem emb4 (t : Fin cfg0.N) (r : Fin 128) (l : Fin 256) :
    ((cfg0.win 4).blk t).view.emb (ix2 r l) = ix2 (keyOf t r) l := by
  have e := (idx_blocks t).2.2.2.2.1
  funext a; apply Fin.ext
  match a with
  | ⟨0, _⟩ => show win0_4.index t (0 : Fin 2) * 128 + 1 * r.val = t.val * 128 + r.val; omega
  | ⟨1, _⟩ => show win0_4.index t (1 : Fin 2) * 256 + 1 * l.val = l.val; omega

theorem emb5 (t : Fin cfg0.N) (g : Fin 2) (d : Fin 64) (r : Fin 128) :
    ((cfg0.win 5).blk t).view.emb (ix3 g d r) = ix3 (slabOf t g) d r := by
  have e := (idx_blocks t).2.2.2.2.2
  funext a; apply Fin.ext
  match a with
  | ⟨0, _⟩ => show win0_5.index t (0 : Fin 3) * 2 + 1 * g.val = t.val * 2 + g.val; omega
  | ⟨1, _⟩ => show win0_5.index t (1 : Fin 3) * 64 + 1 * d.val = d.val; omega
  | ⟨2, _⟩ => show win0_5.index t (2 : Fin 3) * 128 + 1 * r.val = r.val; omega

/-- The compressed keys of the arguments. -/
def GK : S4096x256.Idx → EReal :=
  KR (m ((c : Thread nD τ).loc main_arg0)) (m ((c : Thread nD τ).loc main_arg2)) (m ((c : Thread nD τ).loc main_arg4))

/-- The compressed values of the arguments. -/
def GV : S64x64x128.Idx → EReal :=
  VR (m ((c : Thread nD τ).loc main_arg1)) (m ((c : Thread nD τ).loc main_arg3)) (m ((c : Thread nD τ).loc main_arg5))

theorem chunkOf_at (x : Vec Ideal CmpRefIdeal.S32x2048x128 .f32) (p : Vec Ideal CmpRefIdeal.S32x64 .f32) (w : Vec Ideal CmpRefIdeal.S32x64x64 .f32)
    (b b' : Fin 32) (r r' : Fin 128) (g g' : Fin 2) (e e' : Fin 64) (hb : b.val = b'.val) (hr : r.val = r'.val) (hg : g.val = g'.val) (he : e.val = e'.val) :
    chunkOf x p w b r g e = chunkOf x p w b' r' g' e' := by
  obtain rfl := Fin.ext hb
  obtain rfl := Fin.ext hr
  obtain rfl := Fin.ext hg
  obtain rfl := Fin.ext he
  rfl

theorem key_block (t : Fin cfg0.N) (r : Fin 128) (l : Fin 256) :
    @Eq EReal ((outsAt0 m c t).1 (ix2 r l)) (GK m c (ix2 (keyOf t r) l)) := by
  refine (keys m c t r l).trans ((chunk_eq (m ((c : Thread nD τ).loc main_arg0)) (m ((c : Thread nD τ).loc main_arg2)) (m ((c : Thread nD τ).loc main_arg4)) _ _ _ ⟨t.val, t.isLt⟩ 0
    (fun s k => blk0 m c t s k) (fun l k => ?_) (fun l k e => ?_) r l).trans ?_)
  · exact (blk2 m c t 0 l k).trans ((V_v6 m c 0 l k).trans ((if_pos rfl).trans (V_v2 m c l k)))
  · exact (blk3 m c t 0 l k e).trans (V_v32 m c 0 l k e)
  · unfold GK KR
    refine chunkOf_at _ _ _ _ _ _ _ _ _ _ _ ?_ ?_ rfl rfl
    · show t.val = (t.val * 128 + r.val) / 128; omega
    · show r.val = (t.val * 128 + r.val) % 128; omega

theorem val_block (t : Fin cfg0.N) (g : Fin 2) (d : Fin 64) (r : Fin 128) :
    @Eq EReal ((outsAt0 m c t).2 (ix3 g d r)) (GV m c (ix3 (slabOf t g) d r)) := by
  refine (values m c t g d r).trans ((chunk_eq (m ((c : Thread nD τ).loc main_arg1)) (m ((c : Thread nD τ).loc main_arg3)) (m ((c : Thread nD τ).loc main_arg5)) _ _ _ ⟨t.val, t.isLt⟩ 1
    (fun s k => blk1 m c t s k) (fun l k => ?_) (fun l k e => ?_) r _).trans ?_)
  · exact (blk2 m c t 1 l k).trans ((V_v6 m c 1 l k).trans ((if_neg Nat.one_ne_zero).trans (V_v3 m c l k)))
  · exact (blk3 m c t 1 l k e).trans (V_v32 m c 1 l k e)
  · unfold GV VR
    refine chunkOf_at _ _ _ _ _ _ _ _ _ _ _ ?_ rfl ?_ ?_
    · show t.val = (t.val * 2 + g.val) / 2; omega
    · show (128 * g.val + d.val) / 128 = (t.val * 2 + g.val) % 2; omega
    · show (128 * g.val + d.val) % 64 = d.val; omega

theorem flushed_eq4 (t : Fin cfg0.N) :
    (dats m 0 c).flushed 4 t = ((cfg0.win 4).blk t).view.read (Elt Ideal) (GK m c) := by
  rw [flushed4]
  funext (j : S128x256.Idx)
  obtain ⟨r, l, rfl⟩ : ∃ (r : Fin 128) (l : Fin 256), j = ix2 r l := ⟨j 0, j 1, eq_ix2 j⟩
  show (outsAt0 m c t).1 (ix2 r l) = GK m c (((cfg0.win 4).blk t).view.emb (ix2 r l))
  rw [emb4]
  exact key_block m c t r l

theorem flushed_eq5 (t : Fin cfg0.N) :
    (dats m 0 c).flushed 5 t = ((cfg0.win 5).blk t).view.read (Elt Ideal) (GV m c) := by
  rw [flushed5]
  funext (j : S2x64x128.Idx)
  obtain ⟨g, d, r, rfl⟩ : ∃ (g : Fin 2) (d : Fin 64) (r : Fin 128), j = ix3 g d r := ⟨j 0, j 1, j 2, eq_ix3 j⟩
  show (outsAt0 m c t).2 (ix3 g d r) = GV m c (((cfg0.win 5).blk t).view.emb (ix3 g d r))
  rw [emb5]
  exact val_block m c t g d r

theorem covered4 (i : S4096x256.Idx) :
    ∃ t : Fin cfg0.N, (cfg0.win 4).flush t = true ∧ i ∈ ((cfg0.win 4).blk t).view.set := by
  obtain ⟨a, l, rfl⟩ : ∃ (a : Fin 4096) (l : Fin 256), i = ix2 a l := ⟨i 0, i 1, eq_ix2 i⟩
  let t : Fin cfg0.N := ⟨a.val / 128, show a.val / 128 < 32 by omega⟩
  refine ⟨t, flush0_4 t, ?_⟩
  have h := ((cfg0.win 4).blk t).view.emb_mem_set (ix2 ⟨a.val % 128, Nat.mod_lt _ (by norm_num)⟩ l)
  rw [emb4] at h
  have ha : keyOf t ⟨a.val % 128, Nat.mod_lt _ (by norm_num)⟩ = a := Fin.ext (by show a.val / 128 * 128 + a.val % 128 = a.val; omega)
  rwa [ha] at h

theorem covered5 (i : S64x64x128.Idx) :
    ∃ t : Fin cfg0.N, (cfg0.win 5).flush t = true ∧ i ∈ ((cfg0.win 5).blk t).view.set := by
  obtain ⟨a, d, r, rfl⟩ : ∃ (a : Fin 64) (d : Fin 64) (r : Fin 128), i = ix3 a d r := ⟨i 0, i 1, i 2, eq_ix3 i⟩
  let t : Fin cfg0.N := ⟨a.val / 2, show a.val / 2 < 32 by omega⟩
  refine ⟨t, flush0_5 t, ?_⟩
  have h := ((cfg0.win 5).blk t).view.emb_mem_set (ix3 ⟨a.val % 2, Nat.mod_lt _ (by norm_num)⟩ d r)
  rw [emb5] at h
  have ha : slabOf t ⟨a.val % 2, Nat.mod_lt _ (by norm_num)⟩ = a := Fin.ext (by show a.val / 2 * 2 + a.val % 2 = a.val; omega)
  rwa [ha] at h

/-- After the run the first result array holds the compressed keys of the arguments, -/
theorem final4 : (dats m 0 c).arrAt 4 cfg0.N = GK m c :=
  (dats m 0 c).arrAt_eq_of_cover 4 (GK m c) (fun t _ => flushed_eq4 m c t) covered4

/-- and the second the compressed values. -/
theorem final5 : (dats m 0 c).arrAt 5 cfg0.N = GV m c :=
  (dats m 0 c).arrAt_eq_of_cover 5 (GV m c) (fun t _ => flushed_eq5 m c t) covered5

end Cert.Proof.Cmp

end
-- ==== Proof.CmpClaim.lean ====
/- The compression: the kernel and the reference end with equal results over the extended reals. -/
module

public import proofs.«01_k».proof.Defs
public import proofs.«01_k».proof.Proof.CmpRun

@[expose] public section

noncomputable section

namespace Cert.Proof.Cmp

open Idealize.ShloMosaic Idealize.ShloMosaic.TcCoe Idealize.SL.Sem

theorem claim : Cert.algebraic_CmpIdeal_CmpRefIdeal (hCmpIdeal := Cert.CmpIdeal.Gen.facts)
    (hCmpRefIdeal := Cert.CmpRefIdeal.Gen.facts) := by
  intro m ρ m' ρ' _ hag
  refine ⟨fun c => GK m c, fun c => GV m c, ?_, ?_⟩
  · exact (θ_run _ _ _).mono (fun r h c => ⟨(h c).1.trans (final4 m c), (h c).2.1.trans (final5 m c), (h c).2.2⟩) (CmpIdeal.Value.run_blocks m ρ)
  · refine (θ_run _ _ _).mono (fun r h c => ⟨(h c).1.trans ?_, (h c).2.1.trans ?_, (h c).2.2⟩) (CmpRefIdeal.Value.run m' ρ')
    · obtain ⟨h0, -, h2, -, h4, -⟩ := hag c
      rw [CmpRefIdeal.Read.val_main_v24_eq]
      funext j
      obtain ⟨t, l, rfl⟩ : ∃ (t : Fin 4096) (l : Fin 256), j = ix2 t l := ⟨j 0, j 1, eq_ix2 j⟩
      refine (refK _ _ _ t l).trans ?_
      show KR (m' ((c.tc : Thread CmpRefIdeal.nD CmpRefIdeal.τ).loc CmpRefIdeal.main_arg0)) (m' ((c.tc : Thread CmpRefIdeal.nD CmpRefIdeal.τ).loc CmpRefIdeal.main_arg2))
        (m' ((c.tc : Thread CmpRefIdeal.nD CmpRefIdeal.τ).loc CmpRefIdeal.main_arg4)) (ix2 t l) = GK m c (ix2 t l)
      unfold GK
      rw [← h0, ← h2, ← h4]
    · obtain ⟨-, h1, -, h3, -, h5⟩ := hag c
      rw [CmpRefIdeal.Read.val_main_v27_eq]
      funext j
      obtain ⟨a, d, r, rfl⟩ : ∃ (a : Fin 64) (d : Fin 64) (r : Fin 128), j = ix3 a d r := ⟨j 0, j 1, j 2, eq_ix3 j⟩
      refine (refV _ _ _ a d r).trans ?_
      show VR (m' ((c.tc : Thread CmpRefIdeal.nD CmpRefIdeal.τ).loc CmpRefIdeal.main_arg1)) (m' ((c.tc : Thread CmpRefIdeal.nD CmpRefIdeal.τ).loc CmpRefIdeal.main_arg3))
        (m' ((c.tc : Thread CmpRefIdeal.nD CmpRefIdeal.τ).loc CmpRefIdeal.main_arg5)) (ix3 a d r) = GV m c (ix3 a d r)
      unfold GV
      rw [← h1, ← h3, ← h5]

end Cert.Proof.Cmp

end
-- ==== Proof.lean ====
module

public import proofs.«01_k».proof.Defs
public import proofs.«01_k».proof.Proof.Gen.Merge.Frame
public import proofs.«01_k».proof.Proof.Gen.MergeIdeal.Frame
public import proofs.«01_k».proof.Proof.MergeClaim
public import proofs.«01_k».proof.Proof.Gen.Proj.Frame
public import proofs.«01_k».proof.Proof.Gen.ProjIdeal.Frame
public import proofs.«01_k».proof.Proof.ProjClaim
public import proofs.«01_k».proof.Proof.Gen.Pool.Frame
public import proofs.«01_k».proof.Proof.Gen.PoolIdeal.Frame
public import proofs.«01_k».proof.Proof.PoolClaim
public import proofs.«01_k».proof.Proof.Gen.Cmp.Frame
public import proofs.«01_k».proof.Proof.Gen.CmpIdeal.Frame
public import proofs.«01_k».proof.Proof.CmpClaim
public import Idealize.ShloMosaic.Lib.Quiescent

@[expose] public section

noncomputable section

namespace Cert.Proof

open Idealize.ShloMosaic Idealize.SL.Sem

/-- The reference's frame: its run read at the arguments; it declares no semaphore. -/
theorem frame_merge_ref : Cert.quiescent_MergeRefIdeal (hMergeRefIdeal := Cert.MergeRefIdeal.Gen.facts) := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

theorem frame_proj_ref : Cert.quiescent_ProjRefIdeal (hProjRefIdeal := Cert.ProjRefIdeal.Gen.facts) := fun m ρ _ =>
  (θ_run Cert.ProjRefIdeal.defs _ _).mono (fun r h => ⟨fun c => (h c).2.2.2.2.2.2.2.2.2.2.2.2.2.2.2,
      Idealize.ShloMosaic.sem_eq_zero_of_no_sems (by decide) r.2⟩)
    (Cert.ProjRefIdeal.Value.run (F := Ideal) m ρ)

theorem frame_pool_ref : Cert.quiescent_PoolRefIdeal (hPoolRefIdeal := Cert.PoolRefIdeal.Gen.facts) := fun m ρ _ =>
  (θ_run Cert.PoolRefIdeal.defs _ _).mono (fun r h => ⟨fun c => (h c).2,
      Idealize.ShloMosaic.sem_eq_zero_of_no_sems (by decide) r.2⟩)
    (Cert.PoolRefIdeal.Value.run (F := Ideal) m ρ)

theorem frame_cmp_ref : Cert.quiescent_CmpRefIdeal (hCmpRefIdeal := Cert.CmpRefIdeal.Gen.facts) := fun m ρ _ =>
  (θ_run Cert.CmpRefIdeal.defs _ _).mono (fun r h => ⟨fun c => (h c).2.2,
      Idealize.ShloMosaic.sem_eq_zero_of_no_sems (by decide) r.2⟩)
    (Cert.CmpRefIdeal.Value.run (F := Ideal) m ρ)

theorem claim : Cert.Claim := ⟨Cert.Merge.Gen.facts, Cert.MergeIdeal.Gen.facts, Cert.MergeRefIdeal.Gen.facts,
  Cert.Proj.Gen.facts, Cert.ProjIdeal.Gen.facts, Cert.ProjRefIdeal.Gen.facts,
  Cert.Pool.Gen.facts, Cert.PoolIdeal.Gen.facts, Cert.PoolRefIdeal.Gen.facts,
  Cert.Cmp.Gen.facts, Cert.CmpIdeal.Gen.facts, Cert.CmpRefIdeal.Gen.facts, Pool.pre_facts,
  fun m ρ _ => Cert.Merge.Gen.frame m ρ, fun m ρ _ => Cert.MergeIdeal.Gen.frame m ρ, frame_merge_ref,
  fun m ρ _ => Cert.Proj.Gen.frame m ρ, fun m ρ _ => Cert.ProjIdeal.Gen.frame m ρ, frame_proj_ref,
  fun m ρ _ => Cert.Pool.Gen.frame m ρ, fun m ρ _ => Cert.PoolIdeal.Gen.frame m ρ, fun m ρ _ => Cert.PoolIdeal.Gen.frame m ρ,
  frame_pool_ref, fun m ρ _ => frame_pool_ref m ρ trivial,
  fun m ρ _ => Cert.Cmp.Gen.frame m ρ, fun m ρ _ => Cert.CmpIdeal.Gen.frame m ρ, frame_cmp_ref,
  trivial, Merge.claim, trivial, Proj.claim, trivial, Pool.claim, trivial, Cmp.claim⟩

end Cert.Proof

end
